-- ==== Defs.lean ====
def Pre_Kernel (m : (ℓ : Loc Cert.Kernel.nD Cert.Kernel.τ Cert.Kernel.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v47) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v24)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v24) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v53_0)) (v1 : (c : Dev Cert.ProjIdeal.nD) → Buf (Elt Ideal) ((c.tc : Thread Cert.ProjIdeal.nD Cert.ProjIdeal.τ).loc Cert.ProjIdeal.main_v53_1)) (v2 : (c : Dev Cert.ProjIdeal.nD) → Buf (Elt Ideal) ((c.tc : Thread Cert.ProjIdeal.nD Cert.ProjIdeal.τ).loc Cert.ProjIdeal.main_v53_2)) (v3 : (c : Dev Cert.ProjIdeal.nD) → Buf (Elt Ideal) ((c.tc : Thread Cert.ProjIdeal.nD Cert.ProjIdeal.τ).loc Cert.ProjIdeal.main_v53_3)) (v4 : (c : Dev Cert.ProjIdeal.nD) → Buf (Elt Ideal) ((c.tc : Thread Cert.ProjIdeal.nD Cert.ProjIdeal.τ).loc Cert.ProjIdeal.main_v53_4)) (v5 : (c : Dev Cert.ProjIdeal.nD) → Buf (Elt Ideal) ((c.tc : Thread Cert.ProjIdeal.nD Cert.ProjIdeal.τ).loc Cert.ProjIdeal.main_v53_5)) (v6 : (c : Dev Cert.ProjIdeal.nD) → Buf (Elt Ideal) ((c.tc : Thread Cert.ProjIdeal.nD Cert.ProjIdeal.τ).loc Cert.ProjIdeal.main_v53_6)) (v7 : (c : Dev Cert.ProjIdeal.nD) → Buf (Elt Ideal) ((c.tc : Thread Cert.ProjIdeal.nD Cert.ProjIdeal.τ).loc Cert.ProjIdeal.main_v53_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v53_0) = v0 c
          ∧ r.2.mem ((c.tc : Thread Cert.ProjIdeal.nD Cert.ProjIdeal.τ).loc Cert.ProjIdeal.main_v53_1) = v1 c
          ∧ r.2.mem ((c.tc : Thread Cert.ProjIdeal.nD Cert.ProjIdeal.τ).loc Cert.ProjIdeal.main_v53_2) = v2 c
          ∧ r.2.mem ((c.tc : Thread Cert.ProjIdeal.nD Cert.ProjIdeal.τ).loc Cert.ProjIdeal.main_v53_3) = v3 c
          ∧ r.2.mem ((c.tc : Thread Cert.ProjIdeal.nD Cert.ProjIdeal.τ).loc Cert.ProjIdeal.main_v53_4) = v4 c
          ∧ r.2.mem ((c.tc : Thread Cert.ProjIdeal.nD Cert.ProjIdeal.τ).loc Cert.ProjIdeal.main_v53_5) = v5 c
          ∧ r.2.mem ((c.tc : Thread Cert.ProjIdeal.nD Cert.ProjIdeal.τ).loc Cert.ProjIdeal.main_v53_6) = v6 c
          ∧ r.2.mem ((c.tc : Thread Cert.ProjIdeal.nD Cert.ProjIdeal.τ).loc Cert.ProjIdeal.main_v53_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v113) = v0 c
          ∧ r.2.mem ((c.tc : Thread Cert.ProjRefIdeal.nD Cert.ProjRefIdeal.τ).loc Cert.ProjRefIdeal.main_v21) = v1 c
          ∧ r.2.mem ((c.tc : Thread Cert.ProjRefIdeal.nD Cert.ProjRefIdeal.τ).loc Cert.ProjRefIdeal.main_v116) = v2 c
          ∧ r.2.mem ((c.tc : Thread Cert.ProjRefIdeal.nD Cert.ProjRefIdeal.τ).loc Cert.ProjRefIdeal.main_v117) = v3 c
          ∧ r.2.mem ((c.tc : Thread Cert.ProjRefIdeal.nD Cert.ProjRefIdeal.τ).loc Cert.ProjRefIdeal.main_v118) = v4 c
          ∧ r.2.mem ((c.tc : Thread Cert.ProjRefIdeal.nD Cert.ProjRefIdeal.τ).loc Cert.ProjRefIdeal.main_v119) = v5 c
          ∧ r.2.mem ((c.tc : Thread Cert.ProjRefIdeal.nD Cert.ProjRefIdeal.τ).loc Cert.ProjRefIdeal.main_v121) = v6 c
          ∧ r.2.mem ((c.tc : Thread Cert.ProjRefIdeal.nD Cert.ProjRefIdeal.τ).loc Cert.ProjRefIdeal.main_v124) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def Claim : Prop :=
  ∃ (hKernel : Cert.Kernel.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts),
    quiescent_Kernel (hKernel := hKernel)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
-- ==== Kernel.lean ====
abbrev S8x8192x512 : Shape := ⟨3, ![8, 8192, 512]⟩
abbrev S8x8192x128 : Shape := ⟨3, ![8, 8192, 128]⟩
abbrev S8x16x128x512 : Shape := ⟨4, ![8, 16, 128, 512]⟩
abbrev S8x8192x256 : Shape := ⟨3, ![8, 8192, 256]⟩
abbrev S1x128x512 : Shape := ⟨3, ![1, 128, 512]⟩
abbrev S1x8192x128 : Shape := ⟨3, ![1, 8192, 128]⟩
abbrev S1x16x128x512 : Shape := ⟨4, ![1, 16, 128, 512]⟩
abbrev S1x128x256 : Shape := ⟨3, ![1, 128, 256]⟩
abbrev S1x128x128 : Shape := ⟨3, ![1, 128, 128]⟩
abbrev S16x512x128 : Shape := ⟨3, ![16, 512, 128]⟩
abbrev S32x264x128 : Shape := ⟨3, ![32, 264, 128]⟩
abbrev S256x128 : Shape := ⟨2, ![256, 128]⟩
abbrev S1x128 : Shape := ⟨2, ![1, 128]⟩
abbrev S256x1024 : Shape := ⟨2, ![256, 1024]⟩
abbrev S128x1024 : Shape := ⟨2, ![128, 1024]⟩
abbrev S8x128 : Shape := ⟨2, ![8, 128]⟩
abbrev S1x1024 : Shape := ⟨2, ![1, 1024]⟩
abbrev S80x1024 : Shape := ⟨2, ![80, 1024]⟩
abbrev S2x512x1024 : Shape := ⟨3, ![2, 512, 1024]⟩
abbrev S2x1x1024 : Shape := ⟨3, ![2, 1, 1024]⟩
abbrev S512x1024 : Shape := ⟨2, ![512, 1024]⟩
abbrev S64x1024 : Shape := ⟨2, ![64, 1024]⟩
abbrev S128x128 : Shape := ⟨2, ![128, 128]⟩
abbrev S64x128 : Shape := ⟨2, ![64, 128]⟩
abbrev S32x128 : Shape := ⟨2, ![32, 128]⟩
abbrev S512x128 : Shape := ⟨2, ![512, 128]⟩
abbrev S1x512x128 : Shape := ⟨3, ![1, 512, 128]⟩
abbrev S128x256 : Shape := ⟨2, ![128, 256]⟩
abbrev S512x256 : Shape := ⟨2, ![512, 256]⟩
abbrev S1x8x128 : Shape := ⟨3, ![1, 8, 128]⟩
abbrev S1x64x128 : Shape := ⟨3, ![1, 64, 128]⟩
abbrev S128 : Shape := ⟨1, ![128]⟩
abbrev S1x192x128 : Shape := ⟨3, ![1, 192, 128]⟩
abbrev S192x128 : Shape := ⟨2, ![192, 128]⟩
abbrev S1x256x128 : Shape := ⟨3, ![1, 256, 128]⟩
abbrev S1x1x128 : Shape := ⟨3, ![1, 1, 128]⟩
abbrev S1 : Shape := ⟨1, ![1]⟩
abbrev S1x1x1 : Shape := ⟨3, ![1, 1, 1]⟩
abbrev S16x512 : Shape := ⟨2, ![16, 512]⟩
abbrev S256x256 : Shape := ⟨2, ![256, 256]⟩
abbrev S1x512x256 : Shape := ⟨3, ![1, 512, 256]⟩
abbrev S256 : Shape := ⟨1, ![256]⟩
abbrev S1x256 : Shape := ⟨2, ![1, 256]⟩
abbrev S1x1x256 : Shape := ⟨3, ![1, 1, 256]⟩
abbrev S1x1x1024 : Shape := ⟨3, ![1, 1, 1024]⟩
abbrev S1x1x64x512 : Shape := ⟨4, ![1, 1, 64, 512]⟩
abbrev S64x512 : Shape := ⟨2, ![64, 512]⟩
abbrev S80x512 : Shape := ⟨2, ![80, 512]⟩
abbrev S32x256 : Shape := ⟨2, ![32, 256]⟩
abbrev S1x32x256 : Shape := ⟨3, ![1, 32, 256]⟩
abbrev S80x256 : Shape := ⟨2, ![80, 256]⟩

abbrev nBuf : Space → Nat
  | .hbm => 7
  | .vmem => 27
  | .smem => 0
  | _ => 0

abbrev bufTy : (tb : Table) → Fin (tcTables nBuf tb) → BufTy
  | .hbm, ⟨0, _⟩ => ⟨S8x8192x512, .bf16⟩
  | .hbm, ⟨1, _⟩ => ⟨S8x8192x128, .bf16⟩
  | .hbm, ⟨2, _⟩ => ⟨S8x16x128x512, .bf16⟩
  | .hbm, ⟨3, _⟩ => ⟨S8x8192x256, .bf16⟩
  | .hbm, ⟨4, _⟩ => ⟨S8x8192x128, .bf16⟩
  | .hbm, ⟨5, _⟩ => ⟨S8x8192x128, .f32⟩
  | .hbm, ⟨6, _⟩ => ⟨S8x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S1x128x256, .bf16⟩
  | .local _ .vmem, ⟨7, _⟩ => ⟨S1x128x256, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x128x128, .f32⟩
  | .local _ .vmem, ⟨11, _⟩ => ⟨S1x128x128, .f32⟩
  | .local _ .vmem, ⟨12, _⟩ => ⟨S1x128x512, .bf16⟩
  | .local _ .vmem, ⟨13, _⟩ => ⟨S1x128x512, .bf16⟩
  | .local _ .vmem, ⟨14, _⟩ => ⟨S16x512x128, .i32⟩
  | .local _ .vmem, ⟨15, _⟩ => ⟨S32x264x128, .i32⟩
  | .local _ .vmem, ⟨16, _⟩ => ⟨S256x128, .i32⟩
  | .local _ .vmem, ⟨17, _⟩ => ⟨S1x128, .i32⟩
  | .local _ .vmem, ⟨18, _⟩ => ⟨S1x128, .f32⟩
  | .local _ .vmem, ⟨19, _⟩ => ⟨S256x1024, .bf16⟩
  | .local _ .vmem, ⟨20, _⟩ => ⟨S128x1024, .bf16⟩
  | .local _ .vmem, ⟨21, _⟩ => ⟨S8x128, .f32⟩
  | .local _ .vmem, ⟨22, _⟩ => ⟨S1x1024, .f32⟩
  | .local _ .vmem, ⟨23, _⟩ => ⟨S80x1024, .f32⟩
  | .local _ .vmem, ⟨24, _⟩ => ⟨S2x512x1024, .f32⟩
  | .local _ .vmem, ⟨25, _⟩ => ⟨S2x1x1024, .f32⟩
  | .local _ .vmem, ⟨26, _⟩ => ⟨S512x1024, .bf16⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 64], ![false, false]⟩

def k0_mult1 : BitVec 32 :=
  let c0_i32_65 : BitVec 32 := 0#32
  c0_i32_65
@[reducible] def k0_t1_loop (i : grid0.Coords) : Scf.Loop 32 :=
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_105 : BitVec 32 := 1#32
  ⟨c0_i32_103, v248, c1_i32_105⟩
def k0_off1 (i : grid0.Coords) (k0_t1 : Fin (k0_t1_loop i).trips) : Fin 3 → Nat :=
  let c0_i32_103 : BitVec 32 := 0#32
  let c1_i32_105 : BitVec 32 := 1#32
  let arg22 : BitVec 32 := Scf.iv c0_i32_103 c1_i32_105 k0_t1
  let v2327 : Index := Scalar.indexCast arg22
  let c0_851 : Index := 0#32
  let c0_852 : Index := 0#32
  ![v2327.toNat, 0, 0]
def k0_mult2 (i : grid0.Coords) (k0_t1 : Fin (k0_t1_loop i).trips) : BitVec 32 :=
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let c0_i32_1095 : BitVec 32 := 0#32
  let v3084 : BitVec 32 := Scalar.addi v3083 c0_i32_1095
  let c8_i32_1096 : BitVec 32 := 8#32
  let v3085 : BitVec 32 := Scalar.muli v3084 c8_i32_1096
  v3085
def k0_off2 (i : grid0.Coords) (k0_t1 : Fin (k0_t1_loop i).trips) (c0_i32_1095 : BitVec 32) : Fin 3 → Nat :=
  let c0_1097 : Index := 0#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3087 : Index := Scalar.indexCast v3086
  let c0_1098 : Index := 0#32
  ![0, v3087.toNat, 0]
def k0_off3 (i : grid0.Coords) (k0_t1 : Fin (k0_t1_loop i).trips) (c0_i32_1095 : BitVec 32) : Fin 3 → Nat :=
  let c1_1099 : Index := 1#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3091 : Index := Scalar.indexCast v3086
  let c0_1100 : Index := 0#32
  ![1, v3091.toNat, 0]
def k0_off4 (i : grid0.Coords) (k0_t1 : Fin (k0_t1_loop i).trips) (c0_i32_1095 : BitVec 32) : Fin 3 → Nat :=
  let c2_1101 : Index := 2#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3095 : Index := Scalar.indexCast v3086
  let c0_1102 : Index := 0#32
  ![2, v3095.toNat, 0]
def k0_off5 (i : grid0.Coords) (k0_t1 : Fin (k0_t1_loop i).trips) (c0_i32_1095 : BitVec 32) : Fin 3 → Nat :=
  let c3_1103 : Index := 3#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3099 : Index := Scalar.indexCast v3086
  let c0_1104 : Index := 0#32
  ![3, v3099.toNat, 0]
def k0_off6 (i : grid0.Coords) (k0_t1 : Fin (k0_t1_loop i).trips) (c0_i32_1095 : BitVec 32) : Fin 3 → Nat :=
  let c4_1105 : Index := 4#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3103 : Index := Scalar.indexCast v3086
  let c0_1106 : Index := 0#32
  ![4, v3103.toNat, 0]
def k0_off7 (i : grid0.Coords) (k0_t1 : Fin (k0_t1_loop i).trips) (c0_i32_1095 : BitVec 32) : Fin 3 → Nat :=
  let c5_1107 : Index := 5#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3107 : Index := Scalar.indexCast v3086
  let c0_1108 : Index := 0#32
  ![5, v3107.toNat, 0]
def k0_off8 (i : grid0.Coords) (k0_t1 : Fin (k0_t1_loop i).trips) (c0_i32_1095 : BitVec 32) : Fin 3 → Nat :=
  let c6_1109 : Index := 6#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3111 : Index := Scalar.indexCast v3086
  let c0_1110 : Index := 0#32
  ![6, v3111.toNat, 0]
def k0_off9 (i : grid0.Coords) (k0_t1 : Fin (k0_t1_loop i).trips) (c0_i32_1095 : BitVec 32) : Fin 3 → Nat :=
  let c7_1111 : Index := 7#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3115 : Index := Scalar.indexCast v3086
  let c0_1112 : Index := 0#32
  ![7, v3115.toNat, 0]
def k0_off10 (i : grid0.Coords) (k0_t1 : Fin (k0_t1_loop i).trips) (c0_i32_1095 : BitVec 32) : Fin 3 → Nat :=
  let c8_1113 : Index := 8#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3119 : Index := Scalar.indexCast v3086
  let c0_1114 : Index := 0#32
  ![8, v3119.toNat, 0]
def k0_off11 (i : grid0.Coords) (k0_t1 : Fin (k0_t1_loop i).trips) (c0_i32_1095 : BitVec 32) : Fin 3 → Nat :=
  let c9_1115 : Index := 9#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3123 : Index := Scalar.indexCast v3086
  let c0_1116 : Index := 0#32
  ![9, v3123.toNat, 0]
def k0_off12 (i : grid0.Coords) (k0_t1 : Fin (k0_t1_loop i).trips) (c0_i32_1095 : BitVec 32) : Fin 3 → Nat :=
  let c10_1117 : Index := 10#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3127 : Index := Scalar.indexCast v3086
  let c0_1118 : Index := 0#32
  ![10, v3127.toNat, 0]
def k0_off13 (i : grid0.Coords) (k0_t1 : Fin (k0_t1_loop i).trips) (c0_i32_1095 : BitVec 32) : Fin 3 → Nat :=
  let c11_1119 : Index := 11#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3131 : Index := Scalar.indexCast v3086
  let c0_1120 : Index := 0#32
  ![11, v3131.toNat, 0]
def k0_off14 (i : grid0.Coords) (k0_t1 : Fin (k0_t1_loop i).trips) (c0_i32_1095 : BitVec 32) : Fin 3 → Nat :=
  let c12_1121 : Index := 12#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3135 : Index := Scalar.indexCast v3086
  let c0_1122 : Index := 0#32
  ![12, v3135.toNat, 0]
def k0_off15 (i : grid0.Coords) (k0_t1 : Fin (k0_t1_loop i).trips) (c0_i32_1095 : BitVec 32) : Fin 3 → Nat :=
  let c13_1123 : Index := 13#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3139 : Index := Scalar.indexCast v3086
  let c0_1124 : Index := 0#32
  ![13, v3139.toNat, 0]
def k0_off16 (i : grid0.Coords) (k0_t1 : Fin (k0_t1_loop i).trips) (c0_i32_1095 : BitVec 32) : Fin 3 → Nat :=
  let c14_1125 : Index := 14#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3143 : Index := Scalar.indexCast v3086
  let c0_1126 : Index := 0#32
  ![14, v3143.toNat, 0]
def k0_off17 (i : grid0.Coords) (k0_t1 : Fin (k0_t1_loop i).trips) (c0_i32_1095 : BitVec 32) : Fin 3 → Nat :=
  let c15_1127 : Index := 15#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3147 : Index := Scalar.indexCast v3086
  let c0_1128 : Index := 0#32
  ![15, v3147.toNat, 0]
def k0_off18 (i : grid0.Coords) (k0_t1 : Fin (k0_t1_loop i).trips) (c0_i32_1095 : BitVec 32) : Fin 3 → Nat :=
  let c16_1129 : Index := 16#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3151 : Index := Scalar.indexCast v3086
  let c0_1130 : Index := 0#32
  ![16, v3151.toNat, 0]
def k0_off19 (i : grid0.Coords) (k0_t1 : Fin (k0_t1_loop i).trips) (c0_i32_1095 : BitVec 32) : Fin 3 → Nat :=
  let c17_1131 : Index := 17#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3155 : Index := Scalar.indexCast v3086
  let c0_1132 : Index := 0#32
  ![17, v3155.toNat, 0]
def k0_off20 (i : grid0.Coords) (k0_t1 : Fin (k0_t1_loop i).trips) (c0_i32_1095 : BitVec 32) : Fin 3 → Nat :=
  let c18_1133 : Index := 18#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3159 : Index := Scalar.indexCast v3086
  let c0_1134 : Index := 0#32
  ![18, v3159.toNat, 0]
def k0_off21 (i : grid0.Coords) (k0_t1 : Fin (k0_t1_loop i).trips) (c0_i32_1095 : BitVec 32) : Fin 3 → Nat :=
  let c19_1135 : Index := 19#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3163 : Index := Scalar.indexCast v3086
  let c0_1136 : Index := 0#32
  ![19, v3163.toNat, 0]
def k0_off22 (i : grid0.Coords) (k0_t1 : Fin (k0_t1_loop i).trips) (c0_i32_1095 : BitVec 32) : Fin 3 → Nat :=
  let c20_1137 : Index := 20#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3167 : Index := Scalar.indexCast v3086
  let c0_1138 : Index := 0#32
  ![20, v3167.toNat, 0]
def k0_off23 (i : grid0.Coords) (k0_t1 : Fin (k0_t1_loop i).trips) (c0_i32_1095 : BitVec 32) : Fin 3 → Nat :=
  let c21_1139 : Index := 21#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3171 : Index := Scalar.indexCast v3086
  let c0_1140 : Index := 0#32
  ![21, v3171.toNat, 0]
def k0_off24 (i : grid0.Coords) (k0_t1 : Fin (k0_t1_loop i).trips) (c0_i32_1095 : BitVec 32) : Fin 3 → Nat :=
  let c22_1141 : Index := 22#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3175 : Index := Scalar.indexCast v3086
  let c0_1142 : Index := 0#32
  ![22, v3175.toNat, 0]
def k0_off25 (i : grid0.Coords) (k0_t1 : Fin (k0_t1_loop i).trips) (c0_i32_1095 : BitVec 32) : Fin 3 → Nat :=
  let c23_1143 : Index := 23#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3179 : Index := Scalar.indexCast v3086
  let c0_1144 : Index := 0#32
  ![23, v3179.toNat, 0]
def k0_off26 (i : grid0.Coords) (k0_t1 : Fin (k0_t1_loop i).trips) (c0_i32_1095 : BitVec 32) : Fin 3 → Nat :=
  let c24_1145 : Index := 24#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3183 : Index := Scalar.indexCast v3086
  let c0_1146 : Index := 0#32
  ![24, v3183.toNat, 0]
def k0_off27 (i : grid0.Coords) (k0_t1 : Fin (k0_t1_loop i).trips) (c0_i32_1095 : BitVec 32) : Fin 3 → Nat :=
  let c25_1147 : Index := 25#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3187 : Index := Scalar.indexCast v3086
  let c0_1148 : Index := 0#32
  ![25, v3187.toNat, 0]
def k0_off28 (i : grid0.Coords) (k0_t1 : Fin (k0_t1_loop i).trips) (c0_i32_1095 : BitVec 32) : Fin 3 → Nat :=
  let c26_1149 : Index := 26#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3191 : Index := Scalar.indexCast v3086
  let c0_1150 : Index := 0#32
  ![26, v3191.toNat, 0]
def k0_off29 (i : grid0.Coords) (k0_t1 : Fin (k0_t1_loop i).trips) (c0_i32_1095 : BitVec 32) : Fin 3 → Nat :=
  let c27_1151 : Index := 27#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3195 : Index := Scalar.indexCast v3086
  let c0_1152 : Index := 0#32
  ![27, v3195.toNat, 0]
def k0_off30 (i : grid0.Coords) (k0_t1 : Fin (k0_t1_loop i).trips) (c0_i32_1095 : BitVec 32) : Fin 3 → Nat :=
  let c28_1153 : Index := 28#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3199 : Index := Scalar.indexCast v3086
  let c0_1154 : Index := 0#32
  ![28, v3199.toNat, 0]
def k0_off31 (i : grid0.Coords) (k0_t1 : Fin (k0_t1_loop i).trips) (c0_i32_1095 : BitVec 32) : Fin 3 → Nat :=
  let c29_1155 : Index := 29#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3203 : Index := Scalar.indexCast v3086
  let c0_1156 : Index := 0#32
  ![29, v3203.toNat, 0]
def k0_off32 (i : grid0.Coords) (k0_t1 : Fin (k0_t1_loop i).trips) (c0_i32_1095 : BitVec 32) : Fin 3 → Nat :=
  let c30_1157 : Index := 30#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3207 : Index := Scalar.indexCast v3086
  let c0_1158 : Index := 0#32
  ![30, v3207.toNat, 0]
def k0_off33 (i : grid0.Coords) (k0_t1 : Fin (k0_t1_loop i).trips) (c0_i32_1095 : BitVec 32) : Fin 3 → Nat :=
  let c31_1159 : Index := 31#32
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3211 : Index := Scalar.indexCast v3086
  let c0_1160 : Index := 0#32
  ![31, v3211.toNat, 0]
def k0_off34 (i : grid0.Coords) (k0_t1 : Fin (k0_t1_loop i).trips) (c0_i32_1095 : BitVec 32) : Fin 2 → Nat :=
  let c0_i32_103 : BitVec 32 := 0#32
  let c1_i32_105 : BitVec 32 := 1#32
  let arg22 : BitVec 32 := Scf.iv c0_i32_103 c1_i32_105 k0_t1
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3237 : Index := Scalar.indexCast v3086
  let c0_1171 : Index := 0#32
  ![v3237.toNat, 0]
def k0_mult3 (i : grid0.Coords) (k0_t1 : Fin (k0_t1_loop i).trips) : BitVec 32 :=
  let c0_i32_103 : BitVec 32 := 0#32
  let c1_i32_105 : BitVec 32 := 1#32
  let arg22 : BitVec 32 := Scf.iv c0_i32_103 c1_i32_105 k0_t1
  let c2_i32_1413 : BitVec 32 := 2#32
  let v3994 : BitVec 32 := Scalar.muli arg22 c2_i32_1413
  let c1_i32_1414 : BitVec 32 := 1#32
  let v3995 : BitVec 32 := Scalar.addi v3994 c1_i32_1414
  let c8_i32_1415 : BitVec 32 := 8#32
  let v3996 : BitVec 32 := Scalar.muli v3995 c8_i32_1415
  v3996
def k0_mult4 (i : grid0.Coords) (k0_t1 : Fin (k0_t1_loop i).trips) : BitVec 32 :=
  let c0_i32_103 : BitVec 32 := 0#32
  let c1_i32_105 : BitVec 32 := 1#32
  let arg22 : BitVec 32 := Scf.iv c0_i32_103 c1_i32_105 k0_t1
  let c1_i32_1491 : BitVec 32 := 1#32
  let v4152 : BitVec 32 := Scalar.addi arg22 c1_i32_1491
  let c512_i32_1492 : BitVec 32 := 512#32
  let v4153 : BitVec 32 := Scalar.muli v4152 c512_i32_1492
  v4153
def k0_off35 (i : grid0.Coords) (k0_t1 : Fin (k0_t1_loop i).trips) : Fin 3 → Nat :=
  let c0_1493 : Index := 0#32
  let c0_i32_103 : BitVec 32 := 0#32
  let c1_i32_105 : BitVec 32 := 1#32
  let arg22 : BitVec 32 := Scf.iv c0_i32_103 c1_i32_105 k0_t1
  let c1_i32_1491 : BitVec 32 := 1#32
  let v4152 : BitVec 32 := Scalar.addi arg22 c1_i32_1491
  let c512_i32_1492 : BitVec 32 := 512#32
  let v4153 : BitVec 32 := Scalar.muli v4152 c512_i32_1492
  let v4154 : BitVec 32 := v4153
  let v4155 : Index := Scalar.indexCast v4154
  let c0_1494 : Index := 0#32
  ![0, v4155.toNat, 0]
def k0_off36 (i : grid0.Coords) (k0_t1 : Fin (k0_t1_loop i).trips) : Fin 3 → Nat :=
  let c0_i32_103 : BitVec 32 := 0#32
  let c1_i32_105 : BitVec 32 := 1#32
  let arg22 : BitVec 32 := Scf.iv c0_i32_103 c1_i32_105 k0_t1
  let c1_i32_1491 : BitVec 32 := 1#32
  let v4152 : BitVec 32 := Scalar.addi arg22 c1_i32_1491
  let v4237 : Index := Scalar.indexCast v4152
  let c0_1536 : Index := 0#32
  let c0_1537 : Index := 0#32
  ![v4237.toNat, 0, 0]
@[reducible] def k0_t2_loop (i : grid0.Coords) : Scf.Loop 32 :=
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let v245 : BitVec 32 := Scalar.addi c0_i32_103 v244
  let c1_i32_106 : BitVec 32 := 1#32
  ⟨v248, v245, c1_i32_106⟩
def k0_off37 (i : grid0.Coords) (k0_t2 : Fin (k0_t2_loop i).trips) : Fin 3 → Nat :=
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let v2327 : Index := Scalar.indexCast arg22
  let c0_851 : Index := 0#32
  let c0_852 : Index := 0#32
  ![v2327.toNat, 0, 0]
def k0_mult5 (i : grid0.Coords) (k0_t2 : Fin (k0_t2_loop i).trips) : BitVec 32 :=
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let c0_i32_1095 : BitVec 32 := 0#32
  let v3084 : BitVec 32 := Scalar.addi v3083 c0_i32_1095
  let c8_i32_1096 : BitVec 32 := 8#32
  let v3085 : BitVec 32 := Scalar.muli v3084 c8_i32_1096
  v3085
def k0_off38 (i : grid0.Coords) (k0_t2 : Fin (k0_t2_loop i).trips) (c0_i32_1095 : BitVec 32) : Fin 3 → Nat :=
  let c0_1097 : Index := 0#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3087 : Index := Scalar.indexCast v3086
  let c0_1098 : Index := 0#32
  ![0, v3087.toNat, 0]
def k0_off39 (i : grid0.Coords) (k0_t2 : Fin (k0_t2_loop i).trips) (c0_i32_1095 : BitVec 32) : Fin 3 → Nat :=
  let c1_1099 : Index := 1#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3091 : Index := Scalar.indexCast v3086
  let c0_1100 : Index := 0#32
  ![1, v3091.toNat, 0]
def k0_off40 (i : grid0.Coords) (k0_t2 : Fin (k0_t2_loop i).trips) (c0_i32_1095 : BitVec 32) : Fin 3 → Nat :=
  let c2_1101 : Index := 2#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3095 : Index := Scalar.indexCast v3086
  let c0_1102 : Index := 0#32
  ![2, v3095.toNat, 0]
def k0_off41 (i : grid0.Coords) (k0_t2 : Fin (k0_t2_loop i).trips) (c0_i32_1095 : BitVec 32) : Fin 3 → Nat :=
  let c3_1103 : Index := 3#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3099 : Index := Scalar.indexCast v3086
  let c0_1104 : Index := 0#32
  ![3, v3099.toNat, 0]
def k0_off42 (i : grid0.Coords) (k0_t2 : Fin (k0_t2_loop i).trips) (c0_i32_1095 : BitVec 32) : Fin 3 → Nat :=
  let c4_1105 : Index := 4#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3103 : Index := Scalar.indexCast v3086
  let c0_1106 : Index := 0#32
  ![4, v3103.toNat, 0]
def k0_off43 (i : grid0.Coords) (k0_t2 : Fin (k0_t2_loop i).trips) (c0_i32_1095 : BitVec 32) : Fin 3 → Nat :=
  let c5_1107 : Index := 5#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3107 : Index := Scalar.indexCast v3086
  let c0_1108 : Index := 0#32
  ![5, v3107.toNat, 0]
def k0_off44 (i : grid0.Coords) (k0_t2 : Fin (k0_t2_loop i).trips) (c0_i32_1095 : BitVec 32) : Fin 3 → Nat :=
  let c6_1109 : Index := 6#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3111 : Index := Scalar.indexCast v3086
  let c0_1110 : Index := 0#32
  ![6, v3111.toNat, 0]
def k0_off45 (i : grid0.Coords) (k0_t2 : Fin (k0_t2_loop i).trips) (c0_i32_1095 : BitVec 32) : Fin 3 → Nat :=
  let c7_1111 : Index := 7#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3115 : Index := Scalar.indexCast v3086
  let c0_1112 : Index := 0#32
  ![7, v3115.toNat, 0]
def k0_off46 (i : grid0.Coords) (k0_t2 : Fin (k0_t2_loop i).trips) (c0_i32_1095 : BitVec 32) : Fin 3 → Nat :=
  let c8_1113 : Index := 8#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3119 : Index := Scalar.indexCast v3086
  let c0_1114 : Index := 0#32
  ![8, v3119.toNat, 0]
def k0_off47 (i : grid0.Coords) (k0_t2 : Fin (k0_t2_loop i).trips) (c0_i32_1095 : BitVec 32) : Fin 3 → Nat :=
  let c9_1115 : Index := 9#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3123 : Index := Scalar.indexCast v3086
  let c0_1116 : Index := 0#32
  ![9, v3123.toNat, 0]
def k0_off48 (i : grid0.Coords) (k0_t2 : Fin (k0_t2_loop i).trips) (c0_i32_1095 : BitVec 32) : Fin 3 → Nat :=
  let c10_1117 : Index := 10#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3127 : Index := Scalar.indexCast v3086
  let c0_1118 : Index := 0#32
  ![10, v3127.toNat, 0]
def k0_off49 (i : grid0.Coords) (k0_t2 : Fin (k0_t2_loop i).trips) (c0_i32_1095 : BitVec 32) : Fin 3 → Nat :=
  let c11_1119 : Index := 11#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3131 : Index := Scalar.indexCast v3086
  let c0_1120 : Index := 0#32
  ![11, v3131.toNat, 0]
def k0_off50 (i : grid0.Coords) (k0_t2 : Fin (k0_t2_loop i).trips) (c0_i32_1095 : BitVec 32) : Fin 3 → Nat :=
  let c12_1121 : Index := 12#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3135 : Index := Scalar.indexCast v3086
  let c0_1122 : Index := 0#32
  ![12, v3135.toNat, 0]
def k0_off51 (i : grid0.Coords) (k0_t2 : Fin (k0_t2_loop i).trips) (c0_i32_1095 : BitVec 32) : Fin 3 → Nat :=
  let c13_1123 : Index := 13#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3139 : Index := Scalar.indexCast v3086
  let c0_1124 : Index := 0#32
  ![13, v3139.toNat, 0]
def k0_off52 (i : grid0.Coords) (k0_t2 : Fin (k0_t2_loop i).trips) (c0_i32_1095 : BitVec 32) : Fin 3 → Nat :=
  let c14_1125 : Index := 14#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3143 : Index := Scalar.indexCast v3086
  let c0_1126 : Index := 0#32
  ![14, v3143.toNat, 0]
def k0_off53 (i : grid0.Coords) (k0_t2 : Fin (k0_t2_loop i).trips) (c0_i32_1095 : BitVec 32) : Fin 3 → Nat :=
  let c15_1127 : Index := 15#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3147 : Index := Scalar.indexCast v3086
  let c0_1128 : Index := 0#32
  ![15, v3147.toNat, 0]
def k0_off54 (i : grid0.Coords) (k0_t2 : Fin (k0_t2_loop i).trips) (c0_i32_1095 : BitVec 32) : Fin 3 → Nat :=
  let c16_1129 : Index := 16#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3151 : Index := Scalar.indexCast v3086
  let c0_1130 : Index := 0#32
  ![16, v3151.toNat, 0]
def k0_off55 (i : grid0.Coords) (k0_t2 : Fin (k0_t2_loop i).trips) (c0_i32_1095 : BitVec 32) : Fin 3 → Nat :=
  let c17_1131 : Index := 17#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3155 : Index := Scalar.indexCast v3086
  let c0_1132 : Index := 0#32
  ![17, v3155.toNat, 0]
def k0_off56 (i : grid0.Coords) (k0_t2 : Fin (k0_t2_loop i).trips) (c0_i32_1095 : BitVec 32) : Fin 3 → Nat :=
  let c18_1133 : Index := 18#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3159 : Index := Scalar.indexCast v3086
  let c0_1134 : Index := 0#32
  ![18, v3159.toNat, 0]
def k0_off57 (i : grid0.Coords) (k0_t2 : Fin (k0_t2_loop i).trips) (c0_i32_1095 : BitVec 32) : Fin 3 → Nat :=
  let c19_1135 : Index := 19#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3163 : Index := Scalar.indexCast v3086
  let c0_1136 : Index := 0#32
  ![19, v3163.toNat, 0]
def k0_off58 (i : grid0.Coords) (k0_t2 : Fin (k0_t2_loop i).trips) (c0_i32_1095 : BitVec 32) : Fin 3 → Nat :=
  let c20_1137 : Index := 20#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3167 : Index := Scalar.indexCast v3086
  let c0_1138 : Index := 0#32
  ![20, v3167.toNat, 0]
def k0_off59 (i : grid0.Coords) (k0_t2 : Fin (k0_t2_loop i).trips) (c0_i32_1095 : BitVec 32) : Fin 3 → Nat :=
  let c21_1139 : Index := 21#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3171 : Index := Scalar.indexCast v3086
  let c0_1140 : Index := 0#32
  ![21, v3171.toNat, 0]
def k0_off60 (i : grid0.Coords) (k0_t2 : Fin (k0_t2_loop i).trips) (c0_i32_1095 : BitVec 32) : Fin 3 → Nat :=
  let c22_1141 : Index := 22#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3175 : Index := Scalar.indexCast v3086
  let c0_1142 : Index := 0#32
  ![22, v3175.toNat, 0]
def k0_off61 (i : grid0.Coords) (k0_t2 : Fin (k0_t2_loop i).trips) (c0_i32_1095 : BitVec 32) : Fin 3 → Nat :=
  let c23_1143 : Index := 23#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3179 : Index := Scalar.indexCast v3086
  let c0_1144 : Index := 0#32
  ![23, v3179.toNat, 0]
def k0_off62 (i : grid0.Coords) (k0_t2 : Fin (k0_t2_loop i).trips) (c0_i32_1095 : BitVec 32) : Fin 3 → Nat :=
  let c24_1145 : Index := 24#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3183 : Index := Scalar.indexCast v3086
  let c0_1146 : Index := 0#32
  ![24, v3183.toNat, 0]
def k0_off63 (i : grid0.Coords) (k0_t2 : Fin (k0_t2_loop i).trips) (c0_i32_1095 : BitVec 32) : Fin 3 → Nat :=
  let c25_1147 : Index := 25#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3187 : Index := Scalar.indexCast v3086
  let c0_1148 : Index := 0#32
  ![25, v3187.toNat, 0]
def k0_off64 (i : grid0.Coords) (k0_t2 : Fin (k0_t2_loop i).trips) (c0_i32_1095 : BitVec 32) : Fin 3 → Nat :=
  let c26_1149 : Index := 26#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3191 : Index := Scalar.indexCast v3086
  let c0_1150 : Index := 0#32
  ![26, v3191.toNat, 0]
def k0_off65 (i : grid0.Coords) (k0_t2 : Fin (k0_t2_loop i).trips) (c0_i32_1095 : BitVec 32) : Fin 3 → Nat :=
  let c27_1151 : Index := 27#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3195 : Index := Scalar.indexCast v3086
  let c0_1152 : Index := 0#32
  ![27, v3195.toNat, 0]
def k0_off66 (i : grid0.Coords) (k0_t2 : Fin (k0_t2_loop i).trips) (c0_i32_1095 : BitVec 32) : Fin 3 → Nat :=
  let c28_1153 : Index := 28#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3199 : Index := Scalar.indexCast v3086
  let c0_1154 : Index := 0#32
  ![28, v3199.toNat, 0]
def k0_off67 (i : grid0.Coords) (k0_t2 : Fin (k0_t2_loop i).trips) (c0_i32_1095 : BitVec 32) : Fin 3 → Nat :=
  let c29_1155 : Index := 29#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3203 : Index := Scalar.indexCast v3086
  let c0_1156 : Index := 0#32
  ![29, v3203.toNat, 0]
def k0_off68 (i : grid0.Coords) (k0_t2 : Fin (k0_t2_loop i).trips) (c0_i32_1095 : BitVec 32) : Fin 3 → Nat :=
  let c30_1157 : Index := 30#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3207 : Index := Scalar.indexCast v3086
  let c0_1158 : Index := 0#32
  ![30, v3207.toNat, 0]
def k0_off69 (i : grid0.Coords) (k0_t2 : Fin (k0_t2_loop i).trips) (c0_i32_1095 : BitVec 32) : Fin 3 → Nat :=
  let c31_1159 : Index := 31#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3211 : Index := Scalar.indexCast v3086
  let c0_1160 : Index := 0#32
  ![31, v3211.toNat, 0]
def k0_off70 (i : grid0.Coords) (k0_t2 : Fin (k0_t2_loop i).trips) (c0_i32_1095 : BitVec 32) : Fin 2 → Nat :=
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1094 : BitVec 32 := 2#32
  let v3083 : BitVec 32 := Scalar.muli arg22 c2_i32_1094
  let v3084 : BitVec 32 := Scalar.addi v3083 c0_i32_1095
  let c8_i32_1096 : BitVec 32 := 8#32
  let v3085 : BitVec 32 := Scalar.muli v3084 c8_i32_1096
  let v3086 : BitVec 32 := v3085
  let v3237 : Index := Scalar.indexCast v3086
  let c0_1171 : Index := 0#32
  ![v3237.toNat, 0]
def k0_mult6 (i : grid0.Coords) (k0_t2 : Fin (k0_t2_loop i).trips) : BitVec 32 :=
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c2_i32_1413 : BitVec 32 := 2#32
  let v3994 : BitVec 32 := Scalar.muli arg22 c2_i32_1413
  let c1_i32_1414 : BitVec 32 := 1#32
  let v3995 : BitVec 32 := Scalar.addi v3994 c1_i32_1414
  let c8_i32_1415 : BitVec 32 := 8#32
  let v3996 : BitVec 32 := Scalar.muli v3995 c8_i32_1415
  v3996
def k0_mult7 (i : grid0.Coords) (k0_t2 : Fin (k0_t2_loop i).trips) : BitVec 32 :=
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c1_i32_1491 : BitVec 32 := 1#32
  let v4152 : BitVec 32 := Scalar.addi arg22 c1_i32_1491
  let c512_i32_1492 : BitVec 32 := 512#32
  let v4153 : BitVec 32 := Scalar.muli v4152 c512_i32_1492
  v4153
def k0_off71 (i : grid0.Coords) (k0_t2 : Fin (k0_t2_loop i).trips) : Fin 3 → Nat :=
  let c0_1493 : Index := 0#32
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c1_i32_1491 : BitVec 32 := 1#32
  let v4152 : BitVec 32 := Scalar.addi arg22 c1_i32_1491
  let c512_i32_1492 : BitVec 32 := 512#32
  let v4153 : BitVec 32 := Scalar.muli v4152 c512_i32_1492
  let v4154 : BitVec 32 := v4153
  let v4155 : Index := Scalar.indexCast v4154
  let c0_1494 : Index := 0#32
  ![0, v4155.toNat, 0]
def k0_off72 (i : grid0.Coords) (k0_t2 : Fin (k0_t2_loop i).trips) : Fin 3 → Nat :=
  let c0_i32_103 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v244 : BitVec 32 := Scalar.subi v157 c0_i32_103
  let c1_i32_104 : BitVec 32 := 1#32
  let v246 : BitVec 32 := Scalar.divsi v244 c1_i32_104
  let v247 : BitVec 32 := Scalar.muli v246 c1_i32_104
  let v248 : BitVec 32 := Scalar.addi c0_i32_103 v247
  let c1_i32_106 : BitVec 32 := 1#32
  let arg22 : BitVec 32 := Scf.iv v248 c1_i32_106 k0_t2
  let c1_i32_1491 : BitVec 32 := 1#32
  let v4152 : BitVec 32 := Scalar.addi arg22 c1_i32_1491
  let v4237 : Index := Scalar.indexCast v4152
  let c0_1536 : Index := 0#32
  let c0_1537 : Index := 0#32
  ![v4237.toNat, 0, 0]
def k0_off73 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v250 : Index := Scalar.indexCast v157
  let c0_108 : Index := 0#32
  let c0_109 : Index := 0#32
  ![v250.toNat, 0, 0]
def k0_mult8 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let c0_i32_343 : BitVec 32 := 0#32
  let v1007 : BitVec 32 := Scalar.addi v1006 c0_i32_343
  let c8_i32_344 : BitVec 32 := 8#32
  let v1008 : BitVec 32 := Scalar.muli v1007 c8_i32_344
  v1008
def k0_off74 (i : grid0.Coords) (c0_i32_343 : BitVec 32) : Fin 3 → Nat :=
  let c0_345 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1010 : Index := Scalar.indexCast v1009
  let c0_346 : Index := 0#32
  ![0, v1010.toNat, 0]
def k0_off75 (i : grid0.Coords) (c0_i32_343 : BitVec 32) : Fin 3 → Nat :=
  let c1_347 : Index := 1#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1014 : Index := Scalar.indexCast v1009
  let c0_348 : Index := 0#32
  ![1, v1014.toNat, 0]
def k0_off76 (i : grid0.Coords) (c0_i32_343 : BitVec 32) : Fin 3 → Nat :=
  let c2_349 : Index := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1018 : Index := Scalar.indexCast v1009
  let c0_350 : Index := 0#32
  ![2, v1018.toNat, 0]
def k0_off77 (i : grid0.Coords) (c0_i32_343 : BitVec 32) : Fin 3 → Nat :=
  let c3_351 : Index := 3#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1022 : Index := Scalar.indexCast v1009
  let c0_352 : Index := 0#32
  ![3, v1022.toNat, 0]
def k0_off78 (i : grid0.Coords) (c0_i32_343 : BitVec 32) : Fin 3 → Nat :=
  let c4_353 : Index := 4#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1026 : Index := Scalar.indexCast v1009
  let c0_354 : Index := 0#32
  ![4, v1026.toNat, 0]
def k0_off79 (i : grid0.Coords) (c0_i32_343 : BitVec 32) : Fin 3 → Nat :=
  let c5_355 : Index := 5#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1030 : Index := Scalar.indexCast v1009
  let c0_356 : Index := 0#32
  ![5, v1030.toNat, 0]
def k0_off80 (i : grid0.Coords) (c0_i32_343 : BitVec 32) : Fin 3 → Nat :=
  let c6_357 : Index := 6#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1034 : Index := Scalar.indexCast v1009
  let c0_358 : Index := 0#32
  ![6, v1034.toNat, 0]
def k0_off81 (i : grid0.Coords) (c0_i32_343 : BitVec 32) : Fin 3 → Nat :=
  let c7_359 : Index := 7#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1038 : Index := Scalar.indexCast v1009
  let c0_360 : Index := 0#32
  ![7, v1038.toNat, 0]
def k0_off82 (i : grid0.Coords) (c0_i32_343 : BitVec 32) : Fin 3 → Nat :=
  let c8 : Index := 8#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1042 : Index := Scalar.indexCast v1009
  let c0_361 : Index := 0#32
  ![8, v1042.toNat, 0]
def k0_off83 (i : grid0.Coords) (c0_i32_343 : BitVec 32) : Fin 3 → Nat :=
  let c9 : Index := 9#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1046 : Index := Scalar.indexCast v1009
  let c0_362 : Index := 0#32
  ![9, v1046.toNat, 0]
def k0_off84 (i : grid0.Coords) (c0_i32_343 : BitVec 32) : Fin 3 → Nat :=
  let c10 : Index := 10#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1050 : Index := Scalar.indexCast v1009
  let c0_363 : Index := 0#32
  ![10, v1050.toNat, 0]
def k0_off85 (i : grid0.Coords) (c0_i32_343 : BitVec 32) : Fin 3 → Nat :=
  let c11 : Index := 11#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1054 : Index := Scalar.indexCast v1009
  let c0_364 : Index := 0#32
  ![11, v1054.toNat, 0]
def k0_off86 (i : grid0.Coords) (c0_i32_343 : BitVec 32) : Fin 3 → Nat :=
  let c12 : Index := 12#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1058 : Index := Scalar.indexCast v1009
  let c0_365 : Index := 0#32
  ![12, v1058.toNat, 0]
def k0_off87 (i : grid0.Coords) (c0_i32_343 : BitVec 32) : Fin 3 → Nat :=
  let c13 : Index := 13#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1062 : Index := Scalar.indexCast v1009
  let c0_366 : Index := 0#32
  ![13, v1062.toNat, 0]
def k0_off88 (i : grid0.Coords) (c0_i32_343 : BitVec 32) : Fin 3 → Nat :=
  let c14 : Index := 14#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1066 : Index := Scalar.indexCast v1009
  let c0_367 : Index := 0#32
  ![14, v1066.toNat, 0]
def k0_off89 (i : grid0.Coords) (c0_i32_343 : BitVec 32) : Fin 3 → Nat :=
  let c15 : Index := 15#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1070 : Index := Scalar.indexCast v1009
  let c0_368 : Index := 0#32
  ![15, v1070.toNat, 0]
def k0_off90 (i : grid0.Coords) (c0_i32_343 : BitVec 32) : Fin 3 → Nat :=
  let c16 : Index := 16#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1074 : Index := Scalar.indexCast v1009
  let c0_369 : Index := 0#32
  ![16, v1074.toNat, 0]
def k0_off91 (i : grid0.Coords) (c0_i32_343 : BitVec 32) : Fin 3 → Nat :=
  let c17 : Index := 17#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1078 : Index := Scalar.indexCast v1009
  let c0_370 : Index := 0#32
  ![17, v1078.toNat, 0]
def k0_off92 (i : grid0.Coords) (c0_i32_343 : BitVec 32) : Fin 3 → Nat :=
  let c18 : Index := 18#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1082 : Index := Scalar.indexCast v1009
  let c0_371 : Index := 0#32
  ![18, v1082.toNat, 0]
def k0_off93 (i : grid0.Coords) (c0_i32_343 : BitVec 32) : Fin 3 → Nat :=
  let c19 : Index := 19#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1086 : Index := Scalar.indexCast v1009
  let c0_372 : Index := 0#32
  ![19, v1086.toNat, 0]
def k0_off94 (i : grid0.Coords) (c0_i32_343 : BitVec 32) : Fin 3 → Nat :=
  let c20 : Index := 20#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1090 : Index := Scalar.indexCast v1009
  let c0_373 : Index := 0#32
  ![20, v1090.toNat, 0]
def k0_off95 (i : grid0.Coords) (c0_i32_343 : BitVec 32) : Fin 3 → Nat :=
  let c21 : Index := 21#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1094 : Index := Scalar.indexCast v1009
  let c0_374 : Index := 0#32
  ![21, v1094.toNat, 0]
def k0_off96 (i : grid0.Coords) (c0_i32_343 : BitVec 32) : Fin 3 → Nat :=
  let c22 : Index := 22#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1098 : Index := Scalar.indexCast v1009
  let c0_375 : Index := 0#32
  ![22, v1098.toNat, 0]
def k0_off97 (i : grid0.Coords) (c0_i32_343 : BitVec 32) : Fin 3 → Nat :=
  let c23 : Index := 23#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1102 : Index := Scalar.indexCast v1009
  let c0_376 : Index := 0#32
  ![23, v1102.toNat, 0]
def k0_off98 (i : grid0.Coords) (c0_i32_343 : BitVec 32) : Fin 3 → Nat :=
  let c24 : Index := 24#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1106 : Index := Scalar.indexCast v1009
  let c0_377 : Index := 0#32
  ![24, v1106.toNat, 0]
def k0_off99 (i : grid0.Coords) (c0_i32_343 : BitVec 32) : Fin 3 → Nat :=
  let c25 : Index := 25#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1110 : Index := Scalar.indexCast v1009
  let c0_378 : Index := 0#32
  ![25, v1110.toNat, 0]
def k0_off100 (i : grid0.Coords) (c0_i32_343 : BitVec 32) : Fin 3 → Nat :=
  let c26 : Index := 26#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1114 : Index := Scalar.indexCast v1009
  let c0_379 : Index := 0#32
  ![26, v1114.toNat, 0]
def k0_off101 (i : grid0.Coords) (c0_i32_343 : BitVec 32) : Fin 3 → Nat :=
  let c27 : Index := 27#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1118 : Index := Scalar.indexCast v1009
  let c0_380 : Index := 0#32
  ![27, v1118.toNat, 0]
def k0_off102 (i : grid0.Coords) (c0_i32_343 : BitVec 32) : Fin 3 → Nat :=
  let c28 : Index := 28#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1122 : Index := Scalar.indexCast v1009
  let c0_381 : Index := 0#32
  ![28, v1122.toNat, 0]
def k0_off103 (i : grid0.Coords) (c0_i32_343 : BitVec 32) : Fin 3 → Nat :=
  let c29 : Index := 29#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1126 : Index := Scalar.indexCast v1009
  let c0_382 : Index := 0#32
  ![29, v1126.toNat, 0]
def k0_off104 (i : grid0.Coords) (c0_i32_343 : BitVec 32) : Fin 3 → Nat :=
  let c30 : Index := 30#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1130 : Index := Scalar.indexCast v1009
  let c0_383 : Index := 0#32
  ![30, v1130.toNat, 0]
def k0_off105 (i : grid0.Coords) (c0_i32_343 : BitVec 32) : Fin 3 → Nat :=
  let c31 : Index := 31#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1134 : Index := Scalar.indexCast v1009
  let c0_384 : Index := 0#32
  ![31, v1134.toNat, 0]
def k0_off106 (i : grid0.Coords) (c0_i32_343 : BitVec 32) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_342 : BitVec 32 := 2#32
  let v1006 : BitVec 32 := Scalar.muli v157 c2_i32_342
  let v1007 : BitVec 32 := Scalar.addi v1006 c0_i32_343
  let c8_i32_344 : BitVec 32 := 8#32
  let v1008 : BitVec 32 := Scalar.muli v1007 c8_i32_344
  let v1009 : BitVec 32 := v1008
  let v1160 : Index := Scalar.indexCast v1009
  let c0_392 : Index := 0#32
  ![v1160.toNat, 0]
def k0_mult9 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let c2_i32_634 : BitVec 32 := 2#32
  let v1917 : BitVec 32 := Scalar.muli v157 c2_i32_634
  let c1_i32_635 : BitVec 32 := 1#32
  let v1918 : BitVec 32 := Scalar.addi v1917 c1_i32_635
  let c8_i32_636 : BitVec 32 := 8#32
  let v1919 : BitVec 32 := Scalar.muli v1918 c8_i32_636
  v1919
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_711 : BitVec 32 := 2#32
  let v2075 : BitVec 32 := Scalar.muli v20 c2_i32_711
  let c8_i32_712 : BitVec 32 := 8#32
  let v2076 : BitVec 32 := Scalar.muli v2075 c8_i32_712
  let c0_i32_713 : BitVec 32 := 0#32
  let v2077 : BitVec 1 := Scalar.cmpi .sgt v2076 c0_i32_713
  let c64_i32 : BitVec 32 := 64#32
  let v2078 : BitVec 1 := Scalar.cmpi .sle v2076 c64_i32
  let v2079 : BitVec 1 := Scalar.andi v2077 v2078
  let v2080 : BitVec 32 := Scalar.extui v2079
  let c0_i32_714 : BitVec 32 := 0#32
  let v2081 : BitVec 1 := Scalar.cmpi .ne v2080 c0_i32_714
  v2081

@[reducible] def k0_t3_loop : Scf.Loop 32 :=
  let c0_i32_852 : BitVec 32 := 0#32
  let c32_i32_853 : BitVec 32 := 32#32
  let v2328 : BitVec 32 := Scalar.addi c0_i32_852 c32_i32_853
  let c1_i32_854 : BitVec 32 := 1#32
  ⟨c0_i32_852, v2328, c1_i32_854⟩
def k0_off107 (k0_t3 : Fin k0_t3_loop.trips) : Fin 3 → Nat :=
  let c0_i32_852 : BitVec 32 := 0#32
  let c1_i32_854 : BitVec 32 := 1#32
  let arg22 : BitVec 32 := Scf.iv c0_i32_852 c1_i32_854 k0_t3
  let v2336 : Index := Scalar.indexCast arg22
  let c0_860 : Index := 0#32
  let c0_861 : Index := 0#32
  ![v2336.toNat, 0, 0]
def k0_cond3 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_711 : BitVec 32 := 2#32
  let v2075 : BitVec 32 := Scalar.muli v20 c2_i32_711
  let c8_i32_712 : BitVec 32 := 8#32
  let v2076 : BitVec 32 := Scalar.muli v2075 c8_i32_712
  let c64_i32_715 : BitVec 32 := 64#32
  let v2082 : BitVec 1 := Scalar.cmpi .sgt v2076 c64_i32_715
  let c128_i32_716 : BitVec 32 := 128#32
  let v2083 : BitVec 1 := Scalar.cmpi .sle v2076 c128_i32_716
  let v2084 : BitVec 1 := Scalar.andi v2082 v2083
  let v2085 : BitVec 32 := Scalar.extui v2084
  let c0_i32_717 : BitVec 32 := 0#32
  let v2086 : BitVec 1 := Scalar.cmpi .ne v2085 c0_i32_717
  v2086

@[reducible] def k0_t4_loop : Scf.Loop 32 :=
  let c0_i32_852 : BitVec 32 := 0#32
  let c32_i32_853 : BitVec 32 := 32#32
  let v2328 : BitVec 32 := Scalar.addi c0_i32_852 c32_i32_853
  let c1_i32_854 : BitVec 32 := 1#32
  ⟨c0_i32_852, v2328, c1_i32_854⟩
def k0_off108 (k0_t4 : Fin k0_t4_loop.trips) : Fin 3 → Nat :=
  let c0_i32_852 : BitVec 32 := 0#32
  let c1_i32_854 : BitVec 32 := 1#32
  let arg22 : BitVec 32 := Scf.iv c0_i32_852 c1_i32_854 k0_t4
  let v2336 : Index := Scalar.indexCast arg22
  let c0_860 : Index := 0#32
  let c0_861 : Index := 0#32
  ![v2336.toNat, 0, 0]
def k0_cond4 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_711 : BitVec 32 := 2#32
  let v2075 : BitVec 32 := Scalar.muli v20 c2_i32_711
  let c8_i32_712 : BitVec 32 := 8#32
  let v2076 : BitVec 32 := Scalar.muli v2075 c8_i32_712
  let c128_i32_718 : BitVec 32 := 128#32
  let v2087 : BitVec 1 := Scalar.cmpi .sgt v2076 c128_i32_718
  let c192_i32 : BitVec 32 := 192#32
  let v2088 : BitVec 1 := Scalar.cmpi .sle v2076 c192_i32
  let v2089 : BitVec 1 := Scalar.andi v2087 v2088
  let v2090 : BitVec 32 := Scalar.extui v2089
  let c0_i32_719 : BitVec 32 := 0#32
  let v2091 : BitVec 1 := Scalar.cmpi .ne v2090 c0_i32_719
  v2091

@[reducible] def k0_t5_loop : Scf.Loop 32 :=
  let c0_i32_852 : BitVec 32 := 0#32
  let c32_i32_853 : BitVec 32 := 32#32
  let v2328 : BitVec 32 := Scalar.addi c0_i32_852 c32_i32_853
  let c1_i32_854 : BitVec 32 := 1#32
  ⟨c0_i32_852, v2328, c1_i32_854⟩
def k0_off109 (k0_t5 : Fin k0_t5_loop.trips) : Fin 3 → Nat :=
  let c0_i32_852 : BitVec 32 := 0#32
  let c1_i32_854 : BitVec 32 := 1#32
  let arg22 : BitVec 32 := Scf.iv c0_i32_852 c1_i32_854 k0_t5
  let v2336 : Index := Scalar.indexCast arg22
  let c0_860 : Index := 0#32
  let c0_861 : Index := 0#32
  ![v2336.toNat, 0, 0]
def k0_cond5 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_711 : BitVec 32 := 2#32
  let v2075 : BitVec 32 := Scalar.muli v20 c2_i32_711
  let c8_i32_712 : BitVec 32 := 8#32
  let v2076 : BitVec 32 := Scalar.muli v2075 c8_i32_712
  let c192_i32_720 : BitVec 32 := 192#32
  let v2092 : BitVec 1 := Scalar.cmpi .sgt v2076 c192_i32_720
  let c256_i32_721 : BitVec 32 := 256#32
  let v2093 : BitVec 1 := Scalar.cmpi .sle v2076 c256_i32_721
  let v2094 : BitVec 1 := Scalar.andi v2092 v2093
  let v2095 : BitVec 32 := Scalar.extui v2094
  let c0_i32_722 : BitVec 32 := 0#32
  let v2096 : BitVec 1 := Scalar.cmpi .ne v2095 c0_i32_722
  v2096

@[reducible] def k0_t6_loop : Scf.Loop 32 :=
  let c0_i32_852 : BitVec 32 := 0#32
  let c32_i32_853 : BitVec 32 := 32#32
  let v2328 : BitVec 32 := Scalar.addi c0_i32_852 c32_i32_853
  let c1_i32_854 : BitVec 32 := 1#32
  ⟨c0_i32_852, v2328, c1_i32_854⟩
def k0_off110 (k0_t6 : Fin k0_t6_loop.trips) : Fin 3 → Nat :=
  let c0_i32_852 : BitVec 32 := 0#32
  let c1_i32_854 : BitVec 32 := 1#32
  let arg22 : BitVec 32 := Scf.iv c0_i32_852 c1_i32_854 k0_t6
  let v2336 : Index := Scalar.indexCast arg22
  let c0_860 : Index := 0#32
  let c0_861 : Index := 0#32
  ![v2336.toNat, 0, 0]
@[reducible] def k0_t7_loop : Scf.Loop 32 :=
  let c0_i32_855 : BitVec 32 := 0#32
  let c13_i32 : BitVec 32 := 13#32
  let v2336 : BitVec 32 := Scalar.addi c0_i32_855 c13_i32
  let c1_i32_856 : BitVec 32 := 1#32
  ⟨c0_i32_855, v2336, c1_i32_856⟩
@[reducible] def k0_t8_loop (i : grid0.Coords) : Scf.Loop 32 :=
  let c0_i32_859 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2338 : BitVec 32 := Scalar.subi v20 c0_i32_859
  let c1_i32_860 : BitVec 32 := 1#32
  let v2340 : BitVec 32 := Scalar.divsi v2338 c1_i32_860
  let v2341 : BitVec 32 := Scalar.muli v2340 c1_i32_860
  let v2342 : BitVec 32 := Scalar.addi c0_i32_859 v2341
  let c1_i32_861 : BitVec 32 := 1#32
  ⟨c0_i32_859, v2342, c1_i32_861⟩
def k0_off111 (i : grid0.Coords) (k0_t8 : Fin (k0_t8_loop i).trips) : Fin 3 → Nat :=
  let c0_i32_859 : BitVec 32 := 0#32
  let c1_i32_861 : BitVec 32 := 1#32
  let arg22 : BitVec 32 := Scf.iv c0_i32_859 c1_i32_861 k0_t8
  let v2343 : Index := Scalar.indexCast arg22
  let c0_863 : Index := 0#32
  let c0_864 : Index := 0#32
  ![v2343.toNat, 0, 0]
@[reducible] def k0_t9_loop (i : grid0.Coords) : Scf.Loop 32 :=
  let c0_i32_859 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2338 : BitVec 32 := Scalar.subi v20 c0_i32_859
  let c1_i32_860 : BitVec 32 := 1#32
  let v2340 : BitVec 32 := Scalar.divsi v2338 c1_i32_860
  let v2341 : BitVec 32 := Scalar.muli v2340 c1_i32_860
  let v2342 : BitVec 32 := Scalar.addi c0_i32_859 v2341
  let v2339 : BitVec 32 := Scalar.addi c0_i32_859 v2338
  let c1_i32_862 : BitVec 32 := 1#32
  ⟨v2342, v2339, c1_i32_862⟩
def k0_off112 (i : grid0.Coords) (k0_t9 : Fin (k0_t9_loop i).trips) : Fin 3 → Nat :=
  let c0_i32_859 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2338 : BitVec 32 := Scalar.subi v20 c0_i32_859
  let c1_i32_860 : BitVec 32 := 1#32
  let v2340 : BitVec 32 := Scalar.divsi v2338 c1_i32_860
  let v2341 : BitVec 32 := Scalar.muli v2340 c1_i32_860
  let v2342 : BitVec 32 := Scalar.addi c0_i32_859 v2341
  let c1_i32_862 : BitVec 32 := 1#32
  let arg22 : BitVec 32 := Scf.iv v2342 c1_i32_862 k0_t9
  let v2343 : Index := Scalar.indexCast arg22
  let c0_863 : Index := 0#32
  let c0_864 : Index := 0#32
  ![v2343.toNat, 0, 0]
def k0_mult10 : BitVec 32 :=
  let c0_i32_743 : BitVec 32 := 0#32
  c0_i32_743
@[reducible] def k0_t10_loop (i : grid0.Coords) : Scf.Loop 32 :=
  let c0_i32_802 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_793 : BitVec 32 := 1#32
  let v2247 : BitVec 32 := Scalar.addi v20 c1_i32_793
  let c0_i32_795 : BitVec 32 := 0#32
  let v2249 : BitVec 1 := Scalar.cmpi .sgt v2247 c0_i32_795
  let v2250 : BitVec 32 := Scalar.extui v2249
  let c0_i32_796 : BitVec 32 := 0#32
  let v2251 : BitVec 1 := Scalar.cmpi .slt v2247 c0_i32_796
  let v2252 : BitVec 32 := Scalar.extui v2251
  let v2253 : BitVec 32 := Scalar.subi v2250 v2252
  let c2_i32_794 : BitVec 32 := 2#32
  let c0_i32_797 : BitVec 32 := 0#32
  let v2254 : BitVec 1 := Scalar.cmpi .sgt c2_i32_794 c0_i32_797
  let v2255 : BitVec 32 := Scalar.extui v2254
  let c0_i32_798 : BitVec 32 := 0#32
  let v2256 : BitVec 1 := Scalar.cmpi .slt c2_i32_794 c0_i32_798
  let v2257 : BitVec 32 := Scalar.extui v2256
  let v2258 : BitVec 32 := Scalar.subi v2255 v2257
  let v2259 : BitVec 1 := Scalar.cmpi .ne v2253 v2258
  let v2260 : BitVec 32 := Scalar.remsi v2247 c2_i32_794
  let c0_i32_799 : BitVec 32 := 0#32
  let v2261 : BitVec 1 := Scalar.cmpi .ne v2260 c0_i32_799
  let v2262 : BitVec 1 := Scalar.andi v2259 v2261
  let v2248 : BitVec 32 := Scalar.divsi v2247 c2_i32_794
  let c1_i32_800 : BitVec 32 := 1#32
  let v2263 : BitVec 32 := Scalar.subi v2248 c1_i32_800
  let v2264 : BitVec 32 := Scalar.select v2262 v2263 v2248
  let v2265 : BitVec 32 := Scalar.subi v2264 c0_i32_802
  let c1_i32_803 : BitVec 32 := 1#32
  let v2267 : BitVec 32 := Scalar.divsi v2265 c1_i32_803
  let v2268 : BitVec 32 := Scalar.muli v2267 c1_i32_803
  let v2269 : BitVec 32 := Scalar.addi c0_i32_802 v2268
  let c1_i32_804 : BitVec 32 := 1#32
  ⟨c0_i32_802, v2269, c1_i32_804⟩
def k0_mult11 (i : grid0.Coords) (k0_t10 : Fin (k0_t10_loop i).trips) : BitVec 32 :=
  let c2_i32_850 : BitVec 32 := 2#32
  let c0_i32_802 : BitVec 32 := 0#32
  let c1_i32_804 : BitVec 32 := 1#32
  let arg22 : BitVec 32 := Scf.iv c0_i32_802 c1_i32_804 k0_t10
  let v2326 : BitVec 32 := Scalar.muli c2_i32_850 arg22
  let c1_i32_851 : BitVec 32 := 1#32
  let v2327 : BitVec 32 := Scalar.addi v2326 c1_i32_851
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v2328 : BitVec 32 := Scalar.minsi v2327 v157
  let c512_i32_853 : BitVec 32 := 512#32
  let v2331 : BitVec 32 := Scalar.muli v2328 c512_i32_853
  v2331
def k0_off113 (i : grid0.Coords) (k0_t10 : Fin (k0_t10_loop i).trips) (c1_i32_851 : BitVec 32) : Fin 3 → Nat :=
  let c0_854 : Index := 0#32
  let c2_i32_850 : BitVec 32 := 2#32
  let c0_i32_802 : BitVec 32 := 0#32
  let c1_i32_804 : BitVec 32 := 1#32
  let arg22 : BitVec 32 := Scf.iv c0_i32_802 c1_i32_804 k0_t10
  let v2326 : BitVec 32 := Scalar.muli c2_i32_850 arg22
  let v2327 : BitVec 32 := Scalar.addi v2326 c1_i32_851
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v2328 : BitVec 32 := Scalar.minsi v2327 v157
  let c512_i32_853 : BitVec 32 := 512#32
  let v2331 : BitVec 32 := Scalar.muli v2328 c512_i32_853
  let v2332 : BitVec 32 := v2331
  let v2333 : Index := Scalar.indexCast v2332
  let c0_855 : Index := 0#32
  ![0, v2333.toNat, 0]
def k0_off114 (i : grid0.Coords) (k0_t10 : Fin (k0_t10_loop i).trips) (c1_i32_851 : BitVec 32) : Fin 3 → Nat :=
  let c2_i32_850 : BitVec 32 := 2#32
  let c0_i32_802 : BitVec 32 := 0#32
  let c1_i32_804 : BitVec 32 := 1#32
  let arg22 : BitVec 32 := Scf.iv c0_i32_802 c1_i32_804 k0_t10
  let v2326 : BitVec 32 := Scalar.muli c2_i32_850 arg22
  let v2327 : BitVec 32 := Scalar.addi v2326 c1_i32_851
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v2328 : BitVec 32 := Scalar.minsi v2327 v157
  let v2337 : Index := Scalar.indexCast v2328
  let c0_858 : Index := 0#32
  let c0_859 : Index := 0#32
  ![v2337.toNat, 0, 0]
def k0_off115 (i : grid0.Coords) (k0_t10 : Fin (k0_t10_loop i).trips) : Fin 4 → Nat :=
  let c0_909 : Index := 0#32
  let c2_i32_850 : BitVec 32 := 2#32
  let c0_i32_802 : BitVec 32 := 0#32
  let c1_i32_804 : BitVec 32 := 1#32
  let arg22 : BitVec 32 := Scf.iv c0_i32_802 c1_i32_804 k0_t10
  let v2326 : BitVec 32 := Scalar.muli c2_i32_850 arg22
  let v2398 : Index := Scalar.indexCast v2326
  let c64_910 : Index := 64#32
  let c0_911 : Index := 0#32
  ![0, v2398.toNat, 64, 0]
def k0_mult12 (i : grid0.Coords) (k0_t10 : Fin (k0_t10_loop i).trips) : BitVec 32 :=
  let c2_i32_850 : BitVec 32 := 2#32
  let c0_i32_802 : BitVec 32 := 0#32
  let c1_i32_804 : BitVec 32 := 1#32
  let arg22 : BitVec 32 := Scf.iv c0_i32_802 c1_i32_804 k0_t10
  let v2326 : BitVec 32 := Scalar.muli c2_i32_850 arg22
  let c2_i32_1249 : BitVec 32 := 2#32
  let v2966 : BitVec 32 := Scalar.addi v2326 c2_i32_1249
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v2967 : BitVec 32 := Scalar.minsi v2966 v157
  let c512_i32_1251 : BitVec 32 := 512#32
  let v2970 : BitVec 32 := Scalar.muli v2967 c512_i32_1251
  v2970
def k0_off116 (i : grid0.Coords) (k0_t10 : Fin (k0_t10_loop i).trips) : Fin 4 → Nat :=
  let c0_1308 : Index := 0#32
  let c2_i32_850 : BitVec 32 := 2#32
  let c0_i32_802 : BitVec 32 := 0#32
  let c1_i32_804 : BitVec 32 := 1#32
  let arg22 : BitVec 32 := Scf.iv c0_i32_802 c1_i32_804 k0_t10
  let v2326 : BitVec 32 := Scalar.muli c2_i32_850 arg22
  let c1_i32_1300 : BitVec 32 := 1#32
  let v3028 : BitVec 32 := Scalar.addi v2326 c1_i32_1300
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_64 : BitVec 32 := 1#32
  let v157 : BitVec 32 := Scalar.subi v20 c1_i32_64
  let v3029 : BitVec 32 := Scalar.minsi v3028 v157
  let v3039 : Index := Scalar.indexCast v3029
  let c64_1309 : Index := 64#32
  let c0_1310 : Index := 0#32
  ![0, v3039.toNat, 64, 0]
@[reducible] def k0_t11_loop (i : grid0.Coords) : Scf.Loop 32 :=
  let c0_i32_802 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_793 : BitVec 32 := 1#32
  let v2247 : BitVec 32 := Scalar.addi v20 c1_i32_793
  let c0_i32_795 : BitVec 32 := 0#32
  let v2249 : BitVec 1 := Scalar.cmpi .sgt v2247 c0_i32_795
  let v2250 : BitVec 32 := Scalar.extui v2249
  let c0_i32_796 : BitVec 32 := 0#32
  let v2251 : BitVec 1 := Scalar.cmpi .slt v2247 c0_i32_796
  let v2252 : BitVec 32 := Scalar.extui v2251
  let v2253 : BitVec 32 := Scalar.subi v2250 v2252
  let c2_i32_794 : BitVec 32 := 2#32
  let c0_i32_797 : BitVec 32 := 0#32
  let v2254 : BitVec 1 := Scalar.cmpi .sgt c2_i32_794 c0_i32_797
  let v2255 : BitVec 32 := Scalar.extui v2254
  let c0_i32_798 : BitVec 32 := 0#32
  let v2256 : BitVec 1 := Scalar.cmpi .slt c2_i32_794 c0_i32_798
  let v2257 : BitVec 32 := Scalar.extui v2256
  let v2258 : BitVec 32 := Scalar.subi v2255 v2257
  let v2259 : BitVec 1 := Scalar.cmpi .ne v2253 v2258
  let v2260 : BitVec 32 := Scalar.remsi v2247 c2_i32_794
  let c0_i32_799 : BitVec 32 := 0#32
  let v2261 : BitVec 1 := Scalar.cmpi .ne v2260 c0_i32_799
  let v2262 : BitVec 1 := Scalar.andi v2259 v2261
  let v2248 : BitVec 32 := Scalar.divsi v2247 c2_i32_794
  let c1_i32_800 : BitVec 32 := 1#32
  let v2263 : BitVec 32 := Scalar.subi v2248 c1_i32_800
  let v2264 : BitVec 32 := Scalar.select v2262 v2263 v2248
  let v2265 : BitVec 32 := Scalar.subi v2264 c0_i32_802
  let c1_i32_803 : BitVec 32 := 1#32
  let v2267 : BitVec 32 := Scalar.divsi v2265 c1_i32_803
  let v2268 : BitVec 32 := Scalar.muli v2267 c1_i32_803
  let v2269 : BitVec 32 := Scalar.addi c0_i32_802 v2268
  let v2266 : BitVec 32 := Scalar.addi c0_i32_802 v2265
  let c1_i32_805 : BitVec 32 := 1#32
  ⟨v2269, v2266, c1_i32_805⟩
def k0_mult13 (i : grid0.Coords) (k0_t11 : Fin (k0_t11_loop i).trips) : BitVec 32 :=
  let c2_i32_850 : BitVec 32 := 2#32
  let c0_i32_802 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_793 : BitVec 32 := 1#32
  let v2247 : BitVec 32 := Scalar.addi v20 c1_i32_793
  let c0_i32_795 : BitVec 32 := 0#32
  let v2249 : BitVec 1 := Scalar.cmpi .sgt v2247 c0_i32_795
  let v2250 : BitVec 32 := Scalar.extui v2249
  let c0_i32_796 : BitVec 32 := 0#32
  let v2251 : BitVec 1 := Scalar.cmpi .slt v2247 c0_i32_796
  let v2252 : BitVec 32 := Scalar.extui v2251
  let v2253 : BitVec 32 := Scalar.subi v2250 v2252
  let c2_i32_794 : BitVec 32 := 2#32
  let c0_i32_797 : BitVec 32 := 0#32
  let v2254 : BitVec 1 := Scalar.cmpi .sgt c2_i32_794 c0_i32_797
  let v2255 : BitVec 32 := Scalar.extui v2254
  let c0_i32_798 : BitVec 32 := 0#32
  let v2256 : BitVec 1 := Scalar.cmpi .slt c2_i32_794 c0_i32_798
  let v2257 : BitVec 32 := Scalar.extui v2256
  let v2258 : BitVec 32 := Scalar.subi v2255 v2257
  let v2259 : BitVec 1 := Scalar.cmpi .ne v2253 v2258
  let v2260 : BitVec 32 := Scalar.remsi v2247 c2_i32_794
  let c0_i32_799 : BitVec 32 := 0#32
  let v2261 : BitVec 1 := Scalar.cmpi .ne v2260 c0_i32_799
  let v2262 : BitVec 1 := Scalar.andi v2259 v2261
  let v2248 : BitVec 32 := Scalar.divsi v2247 c2_i32_794
  let c1_i32_800 : BitVec 32 := 1#32
  let v2263 : BitVec 32 := Scalar.subi v2248 c1_i32_800
  let v2264 : BitVec 32 := Scalar.select v2262 v2263 v2248
  let v2265 : BitVec 32 := Scalar.subi v2264 c0_i32_802
  let c1_i32_803 : BitVec 32 := 1#32
  let v2267 : BitVec 32 := Scalar.divsi v2265 c1_i32_803
  let v2268 : BitVec 32 := Scalar.muli v2267 c1_i32_803
  let v2269 : BitVec 32 := Scalar.addi c0_i32_802 v2268
  let c1_i32_805 : BitVec 32 := 1#32
  let arg22 : BitVec 32 := Scf.iv v2269 c1_i32_805 k0_t11
  let v2326 : BitVec 32 := Scalar.muli c2_i32_850 arg22
  let c1_i32_851 : BitVec 32 := 1#32
  let v2327 : BitVec 32 := Scalar.addi v2326 c1_i32_851
  let c1_i32_64 : BitVec 32 := 1#32
  let v157 : BitVec 32 := Scalar.subi v20 c1_i32_64
  let v2328 : BitVec 32 := Scalar.minsi v2327 v157
  let c512_i32_853 : BitVec 32 := 512#32
  let v2331 : BitVec 32 := Scalar.muli v2328 c512_i32_853
  v2331
def k0_off117 (i : grid0.Coords) (k0_t11 : Fin (k0_t11_loop i).trips) (c1_i32_851 : BitVec 32) : Fin 3 → Nat :=
  let c0_854 : Index := 0#32
  let c2_i32_850 : BitVec 32 := 2#32
  let c0_i32_802 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_793 : BitVec 32 := 1#32
  let v2247 : BitVec 32 := Scalar.addi v20 c1_i32_793
  let c0_i32_795 : BitVec 32 := 0#32
  let v2249 : BitVec 1 := Scalar.cmpi .sgt v2247 c0_i32_795
  let v2250 : BitVec 32 := Scalar.extui v2249
  let c0_i32_796 : BitVec 32 := 0#32
  let v2251 : BitVec 1 := Scalar.cmpi .slt v2247 c0_i32_796
  let v2252 : BitVec 32 := Scalar.extui v2251
  let v2253 : BitVec 32 := Scalar.subi v2250 v2252
  let c2_i32_794 : BitVec 32 := 2#32
  let c0_i32_797 : BitVec 32 := 0#32
  let v2254 : BitVec 1 := Scalar.cmpi .sgt c2_i32_794 c0_i32_797
  let v2255 : BitVec 32 := Scalar.extui v2254
  let c0_i32_798 : BitVec 32 := 0#32
  let v2256 : BitVec 1 := Scalar.cmpi .slt c2_i32_794 c0_i32_798
  let v2257 : BitVec 32 := Scalar.extui v2256
  let v2258 : BitVec 32 := Scalar.subi v2255 v2257
  let v2259 : BitVec 1 := Scalar.cmpi .ne v2253 v2258
  let v2260 : BitVec 32 := Scalar.remsi v2247 c2_i32_794
  let c0_i32_799 : BitVec 32 := 0#32
  let v2261 : BitVec 1 := Scalar.cmpi .ne v2260 c0_i32_799
  let v2262 : BitVec 1 := Scalar.andi v2259 v2261
  let v2248 : BitVec 32 := Scalar.divsi v2247 c2_i32_794
  let c1_i32_800 : BitVec 32 := 1#32
  let v2263 : BitVec 32 := Scalar.subi v2248 c1_i32_800
  let v2264 : BitVec 32 := Scalar.select v2262 v2263 v2248
  let v2265 : BitVec 32 := Scalar.subi v2264 c0_i32_802
  let c1_i32_803 : BitVec 32 := 1#32
  let v2267 : BitVec 32 := Scalar.divsi v2265 c1_i32_803
  let v2268 : BitVec 32 := Scalar.muli v2267 c1_i32_803
  let v2269 : BitVec 32 := Scalar.addi c0_i32_802 v2268
  let c1_i32_805 : BitVec 32 := 1#32
  let arg22 : BitVec 32 := Scf.iv v2269 c1_i32_805 k0_t11
  let v2326 : BitVec 32 := Scalar.muli c2_i32_850 arg22
  let v2327 : BitVec 32 := Scalar.addi v2326 c1_i32_851
  let c1_i32_64 : BitVec 32 := 1#32
  let v157 : BitVec 32 := Scalar.subi v20 c1_i32_64
  let v2328 : BitVec 32 := Scalar.minsi v2327 v157
  let c512_i32_853 : BitVec 32 := 512#32
  let v2331 : BitVec 32 := Scalar.muli v2328 c512_i32_853
  let v2332 : BitVec 32 := v2331
  let v2333 : Index := Scalar.indexCast v2332
  let c0_855 : Index := 0#32
  ![0, v2333.toNat, 0]
def k0_off118 (i : grid0.Coords) (k0_t11 : Fin (k0_t11_loop i).trips) (c1_i32_851 : BitVec 32) : Fin 3 → Nat :=
  let c2_i32_850 : BitVec 32 := 2#32
  let c0_i32_802 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_793 : BitVec 32 := 1#32
  let v2247 : BitVec 32 := Scalar.addi v20 c1_i32_793
  let c0_i32_795 : BitVec 32 := 0#32
  let v2249 : BitVec 1 := Scalar.cmpi .sgt v2247 c0_i32_795
  let v2250 : BitVec 32 := Scalar.extui v2249
  let c0_i32_796 : BitVec 32 := 0#32
  let v2251 : BitVec 1 := Scalar.cmpi .slt v2247 c0_i32_796
  let v2252 : BitVec 32 := Scalar.extui v2251
  let v2253 : BitVec 32 := Scalar.subi v2250 v2252
  let c2_i32_794 : BitVec 32 := 2#32
  let c0_i32_797 : BitVec 32 := 0#32
  let v2254 : BitVec 1 := Scalar.cmpi .sgt c2_i32_794 c0_i32_797
  let v2255 : BitVec 32 := Scalar.extui v2254
  let c0_i32_798 : BitVec 32 := 0#32
  let v2256 : BitVec 1 := Scalar.cmpi .slt c2_i32_794 c0_i32_798
  let v2257 : BitVec 32 := Scalar.extui v2256
  let v2258 : BitVec 32 := Scalar.subi v2255 v2257
  let v2259 : BitVec 1 := Scalar.cmpi .ne v2253 v2258
  let v2260 : BitVec 32 := Scalar.remsi v2247 c2_i32_794
  let c0_i32_799 : BitVec 32 := 0#32
  let v2261 : BitVec 1 := Scalar.cmpi .ne v2260 c0_i32_799
  let v2262 : BitVec 1 := Scalar.andi v2259 v2261
  let v2248 : BitVec 32 := Scalar.divsi v2247 c2_i32_794
  let c1_i32_800 : BitVec 32 := 1#32
  let v2263 : BitVec 32 := Scalar.subi v2248 c1_i32_800
  let v2264 : BitVec 32 := Scalar.select v2262 v2263 v2248
  let v2265 : BitVec 32 := Scalar.subi v2264 c0_i32_802
  let c1_i32_803 : BitVec 32 := 1#32
  let v2267 : BitVec 32 := Scalar.divsi v2265 c1_i32_803
  let v2268 : BitVec 32 := Scalar.muli v2267 c1_i32_803
  let v2269 : BitVec 32 := Scalar.addi c0_i32_802 v2268
  let c1_i32_805 : BitVec 32 := 1#32
  let arg22 : BitVec 32 := Scf.iv v2269 c1_i32_805 k0_t11
  let v2326 : BitVec 32 := Scalar.muli c2_i32_850 arg22
  let v2327 : BitVec 32 := Scalar.addi v2326 c1_i32_851
  let c1_i32_64 : BitVec 32 := 1#32
  let v157 : BitVec 32 := Scalar.subi v20 c1_i32_64
  let v2328 : BitVec 32 := Scalar.minsi v2327 v157
  let v2337 : Index := Scalar.indexCast v2328
  let c0_858 : Index := 0#32
  let c0_859 : Index := 0#32
  ![v2337.toNat, 0, 0]
def k0_off119 (i : grid0.Coords) (k0_t11 : Fin (k0_t11_loop i).trips) : Fin 4 → Nat :=
  let c0_909 : Index := 0#32
  let c2_i32_850 : BitVec 32 := 2#32
  let c0_i32_802 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_793 : BitVec 32 := 1#32
  let v2247 : BitVec 32 := Scalar.addi v20 c1_i32_793
  let c0_i32_795 : BitVec 32 := 0#32
  let v2249 : BitVec 1 := Scalar.cmpi .sgt v2247 c0_i32_795
  let v2250 : BitVec 32 := Scalar.extui v2249
  let c0_i32_796 : BitVec 32 := 0#32
  let v2251 : BitVec 1 := Scalar.cmpi .slt v2247 c0_i32_796
  let v2252 : BitVec 32 := Scalar.extui v2251
  let v2253 : BitVec 32 := Scalar.subi v2250 v2252
  let c2_i32_794 : BitVec 32 := 2#32
  let c0_i32_797 : BitVec 32 := 0#32
  let v2254 : BitVec 1 := Scalar.cmpi .sgt c2_i32_794 c0_i32_797
  let v2255 : BitVec 32 := Scalar.extui v2254
  let c0_i32_798 : BitVec 32 := 0#32
  let v2256 : BitVec 1 := Scalar.cmpi .slt c2_i32_794 c0_i32_798
  let v2257 : BitVec 32 := Scalar.extui v2256
  let v2258 : BitVec 32 := Scalar.subi v2255 v2257
  let v2259 : BitVec 1 := Scalar.cmpi .ne v2253 v2258
  let v2260 : BitVec 32 := Scalar.remsi v2247 c2_i32_794
  let c0_i32_799 : BitVec 32 := 0#32
  let v2261 : BitVec 1 := Scalar.cmpi .ne v2260 c0_i32_799
  let v2262 : BitVec 1 := Scalar.andi v2259 v2261
  let v2248 : BitVec 32 := Scalar.divsi v2247 c2_i32_794
  let c1_i32_800 : BitVec 32 := 1#32
  let v2263 : BitVec 32 := Scalar.subi v2248 c1_i32_800
  let v2264 : BitVec 32 := Scalar.select v2262 v2263 v2248
  let v2265 : BitVec 32 := Scalar.subi v2264 c0_i32_802
  let c1_i32_803 : BitVec 32 := 1#32
  let v2267 : BitVec 32 := Scalar.divsi v2265 c1_i32_803
  let v2268 : BitVec 32 := Scalar.muli v2267 c1_i32_803
  let v2269 : BitVec 32 := Scalar.addi c0_i32_802 v2268
  let c1_i32_805 : BitVec 32 := 1#32
  let arg22 : BitVec 32 := Scf.iv v2269 c1_i32_805 k0_t11
  let v2326 : BitVec 32 := Scalar.muli c2_i32_850 arg22
  let v2398 : Index := Scalar.indexCast v2326
  let c64_910 : Index := 64#32
  let c0_911 : Index := 0#32
  ![0, v2398.toNat, 64, 0]
def k0_mult14 (i : grid0.Coords) (k0_t11 : Fin (k0_t11_loop i).trips) : BitVec 32 :=
  let c2_i32_850 : BitVec 32 := 2#32
  let c0_i32_802 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_793 : BitVec 32 := 1#32
  let v2247 : BitVec 32 := Scalar.addi v20 c1_i32_793
  let c0_i32_795 : BitVec 32 := 0#32
  let v2249 : BitVec 1 := Scalar.cmpi .sgt v2247 c0_i32_795
  let v2250 : BitVec 32 := Scalar.extui v2249
  let c0_i32_796 : BitVec 32 := 0#32
  let v2251 : BitVec 1 := Scalar.cmpi .slt v2247 c0_i32_796
  let v2252 : BitVec 32 := Scalar.extui v2251
  let v2253 : BitVec 32 := Scalar.subi v2250 v2252
  let c2_i32_794 : BitVec 32 := 2#32
  let c0_i32_797 : BitVec 32 := 0#32
  let v2254 : BitVec 1 := Scalar.cmpi .sgt c2_i32_794 c0_i32_797
  let v2255 : BitVec 32 := Scalar.extui v2254
  let c0_i32_798 : BitVec 32 := 0#32
  let v2256 : BitVec 1 := Scalar.cmpi .slt c2_i32_794 c0_i32_798
  let v2257 : BitVec 32 := Scalar.extui v2256
  let v2258 : BitVec 32 := Scalar.subi v2255 v2257
  let v2259 : BitVec 1 := Scalar.cmpi .ne v2253 v2258
  let v2260 : BitVec 32 := Scalar.remsi v2247 c2_i32_794
  let c0_i32_799 : BitVec 32 := 0#32
  let v2261 : BitVec 1 := Scalar.cmpi .ne v2260 c0_i32_799
  let v2262 : BitVec 1 := Scalar.andi v2259 v2261
  let v2248 : BitVec 32 := Scalar.divsi v2247 c2_i32_794
  let c1_i32_800 : BitVec 32 := 1#32
  let v2263 : BitVec 32 := Scalar.subi v2248 c1_i32_800
  let v2264 : BitVec 32 := Scalar.select v2262 v2263 v2248
  let v2265 : BitVec 32 := Scalar.subi v2264 c0_i32_802
  let c1_i32_803 : BitVec 32 := 1#32
  let v2267 : BitVec 32 := Scalar.divsi v2265 c1_i32_803
  let v2268 : BitVec 32 := Scalar.muli v2267 c1_i32_803
  let v2269 : BitVec 32 := Scalar.addi c0_i32_802 v2268
  let c1_i32_805 : BitVec 32 := 1#32
  let arg22 : BitVec 32 := Scf.iv v2269 c1_i32_805 k0_t11
  let v2326 : BitVec 32 := Scalar.muli c2_i32_850 arg22
  let c2_i32_1249 : BitVec 32 := 2#32
  let v2966 : BitVec 32 := Scalar.addi v2326 c2_i32_1249
  let c1_i32_64 : BitVec 32 := 1#32
  let v157 : BitVec 32 := Scalar.subi v20 c1_i32_64
  let v2967 : BitVec 32 := Scalar.minsi v2966 v157
  let c512_i32_1251 : BitVec 32 := 512#32
  let v2970 : BitVec 32 := Scalar.muli v2967 c512_i32_1251
  v2970
def k0_off120 (i : grid0.Coords) (k0_t11 : Fin (k0_t11_loop i).trips) : Fin 4 → Nat :=
  let c0_1308 : Index := 0#32
  let c2_i32_850 : BitVec 32 := 2#32
  let c0_i32_802 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_793 : BitVec 32 := 1#32
  let v2247 : BitVec 32 := Scalar.addi v20 c1_i32_793
  let c0_i32_795 : BitVec 32 := 0#32
  let v2249 : BitVec 1 := Scalar.cmpi .sgt v2247 c0_i32_795
  let v2250 : BitVec 32 := Scalar.extui v2249
  let c0_i32_796 : BitVec 32 := 0#32
  let v2251 : BitVec 1 := Scalar.cmpi .slt v2247 c0_i32_796
  let v2252 : BitVec 32 := Scalar.extui v2251
  let v2253 : BitVec 32 := Scalar.subi v2250 v2252
  let c2_i32_794 : BitVec 32 := 2#32
  let c0_i32_797 : BitVec 32 := 0#32
  let v2254 : BitVec 1 := Scalar.cmpi .sgt c2_i32_794 c0_i32_797
  let v2255 : BitVec 32 := Scalar.extui v2254
  let c0_i32_798 : BitVec 32 := 0#32
  let v2256 : BitVec 1 := Scalar.cmpi .slt c2_i32_794 c0_i32_798
  let v2257 : BitVec 32 := Scalar.extui v2256
  let v2258 : BitVec 32 := Scalar.subi v2255 v2257
  let v2259 : BitVec 1 := Scalar.cmpi .ne v2253 v2258
  let v2260 : BitVec 32 := Scalar.remsi v2247 c2_i32_794
  let c0_i32_799 : BitVec 32 := 0#32
  let v2261 : BitVec 1 := Scalar.cmpi .ne v2260 c0_i32_799
  let v2262 : BitVec 1 := Scalar.andi v2259 v2261
  let v2248 : BitVec 32 := Scalar.divsi v2247 c2_i32_794
  let c1_i32_800 : BitVec 32 := 1#32
  let v2263 : BitVec 32 := Scalar.subi v2248 c1_i32_800
  let v2264 : BitVec 32 := Scalar.select v2262 v2263 v2248
  let v2265 : BitVec 32 := Scalar.subi v2264 c0_i32_802
  let c1_i32_803 : BitVec 32 := 1#32
  let v2267 : BitVec 32 := Scalar.divsi v2265 c1_i32_803
  let v2268 : BitVec 32 := Scalar.muli v2267 c1_i32_803
  let v2269 : BitVec 32 := Scalar.addi c0_i32_802 v2268
  let c1_i32_805 : BitVec 32 := 1#32
  let arg22 : BitVec 32 := Scf.iv v2269 c1_i32_805 k0_t11
  let v2326 : BitVec 32 := Scalar.muli c2_i32_850 arg22
  let c1_i32_1300 : BitVec 32 := 1#32
  let v3028 : BitVec 32 := Scalar.addi v2326 c1_i32_1300
  let c1_i32_64 : BitVec 32 := 1#32
  let v157 : BitVec 32 := Scalar.subi v20 c1_i32_64
  let v3029 : BitVec 32 := Scalar.minsi v3028 v157
  let v3039 : Index := Scalar.indexCast v3029
  let c64_1309 : Index := 64#32
  let c0_1310 : Index := 0#32
  ![0, v3039.toNat, 64, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Merge.lean ====
abbrev S8x8192x1024 : Shape := ⟨3, ![8, 8192, 1024]⟩
abbrev S8x8192x512 : Shape := ⟨3, ![8, 8192, 512]⟩
abbrev S1024x2048 : Shape := ⟨2, ![1024, 2048]⟩
abbrev S2x512x1024 : Shape := ⟨3, ![2, 512, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S1024x2048, .f32⟩
  | .hbm, ⟨4, _⟩ => ⟨S2x512x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2048, .bf16⟩
  | .hbm, ⟨9, _⟩ => ⟨S2x512x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x2048, .bf16⟩
  | .local _ .vmem, ⟨7, _⟩ => ⟨S2x512x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S8x8192x1024 : Shape := ⟨3, ![8, 8192, 1024]⟩
abbrev S8x8192x512 : Shape := ⟨3, ![8, 8192, 512]⟩
abbrev S1024x2048 : Shape := ⟨2, ![1024, 2048]⟩
abbrev S2x512x1024 : Shape := ⟨3, ![2, 512, 1024]⟩
abbrev S1024x1024 : Shape := ⟨2, ![1024, 1024]⟩
abbrev S1024 : Shape := ⟨1, ![1024]⟩
abbrev S8x8192x2048 : Shape := ⟨3, ![8, 8192, 2048]⟩
abbrev S_ : Shape := ⟨0, ![]⟩
abbrev S1x512x1024 : Shape := ⟨3, ![1, 512, 1024]⟩
abbrev S512x1024 : Shape := ⟨2, ![512, 1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S1024x2048, .f32⟩
  | .hbm, ⟨4, _⟩ => ⟨S2x512x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S8x8192x512, .f32⟩
  | .hbm, ⟨9, _⟩ => ⟨S8x8192x512, .f32⟩
  | .hbm, ⟨10, _⟩ => ⟨S8x8192x2048, .f32⟩
  | .hbm, ⟨11, _⟩ => ⟨S8x8192x2048, .f32⟩
  | .hbm, ⟨12, _⟩ => ⟨S8x8192x2048, .f32⟩
  | .hbm, ⟨13, _⟩ => ⟨S_, .f32⟩
  | .hbm, ⟨14, _⟩ => ⟨S8x8192x2048, .f32⟩
  | .hbm, ⟨15, _⟩ => ⟨S8x8192x2048, .f32⟩
  | .hbm, ⟨16, _⟩ => ⟨S_, .f32⟩
  | .hbm, ⟨17, _⟩ => ⟨S8x8192x2048, .f32⟩
  | .hbm, ⟨18, _⟩ => ⟨S8x8192x2048, .f32⟩
  | .hbm, ⟨19, _⟩ => ⟨S1x512x1024, .f32⟩
  | .hbm, ⟨20, _⟩ => ⟨S512x1024, .f32⟩
  | .hbm, ⟨21, _⟩ => ⟨S8x8192x1024, .f32⟩
  | .hbm, ⟨22, _⟩ => ⟨S1x512x1024, .f32⟩
  | .hbm, ⟨23, _⟩ => ⟨S512x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S_, .f32⟩
  | .hbm, ⟨39, _⟩ => ⟨S8x8192x1, .f32⟩
  | .hbm, ⟨40, _⟩ => ⟨S8x8192x1, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S_, .f32⟩
  | .hbm, ⟨45, _⟩ => ⟨S8x8192, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S8x8192x1024, .f32⟩
  | .hbm, ⟨51, _⟩ => ⟨S8x8192x1024, .f32⟩
  | .hbm, ⟨52, _⟩ => ⟨S_, .f32⟩
  | .hbm, ⟨53, _⟩ => ⟨S8x8192x1, .f32⟩
  | .hbm, ⟨54, _⟩ => ⟨S8x8192x1, .f32⟩
  | .hbm, ⟨55, _⟩ => ⟨S8x8192x1, .f32⟩
  | .hbm, ⟨56, _⟩ => ⟨S8x8192x1024, .f32⟩
  | .hbm, ⟨57, _⟩ => ⟨S8x8192x1024, .f32⟩
  | .hbm, ⟨58, _⟩ => ⟨S1x1x1024, .f32⟩
  | .hbm, ⟨59, _⟩ => ⟨S8x8192x1024, .f32⟩
  | .hbm, ⟨60, _⟩ => ⟨S8x8192x1024, .f32⟩
  | .hbm, ⟨61, _⟩ => ⟨S1x1x1024, .f32⟩
  | .hbm, ⟨62, _⟩ => ⟨S8x8192x1024, .f32⟩
  | .hbm, ⟨63, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Ffn.lean ====
abbrev S8x8192x1024 : Shape := ⟨3, ![8, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S_ : Shape := ⟨0, ![]⟩
abbrev S11x8x512 : Shape := ⟨3, ![11, 8, 512]⟩
abbrev S1x5632 : Shape := ⟨2, ![1, 5632]⟩
abbrev S1x2816 : Shape := ⟨2, ![1, 2816]⟩
abbrev S1x11x256 : Shape := ⟨3, ![1, 11, 256]⟩
abbrev S1x11x512 : Shape := ⟨3, ![1, 11, 512]⟩
abbrev S11x1x512 : Shape := ⟨3, ![11, 1, 512]⟩
abbrev S1x1024 : Shape := ⟨2, ![1, 1024]⟩
abbrev S1x512x1024 : Shape := ⟨3, ![1, 512, 1024]⟩
abbrev S2x520x512 : Shape := ⟨3, ![2, 520, 512]⟩
abbrev S11x512x256 : Shape := ⟨3, ![11, 512, 256]⟩
abbrev S512x1024 : Shape := ⟨2, ![512, 1024]⟩
abbrev S1x8x512 : Shape := ⟨3, ![1, 8, 512]⟩
abbrev S8x512 : Shape := ⟨2, ![8, 512]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S1x64x512 : Shape := ⟨3, ![1, 64, 512]⟩
abbrev S64x512 : Shape := ⟨2, ![64, 512]⟩
abbrev S64x256 : Shape := ⟨2, ![64, 256]⟩
abbrev S1x64x256 : Shape := ⟨3, ![1, 64, 256]⟩
abbrev S1x512x256 : Shape := ⟨3, ![1, 512, 256]⟩
abbrev S512x256 : Shape := ⟨2, ![512, 256]⟩
abbrev S512x2816 : Shape := ⟨2, ![512, 2816]⟩
abbrev S512 : Shape := ⟨1, ![512]⟩
abbrev S512x1 : Shape := ⟨2, ![512, 1]⟩

abbrev nBuf : Space → Nat
  | .hbm => 34
  | .vmem => 13
  | .smem => 0
  | _ => 0

abbrev bufTy : (tb : Table) → Fin (tcTables nBuf tb) → BufTy
  | .hbm, ⟨0, _⟩ => ⟨S8x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x11x256, .f32⟩
  | .hbm, ⟨9, _⟩ => ⟨S1024x2816, .f32⟩
  | .hbm, ⟨10, _⟩ => ⟨S1024x11x256, .f32⟩
  | .hbm, ⟨11, _⟩ => ⟨S1024x11x512, .f32⟩
  | .hbm, ⟨12, _⟩ => ⟨S11x1024x512, .f32⟩
  | .hbm, ⟨13, _⟩ => ⟨S11x1024x512, .bf16⟩
  | .hbm, ⟨14, _⟩ => ⟨S3x2816, .f32⟩
  | .hbm, ⟨15, _⟩ => ⟨S3x11x256, .f32⟩
  | .hbm, ⟨16, _⟩ => ⟨S3x2816, .f32⟩
  | .hbm, ⟨17, _⟩ => ⟨S3x11x256, .f32⟩
  | .hbm, ⟨18, _⟩ => ⟨S3x11x512, .f32⟩
  | .hbm, ⟨19, _⟩ => ⟨S11x3x512, .f32⟩
  | .hbm, ⟨20, _⟩ => ⟨S_, .i32⟩
  | .hbm, ⟨21, _⟩ => ⟨S_, .f32⟩
  | .hbm, ⟨22, _⟩ => ⟨S11x8x512, .f32⟩
  | .hbm, ⟨23, _⟩ => ⟨S1x5632, .f32⟩
  | .hbm, ⟨24, _⟩ => ⟨S1x2816, .f32⟩
  | .hbm, ⟨25, _⟩ => ⟨S1x11x256, .f32⟩
  | .hbm, ⟨26, _⟩ => ⟨S1x2816, .f32⟩
  | .hbm, ⟨27, _⟩ => ⟨S1x11x256, .f32⟩
  | .hbm, ⟨28, _⟩ => ⟨S1x11x512, .f32⟩
  | .hbm, ⟨29, _⟩ => ⟨S11x1x512, .f32⟩
  | .hbm, ⟨30, _⟩ => ⟨S2816x1024, .bf16⟩
  | .hbm, ⟨31, _⟩ => ⟨S1x1024, .f32⟩
  | .hbm, ⟨32, _⟩ => ⟨S1x1024, .f32⟩
  | .hbm, ⟨33, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S11x1024x512, .bf16⟩
  | .local _ .vmem, ⟨3, _⟩ => ⟨S11x8x512, .f32⟩
  | .local _ .vmem, ⟨4, _⟩ => ⟨S11x1x512, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S11x8x512, .f32⟩
  | .local _ .vmem, ⟨11, _⟩ => ⟨S2x520x512, .f32⟩
  | .local _ .vmem, ⟨12, _⟩ => ⟨S11x512x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S11x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S11x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S8x8192x1024 : Shape := ⟨3, ![8, 8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S8x8192x5632 : Shape := ⟨3, ![8, 8192, 5632]⟩
abbrev S_ : Shape := ⟨0, ![]⟩
abbrev S8x8194x5632 : Shape := ⟨3, ![8, 8194, 5632]⟩
abbrev S1x5632 : Shape := ⟨2, ![1, 5632]⟩
abbrev S1x1x5632 : Shape := ⟨3, ![1, 1, 5632]⟩
abbrev S8x8192x2816 : Shape := ⟨3, ![8, 8192, 2816]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S8x8192x5632, .f32⟩
  | .hbm, ⟨8, _⟩ => ⟨S_, .i32⟩
  | .hbm, ⟨9, _⟩ => ⟨S_, .f32⟩
  | .hbm, ⟨10, _⟩ => ⟨S8x8194x5632, .f32⟩
  | .hbm, ⟨11, _⟩ => ⟨S8x8192x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S8x8192x5632, .f32⟩
  | .hbm, ⟨16, _⟩ => ⟨S8x8192x5632, .f32⟩
  | .hbm, ⟨17, _⟩ => ⟨S1x1x5632, .f32⟩
  | .hbm, ⟨18, _⟩ => ⟨S8x8192x5632, .f32⟩
  | .hbm, ⟨19, _⟩ => ⟨S8x8192x5632, .f32⟩
  | .hbm, ⟨20, _⟩ => ⟨S8x8192x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S8x8192x5632, .f32⟩
  | .hbm, ⟨25, _⟩ => ⟨S8x8192x5632, .f32⟩
  | .hbm, ⟨26, _⟩ => ⟨S8x8192x5632, .f32⟩
  | .hbm, ⟨27, _⟩ => ⟨S8x8192x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S8x8192x5632, .f32⟩
  | .hbm, ⟨32, _⟩ => ⟨S8x8192x5632, .f32⟩
  | .hbm, ⟨33, _⟩ => ⟨S8x8192x5632, .f32⟩
  | .hbm, ⟨34, _⟩ => ⟨S8x8192x2816, .f32⟩
  | .hbm, ⟨35, _⟩ => ⟨S8x8192x2816, .f32⟩
  | .hbm, ⟨36, _⟩ => ⟨S8x8192x2816, .f32⟩
  | .hbm, ⟨37, _⟩ => ⟨S8x8192x2816, .f32⟩
  | .hbm, ⟨38, _⟩ => ⟨S_, .f32⟩
  | .hbm, ⟨39, _⟩ => ⟨S8x8192x2816, .f32⟩
  | .hbm, ⟨40, _⟩ => ⟨S8x8192x2816, .f32⟩
  | .hbm, ⟨41, _⟩ => ⟨S_, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S8x8192x2816, .f32⟩
  | .hbm, ⟨46, _⟩ => ⟨S8x8192x1024, .f32⟩
  | .hbm, ⟨47, _⟩ => ⟨S_, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S_, .f32⟩
  | .hbm, ⟨55, _⟩ => ⟨S8x8192x1, .f32⟩
  | .hbm, ⟨56, _⟩ => ⟨S8x8192x1, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x8192x1024, .f32⟩
  | .hbm, ⟨67, _⟩ => ⟨S8x8192x1024, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8x8192x1, .f32⟩
  | .hbm, ⟨72, _⟩ => ⟨S8x8192x1024, .f32⟩
  | .hbm, ⟨73, _⟩ => ⟨S8x8192x1024, .f32⟩
  | .hbm, ⟨74, _⟩ => ⟨S1x1x1024, .f32⟩
  | .hbm, ⟨75, _⟩ => ⟨S8x8192x1024, .f32⟩
  | .hbm, ⟨76, _⟩ => ⟨S8x8192x1024, .f32⟩
  | .hbm, ⟨77, _⟩ => ⟨S1x1x1024, .f32⟩
  | .hbm, ⟨78, _⟩ => ⟨S8x8192x1024, .f32⟩
  | .hbm, ⟨79, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_0 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Proj.lean ====
abbrev S8x8192x1024 : Shape := ⟨3, ![8, 8192, 1024]⟩
abbrev S1024x4536 : Shape := ⟨2, ![1024, 4536]⟩
abbrev S16x256 : Shape := ⟨2, ![16, 256]⟩
abbrev S256 : Shape := ⟨1, ![256]⟩
abbrev S8192x8 : Shape := ⟨2, ![8192, 8]⟩
abbrev S8192x4 : Shape := ⟨2, ![8192, 4]⟩
abbrev S1024x256 : Shape := ⟨2, ![1024, 256]⟩
abbrev S1024x512 : Shape := ⟨2, ![1024, 512]⟩
abbrev S1024x16 : Shape := ⟨2, ![1024, 16]⟩
abbrev S1024x64 : Shape := ⟨2, ![1024, 64]⟩
abbrev S1024x32 : Shape := ⟨2, ![1024, 32]⟩
abbrev S1024x8 : Shape := ⟨2, ![1024, 8]⟩
abbrev S1024x1536 : Shape := ⟨2, ![1024, 1536]⟩
abbrev S_ : Shape := ⟨0, ![]⟩
abbrev S1024x128 : Shape := ⟨2, ![1024, 128]⟩
abbrev S128x256 : Shape := ⟨2, ![128, 256]⟩
abbrev S1x256 : Shape := ⟨2, ![1, 256]⟩
abbrev S8192x48 : Shape := ⟨2, ![8192, 48]⟩
abbrev S8192x128 : Shape := ⟨2, ![8192, 128]⟩
abbrev S8192x24 : Shape := ⟨2, ![8192, 24]⟩
abbrev S1x8192x128 : Shape := ⟨3, ![1, 8192, 128]⟩
abbrev S2x8192x128 : Shape := ⟨3, ![2, 8192, 128]⟩
abbrev S8x8192x1536 : Shape := ⟨3, ![8, 8192, 1536]⟩
abbrev S8x8192x256 : Shape := ⟨3, ![8, 8192, 256]⟩
abbrev S8x8192x512 : Shape := ⟨3, ![8, 8192, 512]⟩
abbrev S8x8192x128 : Shape := ⟨3, ![8, 8192, 128]⟩
abbrev S8x16x128x512 : Shape := ⟨4, ![8, 16, 128, 512]⟩
abbrev S1x512x1024 : Shape := ⟨3, ![1, 512, 1024]⟩
abbrev S2x512x128 : Shape := ⟨3, ![2, 512, 128]⟩
abbrev S1x512x1536 : Shape := ⟨3, ![1, 512, 1536]⟩
abbrev S1x512x256 : Shape := ⟨3, ![1, 512, 256]⟩
abbrev S1x512x512 : Shape := ⟨3, ![1, 512, 512]⟩
abbrev S1x512x128 : Shape := ⟨3, ![1, 512, 128]⟩
abbrev S1x1x128x512 : Shape := ⟨4, ![1, 1, 128, 512]⟩
abbrev S512x1024 : Shape := ⟨2, ![512, 1024]⟩
abbrev S512x1536 : Shape := ⟨2, ![512, 1536]⟩
abbrev S512x256 : Shape := ⟨2, ![512, 256]⟩
abbrev S512x1280 : Shape := ⟨2, ![512, 1280]⟩
abbrev S1x512x1280 : Shape := ⟨3, ![1, 512, 1280]⟩
abbrev S512x128 : Shape := ⟨2, ![512, 128]⟩
abbrev S512x512 : Shape := ⟨2, ![512, 512]⟩
abbrev S128x512 : Shape := ⟨2, ![128, 512]⟩

abbrev nBuf : Space → Nat
  | .hbm => 87
  | .vmem => 33
  | .smem => 0
  | _ => 0

abbrev bufTy : (tb : Table) → Fin (tcTables nBuf tb) → BufTy
  | .hbm, ⟨0, _⟩ => ⟨S8x8192x1024, .f32⟩
  | .hbm, ⟨1, _⟩ => ⟨S1024x4536, .f32⟩
  | .hbm, ⟨2, _⟩ => ⟨S16x256, .f32⟩
  | .hbm, ⟨3, _⟩ => ⟨S256, .f32⟩
  | .hbm, ⟨4, _⟩ => ⟨S8192x8, .f32⟩
  | .hbm, ⟨5, _⟩ => ⟨S8192x8, .f32⟩
  | .hbm, ⟨6, _⟩ => ⟨S8192x4, .f32⟩
  | .hbm, ⟨7, _⟩ => ⟨S8192x4, .f32⟩
  | .hbm, ⟨8, _⟩ => ⟨S1024x256, .f32⟩
  | .hbm, ⟨9, _⟩ => ⟨S1024x256, .f32⟩
  | .hbm, ⟨10, _⟩ => ⟨S1024x512, .f32⟩
  | .hbm, ⟨11, _⟩ => ⟨S1024x16, .f32⟩
  | .hbm, ⟨12, _⟩ => ⟨S1024x512, .f32⟩
  | .hbm, ⟨13, _⟩ => ⟨S1024x512, .f32⟩
  | .hbm, ⟨14, _⟩ => ⟨S1024x64, .f32⟩
  | .hbm, ⟨15, _⟩ => ⟨S1024x64, .f32⟩
  | .hbm, ⟨16, _⟩ => ⟨S1024x256, .f32⟩
  | .hbm, ⟨17, _⟩ => ⟨S1024x32, .f32⟩
  | .hbm, ⟨18, _⟩ => ⟨S1024x8, .f32⟩
  | .hbm, ⟨19, _⟩ => ⟨S1024x1536, .f32⟩
  | .hbm, ⟨20, _⟩ => ⟨S1024x1536, .bf16⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x128, .bf16⟩
  | .hbm, ⟨25, _⟩ => ⟨S_, .i32⟩
  | .hbm, ⟨26, _⟩ => ⟨S_, .f32⟩
  | .hbm, ⟨27, _⟩ => ⟨S128x256, .f32⟩
  | .hbm, ⟨28, _⟩ => ⟨S128x256, .bf16⟩
  | .hbm, ⟨29, _⟩ => ⟨S1x256, .f32⟩
  | .hbm, ⟨30, _⟩ => ⟨S1024x512, .bf16⟩
  | .hbm, ⟨31, _⟩ => ⟨S1024x128, .f32⟩
  | .hbm, ⟨32, _⟩ => ⟨S1024x128, .bf16⟩
  | .hbm, ⟨33, _⟩ => ⟨S1024x256, .bf16⟩
  | .hbm, ⟨34, _⟩ => ⟨S_, .i32⟩
  | .hbm, ⟨35, _⟩ => ⟨S_, .f32⟩
  | .hbm, ⟨36, _⟩ => ⟨S1024x128, .f32⟩
  | .hbm, ⟨37, _⟩ => ⟨S1024x128, .bf16⟩
  | .hbm, ⟨38, _⟩ => ⟨S_, .i32⟩
  | .hbm, ⟨39, _⟩ => ⟨S_, .f32⟩
  | .hbm, ⟨40, _⟩ => ⟨S1024x128, .f32⟩
  | .hbm, ⟨41, _⟩ => ⟨S1024x128, .bf16⟩
  | .hbm, ⟨42, _⟩ => ⟨S_, .f32⟩
  | .hbm, ⟨43, _⟩ => ⟨S8192x48, .f32⟩
  | .hbm, ⟨44, _⟩ => ⟨S8192x128, .f32⟩
  | .hbm, ⟨45, _⟩ => ⟨S8192x8, .f32⟩
  | .hbm, ⟨46, _⟩ => ⟨S_, .f32⟩
  | .hbm, ⟨47, _⟩ => ⟨S8192x8, .f32⟩
  | .hbm, ⟨48, _⟩ => ⟨S_, .f32⟩
  | .hbm, ⟨49, _⟩ => ⟨S8192x48, .f32⟩
  | .hbm, ⟨50, _⟩ => ⟨S8192x128, .f32⟩
  | .hbm, ⟨51, _⟩ => ⟨S_, .f32⟩
  | .hbm, ⟨52, _⟩ => ⟨S8192x8, .f32⟩
  | .hbm, ⟨53, _⟩ => ⟨S_, .f32⟩
  | .hbm, ⟨54, _⟩ => ⟨S8192x48, .f32⟩
  | .hbm, ⟨55, _⟩ => ⟨S8192x128, .f32⟩
  | .hbm, ⟨56, _⟩ => ⟨S_, .f32⟩
  | .hbm, ⟨57, _⟩ => ⟨S8192x24, .f32⟩
  | .hbm, ⟨58, _⟩ => ⟨S8192x128, .f32⟩
  | .hbm, ⟨59, _⟩ => ⟨S8192x4, .f32⟩
  | .hbm, ⟨60, _⟩ => ⟨S_, .f32⟩
  | .hbm, ⟨61, _⟩ => ⟨S8192x4, .f32⟩
  | .hbm, ⟨62, _⟩ => ⟨S_, .f32⟩
  | .hbm, ⟨63, _⟩ => ⟨S8192x24, .f32⟩
  | .hbm, ⟨64, _⟩ => ⟨S8192x128, .f32⟩
  | .hbm, ⟨65, _⟩ => ⟨S_, .f32⟩
  | .hbm, ⟨66, _⟩ => ⟨S8192x4, .f32⟩
  | .hbm, ⟨67, _⟩ => ⟨S_, .f32⟩
  | .hbm, ⟨68, _⟩ => ⟨S8192x24, .f32⟩
  | .hbm, ⟨69, _⟩ => ⟨S8192x128, .f32⟩
  | .hbm, ⟨70, _⟩ => ⟨S1x8192x128, .f32⟩
  | .hbm, ⟨71, _⟩ => ⟨S1x8192x128, .f32⟩
  | .hbm, ⟨72, _⟩ => ⟨S2x8192x128, .f32⟩
  | .hbm, ⟨73, _⟩ => ⟨S1x8192x128, .f32⟩
  | .hbm, ⟨74, _⟩ => ⟨S1x8192x128, .f32⟩
  | .hbm, ⟨75, _⟩ => ⟨S2x8192x128, .f32⟩
  | .hbm, ⟨76, _⟩ => ⟨S1x8192x128, .f32⟩
  | .hbm, ⟨77, _⟩ => ⟨S1x8192x128, .f32⟩
  | .hbm, ⟨78, _⟩ => ⟨S2x8192x128, .f32⟩
  | .hbm, ⟨79, _⟩ => ⟨S8x8192x1536, .bf16⟩
  | .hbm, ⟨80, _⟩ => ⟨S8x8192x256, .f32⟩
  | .hbm, ⟨81, _⟩ => ⟨S8x8192x512, .bf16⟩
  | .hbm, ⟨82, _⟩ => ⟨S8x8192x128, .bf16⟩
  | .hbm, ⟨83, _⟩ => ⟨S8x16x128x512, .bf16⟩
  | .hbm, ⟨84, _⟩ => ⟨S8x8192x256, .bf16⟩
  | .hbm, ⟨85, _⟩ => ⟨S8x8192x128, .bf16⟩
  | .hbm, ⟨86, _⟩ => ⟨S8x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1024x1536, .bf16⟩
  | .local _ .vmem, ⟨3, _⟩ => ⟨S1024x128, .bf16⟩
  | .local _ .vmem, ⟨4, _⟩ => ⟨S128x256, .bf16⟩
  | .local _ .vmem, ⟨5, _⟩ => ⟨S1x256, .f32⟩
  | .local _ .vmem, ⟨6, _⟩ => ⟨S1024x512, .bf16⟩
  | .local _ .vmem, ⟨7, _⟩ => ⟨S1024x128, .bf16⟩
  | .local _ .vmem, ⟨8, _⟩ => ⟨S1024x256, .bf16⟩
  | .local _ .vmem, ⟨9, _⟩ => ⟨S1024x128, .bf16⟩
  | .local _ .vmem, ⟨10, _⟩ => ⟨S1024x128, .bf16⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S2x512x128, .f32⟩
  | .local _ .vmem, ⟨15, _⟩ => ⟨S2x512x128, .f32⟩
  | .local _ .vmem, ⟨16, _⟩ => ⟨S2x512x128, .f32⟩
  | .local _ .vmem, ⟨17, _⟩ => ⟨S1x512x1536, .bf16⟩
  | .local _ .vmem, ⟨18, _⟩ => ⟨S1x512x1536, .bf16⟩
  | .local _ .vmem, ⟨19, _⟩ => ⟨S1x512x256, .f32⟩
  | .local _ .vmem, ⟨20, _⟩ => ⟨S1x512x256, .f32⟩
  | .local _ .vmem, ⟨21, _⟩ => ⟨S1x512x512, .bf16⟩
  | .local _ .vmem, ⟨22, _⟩ => ⟨S1x512x512, .bf16⟩
  | .local _ .vmem, ⟨23, _⟩ => ⟨S1x512x128, .bf16⟩
  | .local _ .vmem, ⟨24, _⟩ => ⟨S1x512x128, .bf16⟩
  | .local _ .vmem, ⟨25, _⟩ => ⟨S1x1x128x512, .bf16⟩
  | .local _ .vmem, ⟨26, _⟩ => ⟨S1x1x128x512, .bf16⟩
  | .local _ .vmem, ⟨27, _⟩ => ⟨S1x512x256, .bf16⟩
  | .local _ .vmem, ⟨28, _⟩ => ⟨S1x512x256, .bf16⟩
  | .local _ .vmem, ⟨29, _⟩ => ⟨S1x512x128, .bf16⟩
  | .local _ .vmem, ⟨30, _⟩ => ⟨S1x512x128, .bf16⟩
  | .local _ .vmem, ⟨31, _⟩ => ⟨S1x512x128, .f32⟩
  | .local _ .vmem, ⟨32, _⟩ => ⟨S1x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_call3_v0 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53_0 : Ref sig .tc := ⟨.hbm, 79, rfl⟩
abbrev main_v53_1 : Ref sig .tc := ⟨.hbm, 80, rfl⟩
abbrev main_v53_2 : Ref sig .tc := ⟨.hbm, 81, rfl⟩
abbrev main_v53_3 : Ref sig .tc := ⟨.hbm, 82, rfl⟩
abbrev main_v53_4 : Ref sig .tc := ⟨.hbm, 83, rfl⟩
abbrev main_v53_5 : Ref sig .tc := ⟨.hbm, 84, rfl⟩
abbrev main_v53_6 : Ref sig .tc := ⟨.hbm, 85, rfl⟩
abbrev main_v53_7 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ProjRefIdeal.lean ====
abbrev S8x8192x1024 : Shape := ⟨3, ![8, 8192, 1024]⟩
abbrev S1024x4536 : Shape := ⟨2, ![1024, 4536]⟩
abbrev S16x256 : Shape := ⟨2, ![16, 256]⟩
abbrev S256 : Shape := ⟨1, ![256]⟩
abbrev S8192x8 : Shape := ⟨2, ![8192, 8]⟩
abbrev S8192x4 : Shape := ⟨2, ![8192, 4]⟩
abbrev S8x8192x4536 : Shape := ⟨3, ![8, 8192, 4536]⟩
abbrev S8x8192x256 : Shape := ⟨3, ![8, 8192, 256]⟩
abbrev S8x8192x512 : Shape := ⟨3, ![8, 8192, 512]⟩
abbrev S8x8192x16 : Shape := ⟨3, ![8, 8192, 16]⟩
abbrev S8x8192x64 : Shape := ⟨3, ![8, 8192, 64]⟩
abbrev S8x8192x32 : Shape := ⟨3, ![8, 8192, 32]⟩
abbrev S8x8192x8 : Shape := ⟨3, ![8, 8192, 8]⟩
abbrev S_ : Shape := ⟨0, ![]⟩
abbrev S8x8192x1536 : Shape := ⟨3, ![8, 8192, 1536]⟩
abbrev S1x1x256 : Shape := ⟨3, ![1, 1, 256]⟩
abbrev S8x8192x8x64 : Shape := ⟨4, ![8, 8192, 8, 64]⟩
abbrev S8192x1x8 : Shape := ⟨3, ![8192, 1, 8]⟩
abbrev S8x8192x8x8 : Shape := ⟨4, ![8, 8192, 8, 8]⟩
abbrev S1x8192x1x8 : Shape := ⟨4, ![1, 8192, 1, 8]⟩
abbrev S8x8192x8x48 : Shape := ⟨4, ![8, 8192, 8, 48]⟩
abbrev S8x8192x1x64 : Shape := ⟨4, ![8, 8192, 1, 64]⟩
abbrev S8x8192x1x8 : Shape := ⟨4, ![8, 8192, 1, 8]⟩
abbrev S8x8192x1x48 : Shape := ⟨4, ![8, 8192, 1, 48]⟩
abbrev S8x8192x8x32 : Shape := ⟨4, ![8, 8192, 8, 32]⟩
abbrev S8192x1x4 : Shape := ⟨3, ![8192, 1, 4]⟩
abbrev S8x8192x8x4 : Shape := ⟨4, ![8, 8192, 8, 4]⟩
abbrev S1x8192x1x4 : Shape := ⟨4, ![1, 8192, 1, 4]⟩
abbrev S8x8192x8x24 : Shape := ⟨4, ![8, 8192, 8, 24]⟩
abbrev S8x8192x1x32 : Shape := ⟨4, ![8, 8192, 1, 32]⟩
abbrev S8x8192x1x4 : Shape := ⟨4, ![8, 8192, 1, 4]⟩
abbrev S8x8192x1x24 : Shape := ⟨4, ![8, 8192, 1, 24]⟩
abbrev S8x8192x128 : Shape := ⟨3, ![8, 8192, 128]⟩
abbrev S8x16x512x128 : Shape := ⟨4, ![8, 16, 512, 128]⟩
abbrev S8x16x128x512 : Shape := ⟨4, ![8, 16, 128, 512]⟩

abbrev nBuf : Space → Nat
  | .hbm => 156
  | .vmem => 0
  | .smem => 0
  | _ => 0

abbrev hbmTy0_0 (i : Nat) : BufTy := match i % 128 with
  | 0 => ⟨S8x8192x1024, .f32⟩
  | 1 => ⟨S1024x4536, .f32⟩
  | 2 => ⟨S16x256, .f32⟩
  | 3 => ⟨S256, .f32⟩
  | 4 => ⟨S8192x8, .f32⟩
  | 5 => ⟨S8192x8, .f32⟩
  | 6 => ⟨S8192x4, .f32⟩
  | 7 => ⟨S8192x4, .f32⟩
  | 8 => ⟨S8x8192x4536, .f32⟩
  | 9 => ⟨S8x8192x256, .f32⟩
  | 10 => ⟨S8x8192x256, .f32⟩
  | 11 => ⟨S8x8192x512, .f32⟩
  | 12 => ⟨S8x8192x16, .f32⟩
  | 13 => ⟨S8x8192x512, .f32⟩
  | 14 => ⟨S8x8192x512, .f32⟩
  | 15 => ⟨S8x8192x64, .f32⟩
  | 16 => ⟨S8x8192x64, .f32⟩
  | 17 => ⟨S8x8192x256, .f32⟩
  | 18 => ⟨S8x8192x32, .f32⟩
  | 19 => ⟨S8x8192x8, .f32⟩
  | 20 => ⟨S_, .f32⟩
  | 21 => ⟨S8x8192x256, .f32⟩
  | 22 => ⟨S8x8192x256, .f32⟩
  | 23 => ⟨S8x8192x1536, .f32⟩
  | 24 => ⟨S8x8192x256, .f32⟩
  | 25 => ⟨S1x1x256, .f32⟩
  | 26 => ⟨S8x8192x256, .f32⟩
  | 27 => ⟨S8x8192x256, .f32⟩
  | 28 => ⟨S8x8192x256, .f32⟩
  | 29 => ⟨S_, .f32⟩
  | 30 => ⟨S8x8192x256, .f32⟩
  | 31 => ⟨S8x8192x256, .f32⟩
  | 32 => ⟨S8x8192x256, .f32⟩
  | 33 => ⟨S8x8192x256, .f32⟩
  | 34 => ⟨S8x8192x256, .i1⟩
  | 35 => ⟨S8x8192x256, .f32⟩
  | 36 => ⟨S8x8192x256, .f32⟩
  | 37 => ⟨S8x8192x256, .f32⟩
  | 38 => ⟨S8x8192x256, .f32⟩
  | 39 => ⟨S8x8192x256, .f32⟩
  | 40 => ⟨S8x8192x256, .f32⟩
  | 41 => ⟨S8x8192x256, .f32⟩
  | 42 => ⟨S8x8192x256, .f32⟩
  | 43 => ⟨S8x8192x256, .f32⟩
  | 44 => ⟨S_, .f32⟩
  | 45 => ⟨S8x8192x256, .f32⟩
  | 46 => ⟨S8x8192x256, .f32⟩
  | 47 => ⟨S8x8192x8x64, .f32⟩
  | 48 => ⟨S8192x1x8, .f32⟩
  | 49 => ⟨S8192x1x8, .f32⟩
  | 50 => ⟨S8x8192x8x8, .f32⟩
  | 51 => ⟨S8x8192x8x8, .f32⟩
  | 52 => ⟨S1x8192x1x8, .f32⟩
  | 53 => ⟨S8x8192x8x8, .f32⟩
  | 54 => ⟨S8x8192x8x8, .f32⟩
  | 55 => ⟨S1x8192x1x8, .f32⟩
  | 56 => ⟨S8x8192x8x8, .f32⟩
  | 57 => ⟨S8x8192x8x8, .f32⟩
  | 58 => ⟨S8x8192x8x8, .f32⟩
  | 59 => ⟨S1x8192x1x8, .f32⟩
  | 60 => ⟨S8x8192x8x8, .f32⟩
  | 61 => ⟨S8x8192x8x8, .f32⟩
  | 62 => ⟨S1x8192x1x8, .f32⟩
  | 63 => ⟨S8x8192x8x8, .f32⟩
  | 64 => ⟨S8x8192x8x8, .f32⟩
  | 65 => ⟨S8x8192x8x8, .f32⟩
  | 66 => ⟨S8x8192x8x48, .f32⟩
  | 67 => ⟨S8x8192x8x64, .f32⟩
  | 68 => ⟨S8x8192x512, .f32⟩
  | 69 => ⟨S8x8192x1x64, .f32⟩
  | 70 => ⟨S8192x1x8, .f32⟩
  | 71 => ⟨S8192x1x8, .f32⟩
  | 72 => ⟨S8x8192x1x8, .f32⟩
  | 73 => ⟨S8x8192x1x8, .f32⟩
  | 74 => ⟨S1x8192x1x8, .f32⟩
  | 75 => ⟨S8x8192x1x8, .f32⟩
  | 76 => ⟨S8x8192x1x8, .f32⟩
  | 77 => ⟨S1x8192x1x8, .f32⟩
  | 78 => ⟨S8x8192x1x8, .f32⟩
  | 79 => ⟨S8x8192x1x8, .f32⟩
  | 80 => ⟨S8x8192x1x8, .f32⟩
  | 81 => ⟨S1x8192x1x8, .f32⟩
  | 82 => ⟨S8x8192x1x8, .f32⟩
  | 83 => ⟨S8x8192x1x8, .f32⟩
  | 84 => ⟨S1x8192x1x8, .f32⟩
  | 85 => ⟨S8x8192x1x8, .f32⟩
  | 86 => ⟨S8x8192x1x8, .f32⟩
  | 87 => ⟨S8x8192x1x8, .f32⟩
  | 88 => ⟨S8x8192x1x48, .f32⟩
  | 89 => ⟨S8x8192x1x64, .f32⟩
  | 90 => ⟨S8x8192x64, .f32⟩
  | 91 => ⟨S8x8192x8x32, .f32⟩
  | 92 => ⟨S8192x1x4, .f32⟩
  | 93 => ⟨S8192x1x4, .f32⟩
  | 94 => ⟨S8x8192x8x4, .f32⟩
  | 95 => ⟨S8x8192x8x4, .f32⟩
  | 96 => ⟨S1x8192x1x4, .f32⟩
  | 97 => ⟨S8x8192x8x4, .f32⟩
  | 98 => ⟨S8x8192x8x4, .f32⟩
  | 99 => ⟨S1x8192x1x4, .f32⟩
  | 100 => ⟨S8x8192x8x4, .f32⟩
  | 101 => ⟨S8x8192x8x4, .f32⟩
  | 102 => ⟨S8x8192x8x4, .f32⟩
  | 103 => ⟨S1x8192x1x4, .f32⟩
  | 104 => ⟨S8x8192x8x4, .f32⟩
  | 105 => ⟨S8x8192x8x4, .f32⟩
  | 106 => ⟨S1x8192x1x4, .f32⟩
  | 107 => ⟨S8x8192x8x4, .f32⟩
  | 108 => ⟨S8x8192x8x4, .f32⟩
  | 109 => ⟨S8x8192x8x4, .f32⟩
  | 110 => ⟨S8x8192x8x24, .f32⟩
  | 111 => ⟨S8x8192x8x32, .f32⟩
  | 112 => ⟨S8x8192x256, .f32⟩
  | 113 => ⟨S8x8192x1x32, .f32⟩
  | 114 => ⟨S8192x1x4, .f32⟩
  | 115 => ⟨S8192x1x4, .f32⟩
  | 116 => ⟨S8x8192x1x4, .f32⟩
  | 117 => ⟨S8x8192x1x4, .f32⟩
  | 118 => ⟨S1x8192x1x4, .f32⟩
  | 119 => ⟨S8x8192x1x4, .f32⟩
  | 120 => ⟨S8x8192x1x4, .f32⟩
  | 121 => ⟨S1x8192x1x4, .f32⟩
  | 122 => ⟨S8x8192x1x4, .f32⟩
  | 123 => ⟨S8x8192x1x4, .f32⟩
  | 124 => ⟨S8x8192x1x4, .f32⟩
  | 125 => ⟨S1x8192x1x4, .f32⟩
  | 126 => ⟨S8x8192x1x4, .f32⟩
  | 127 => ⟨S8x8192x1x4, .f32⟩
  | _ => ⟨S8x8192x1024, .f32⟩

abbrev hbmTy0_1 (i : Nat) : BufTy := match i % 128 with
  | 0 => ⟨S1x8192x1x4, .f32⟩
  | 1 => ⟨S8x8192x1x4, .f32⟩
  | 2 => ⟨S8x8192x1x4, .f32⟩
  | 3 => ⟨S8x8192x1x4, .f32⟩
  | 4 => ⟨S8x8192x1x24, .f32⟩
  | 5 => ⟨S8x8192x1x32, .f32⟩
  | 6 => ⟨S8x8192x32, .f32⟩
  | 7 => ⟨S8x8192x128, .f32⟩
  | 8 => ⟨S8x16x512x128, .f32⟩
  | 9 => ⟨S8x16x128x512, .f32⟩
  | 10 => ⟨S8x8192x1536, .bf16⟩
  | 11 => ⟨S_, .f32⟩
  | 12 => ⟨S8x8192x512, .f32⟩
  | 13 => ⟨S8x8192x512, .f32⟩
  | 14 => ⟨S8x8192x512, .bf16⟩
  | 15 => ⟨S8x8192x128, .bf16⟩
  | 16 => ⟨S8x16x128x512, .bf16⟩
  | 17 => ⟨S8x8192x256, .bf16⟩
  | 18 => ⟨S_, .i32⟩
  | 19 => ⟨S_, .f32⟩
  | 20 => ⟨S8x8192x128, .f32⟩
  | 21 => ⟨S8x8192x128, .bf16⟩
  | 22 => ⟨S_, .f32⟩
  | 23 => ⟨S8x8192x8, .f32⟩
  | 24 => ⟨S8x8192x8, .f32⟩
  | 25 => ⟨S_, .i32⟩
  | 26 => ⟨S_, .f32⟩
  | 27 => ⟨S8x8192x128, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v19 : Ref sig .tc := ⟨.hbm, 43, rfl⟩
abbrev main_cst_0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_1 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_c : Ref sig .tc := ⟨.hbm, 146, rfl⟩
abbrev main_call1_v0 : Ref sig .tc := ⟨.hbm, 147, rfl⟩
abbrev main_v120 : Ref sig .tc := ⟨.hbm, 148, rfl⟩
abbrev main_v121 : Ref sig .tc := ⟨.hbm, 149, rfl⟩
abbrev main_cst_2 : Ref sig .tc := ⟨.hbm, 150, rfl⟩
abbrev main_v122 : Ref sig .tc := ⟨.hbm, 151, rfl⟩
abbrev main_v123 : Ref sig .tc := ⟨.hbm, 152, rfl⟩
abbrev main_c_3 : Ref sig .tc := ⟨.hbm, 153, rfl⟩
abbrev main_call2_v0 : Ref sig .tc := ⟨.hbm, 154, rfl⟩
abbrev main_v124 : Ref sig .tc := ⟨.hbm, 155, rfl⟩

abbrev nD : Nat := 1
abbrev τ : Topo := Topo.v7x

variable {F : FTy → Type} [FloatOps F]
-- ==== Proof.DsaKept.lean ====
module

public import proofs.«01_k».proof.Proof.Gen.Kernel.Frame
public import proofs.«01_k».proof.Proof.Gen.Kernel.Skeleton

/-! The frame of the sparse attention call, proved without following a single value.

`Keeps c P p` says that the program `p`, started where `P` holds, ends where `P` holds. With `P` the ownership of the
call's buffers at SOME contents, every load, store, branch and counted loop of the body keeps `P`, so the body does: the
invariant of each loop is `P` itself. -/

@[expose] public section

set_option maxRecDepth 16384

noncomputable section

namespace Cert.Kernel.Kept

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ (UR sig nD τ) ℕ

/-- The buffer of `a` held whole, at some contents. -/
def held (c : Dev nD) {s : Shape} {e : EltTy} (a : Memref sig .tc .vmem s e) : sProp 𝕄 :=
  iprop(∃ d, owns (c : Thread nD τ) a fullShare d)

/-- `P` contains the buffer of `a`: it can be taken out, and put back at other contents. -/
class Has (c : Dev nD) (P : sProp 𝕄) {s : Shape} {e : EltTy} (a : Memref sig .tc .vmem s e) : Prop where
  take : P ⊢ iprop(held c a ∗ (held c a -∗ P))

/-- The program runs from `P` to `P`, whatever it returns. -/
class Keeps (c : Dev nD) (P : sProp 𝕄) {α : Type} (p : Prog (TpuEff nD τ sig (Elt F) Λ₀ .tc) α) : Prop where
  run : P ⊢ wp frame (wpE (defs₀ (F := F)) Variants.none (c : Thread nD τ) none) Set.univ p fun _ => P

variable {c : Dev nD} {P : sProp (MT nD τ sig Unit (Elt F) ℕ (UR sig nD τ) ℕ)}

namespace Keeps

theorem pure {α : Type} (x : α) : Keeps c P (Pure.pure x : Prog (TpuEff nD τ sig (Elt F) Λ₀ .tc) α) :=
  ⟨by show P ⊢ wp frame _ Set.univ (.ret x) _
      iintro H; sl_step; iexact H⟩

theorem bind {α β : Type} {p : Prog (TpuEff nD τ sig (Elt F) Λ₀ .tc) α} {k : α → Prog (TpuEff nD τ sig (Elt F) Λ₀ .tc) β}
    (hp : Keeps c P p) (hk : ∀ x, Keeps c P (k x)) : Keeps c P (p >>= k) :=
  ⟨by rw [wp_bind]; exact hp.run.trans ((wp frame _ Set.univ p).mono fun x => (hk x).run)⟩

theorem load {s : Shape} {e : EltTy} {a : Memref sig .tc .vmem s e} [Has c P a] {r : LoadRect s} {hl : a.view.LoadsAt r}
    {β : Type} {k : (r.shape.Idx → Elt F e) → Prog (TpuEff nD τ sig (Elt F) Λ₀ .tc) β} (hk : ∀ x, Keeps c P (k x)) :
    Keeps c P (Prog.lift (.load a r hl) >>= k) :=
  ⟨by
    show P ⊢ wp frame (wpE (defs₀ (F := F)) Variants.none (c : Thread nD τ) none) Set.univ (.op (.load a r hl) k) _
    refine (Has.take (c := c) (P := P) (a := a)).trans ?_
    unfold held owns
    iintro ⟨⟨%d, %f, %_, Hf⟩, Hw⟩
    iapply (wp_load Variants.none (c : Thread nD τ) none Set.univ (hl := hl) (k := k) (a.view.setOn_subset_set _)) $$ Hf
    iintro Hf
    iapply (hk _).run
    iapply Hw
    iexists _, f; isplitr; swap; · iexact Hf
    ipureintro; rfl⟩

theorem store {s : Shape} {e : EltTy} {a : Memref sig .tc .vmem s e} [Has c P a] {r : Rect s} {w : r.shape.Idx → Elt F e}
    {M : Finset r.shape.Idx} {hx : (a.access r).Stores M} {hm : M = Finset.univ ∨ ∀ b, r.stride b = 1}
    {β : Type} {k : PUnit → Prog (TpuEff nD τ sig (Elt F) Λ₀ .tc) β} (hk : ∀ x, Keeps c P (k x)) :
    Keeps c P (Prog.lift (.store a r w M hx hm) >>= k) :=
  ⟨by
    show P ⊢ wp frame (wpE (defs₀ (F := F)) Variants.none (c : Thread nD τ) none) Set.univ (.op (.store a r w M hx hm) k) _
    refine (Has.take (c := c) (P := P) (a := a)).trans ?_
    unfold held owns
    iintro ⟨⟨%d, %f, %_, Hf⟩, Hw⟩
    iapply (wp_store Variants.none (c : Thread nD τ) none Set.univ (hx := hx) (hm := hm) (k := k)
      (((a.access r).setOn_subset_set M).trans (a.view.set_slice_subset r))) $$ Hf
    iintro Hf
    iapply (hk _).run
    iapply Hw
    iexists _, _; isplitr; swap; · iexact Hf
    ipureintro; rfl⟩

theorem last {s : Shape} {e : EltTy} {a : Memref sig .tc .vmem s e} [Has c P a] {r : LoadRect s} {hl : a.view.LoadsAt r} :
    Keeps c P (Prog.lift (.load a r hl) : Prog (TpuEff nD τ sig (Elt F) Λ₀ .tc) _) :=
  ⟨(load (c := c) (P := P) (a := a) (r := r) (hl := hl) (k := Pure.pure) fun x => pure x).run⟩

theorem loop {σ : Type} {w : Nat} {l : Scf.Loop w} {hok : l.OK} {init : σ}
    {body : Fin l.trips → σ → Prog (TpuEff nD τ sig (Elt F) Λ₀ .tc) σ} (hb : ∀ k x, Keeps c P (body k x)) :
    Keeps c P (Scf.Loop.for l hok init body) :=
  ⟨by
    iintro H
    iapply (Scf.wp_for _ _ _ l.lb l.ub l.st hok init body (fun _ _ => P) fun k x => (hb k x).run)
    isplitl [H]
    · iexact H
    iintro %x H
    iexact H⟩

theorem cond {α : Type} {C : Prop} [Decidable C] {p : C → Prog (TpuEff nD τ sig (Elt F) Λ₀ .tc) α}
    {q : ¬C → Prog (TpuEff nD τ sig (Elt F) Λ₀ .tc) α} (hp : ∀ h, Keeps c P (p h)) (hq : ∀ h, Keeps c P (q h)) :
    Keeps c P (dite C p q) := by
  split
  · exact hp _
  · exact hq _

theorem cond' {α : Type} {C : Prop} [Decidable C] {p q : Prog (TpuEff nD τ sig (Elt F) Λ₀ .tc) α} (hp : Keeps c P p)
    (hq : Keeps c P q) : Keeps c P (ite C p q) := by
  split
  · exact hp
  · exact hq

end Keeps

variable {i : grid0.Coords}
  {a2 : Memref sig .tc .vmem S1x128x512 .bf16} {h2 : a2.IsWhole} [Has c P a2]
  {a3 : Memref sig .tc .vmem S1x8192x128 .bf16} {h3 : a3.IsWhole} [Has c P a3]
  {a4 : Memref sig .tc .vmem S1x16x128x512 .bf16} {h4 : a4.IsWhole} [Has c P a4]
  {a5 : Memref sig .tc .vmem S1x128x256 .bf16} {h5 : a5.IsWhole} [Has c P a5]
  {a6 : Memref sig .tc .vmem S1x8192x128 .bf16} {h6 : a6.IsWhole} [Has c P a6]
  {a7 : Memref sig .tc .vmem S1x128x128 .f32} {h7 : a7.IsWhole} [Has c P a7]
  {a8 : Memref sig .tc .vmem S1x128x512 .bf16} {h8 : a8.IsWhole} [Has c P a8]
  {a9 : Memref sig .tc .vmem S16x512x128 .i32} {h9 : a9.IsWhole} [Has c P a9]
  {a10 : Memref sig .tc .vmem S32x264x128 .i32} {h10 : a10.IsWhole} [Has c P a10]
  {a11 : Memref sig .tc .vmem S256x128 .i32} {h11 : a11.IsWhole} [Has c P a11]
  {a12 : Memref sig .tc .vmem S1x128 .i32} {h12 : a12.IsWhole} [Has c P a12]
  {a13 : Memref sig .tc .vmem S1x128 .f32} {h13 : a13.IsWhole} [Has c P a13]
  {a14 : Memref sig .tc .vmem S256x1024 .bf16} {h14 : a14.IsWhole} [Has c P a14]
  {a15 : Memref sig .tc .vmem S128x1024 .bf16} {h15 : a15.IsWhole} [Has c P a15]
  {a16 : Memref sig .tc .vmem S8x128 .f32} {h16 : a16.IsWhole} [Has c P a16]
  {a17 : Memref sig .tc .vmem S1x1024 .f32} {h17 : a17.IsWhole} [Has c P a17]
  {a18 : Memref sig .tc .vmem S80x1024 .f32} {h18 : a18.IsWhole} [Has c P a18]
  {a19 : Memref sig .tc .vmem S2x512x1024 .f32} {h19 : a19.IsWhole} [Has c P a19]
  {a20 : Memref sig .tc .vmem S2x1x1024 .f32} {h20 : a20.IsWhole} [Has c P a20]
  {a21 : Memref sig .tc .vmem S512x1024 .bf16} {h21 : a21.IsWhole} [Has c P a21]

instance keeps_part172 : Keeps c P (k0_part172 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 ) := by
  rw [k0_part172_eq_skeleton]; unfold k0_part172_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part173 {v35} : Keeps c P (k0_part173 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v35) := by
  rw [k0_part173_eq_skeleton]; unfold k0_part173_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part174 {v70 v72} : Keeps c P (k0_part174 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v70 v72) := by
  rw [k0_part174_eq_skeleton]; unfold k0_part174_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part175 {v0 v108} : Keeps c P (k0_part175 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v0 v108) := by
  rw [k0_part175_eq_skeleton]; unfold k0_part175_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part1 : Keeps c P (k0_part1 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 ) := by
  rw [k0_part1_eq_skeleton]; unfold k0_part1_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part176 {xarg0 xarg1 v20} : Keeps c P (k0_part176 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 xarg0 xarg1 v20) := by
  rw [k0_part176_eq_skeleton]; unfold k0_part176_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part177 {v161 v178 v180 v181} : Keeps c P (k0_part177 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v161 v178 v180 v181) := by
  rw [k0_part177_eq_skeleton]; unfold k0_part177_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part2 {c0_i32_103 c1_i32_105 k0_t1} : Keeps c P (k0_part2 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 c0_i32_103 c1_i32_105 k0_t1) := by
  rw [k0_part2_eq_skeleton]; unfold k0_part2_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part18 {k0_t1 xarg22 v2910 v2916 v2919 v2925 v2928 v2934 v2937 v2943 v3050} : Keeps c P (k0_part18 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 xarg22 v2910 v2916 v2919 v2925 v2928 v2934 v2937 v2943 v3050) := by
  rw [k0_part18_eq_skeleton]; unfold k0_part18_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part19 {k0_t1 v2946 v2952 v2955 v2961 v2964 v2970 v2973 v2979 v2982 v3086 v3092} : Keeps c P (k0_part19 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 v2946 v2952 v2955 v2961 v2964 v2970 v2973 v2979 v2982 v3086 v3092) := by
  rw [k0_part19_eq_skeleton]; unfold k0_part19_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part20 {k0_t1 v2988 v2991 v2997 v3000 v3006 v3009 v3015 v3018 v3086} : Keeps c P (k0_part20 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 v2988 v2991 v2997 v3000 v3006 v3009 v3015 v3018 v3086) := by
  rw [k0_part20_eq_skeleton]; unfold k0_part20_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part21 {k0_t1 v3024 v3027 v3033 v3036 v3042 v3045 v3051 v3054 v3060 v3086} : Keeps c P (k0_part21 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 v3024 v3027 v3033 v3036 v3042 v3045 v3051 v3054 v3060 v3086) := by
  rw [k0_part21_eq_skeleton]; unfold k0_part21_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part22 {v146 v147 k0_t1 v2326 v3063 v3069 v3072 v3078 v3081 v3086} : Keeps c P (k0_part22 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v146 v147 k0_t1 v2326 v3063 v3069 v3072 v3078 v3081 v3086) := by
  rw [k0_part22_eq_skeleton]; unfold k0_part22_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part23 {k0_t1 v2329 v3086 v3228 v3232 c_m1_i32_1169} : Keeps c P (k0_part23 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 v2329 v3086 v3228 v3232 c_m1_i32_1169) := by
  rw [k0_part23_eq_skeleton]; unfold k0_part23_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part39 {k0_t1 xarg22 v3818 v3821 v3827 v3830 v3836 v3839 v3845 v3848 v3854 v3959 c1431655765_i32_1401} : Keeps c P (k0_part39 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 xarg22 v3818 v3821 v3827 v3830 v3836 v3839 v3845 v3848 v3854 v3959 c1431655765_i32_1401) := by
  rw [k0_part39_eq_skeleton]; unfold k0_part39_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part40 {k0_t1 v3857 v3863 v3866 v3872 v3875 v3881 v3884 v3890 v3997} : Keeps c P (k0_part40 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 v3857 v3863 v3866 v3872 v3875 v3881 v3884 v3890 v3997) := by
  rw [k0_part40_eq_skeleton]; unfold k0_part40_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part41 {k0_t1 v3893 v3899 v3902 v3908 v3911 v3917 v3920 v3926 v3929 v3997} : Keeps c P (k0_part41 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 v3893 v3899 v3902 v3908 v3911 v3917 v3920 v3926 v3929 v3997) := by
  rw [k0_part41_eq_skeleton]; unfold k0_part41_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part42 {k0_t1 v3935 v3938 v3944 v3947 v3953 v3956 v3962 v3965 v3971 v3997} : Keeps c P (k0_part42 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 v3935 v3938 v3944 v3947 v3953 v3956 v3962 v3965 v3971 v3997) := by
  rw [k0_part42_eq_skeleton]; unfold k0_part42_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part43 {v146 v147 k0_t1 v2326 v3974 v3980 v3983 v3989 v3992 v3997 v4105} : Keeps c P (k0_part43 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v146 v147 k0_t1 v2326 v3974 v3980 v3983 v3989 v3992 v3997 v4105) := by
  rw [k0_part43_eq_skeleton]; unfold k0_part43_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part44 {k0_t1 xarg22 v3997 v4139 v4141 c32_i32_1487} : Keeps c P (k0_part44 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t1 xarg22 v3997 v4139 v4141 c32_i32_1487) := by
  rw [k0_part44_eq_skeleton]; unfold k0_part44_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part45 {v4157 v4174 v4176 v4179} : Keeps c P (k0_part45 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v4157 v4174 v4176 v4179) := by
  rw [k0_part45_eq_skeleton]; unfold k0_part45_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part46 {v146 v147 c0_i32_103 c1_i32_105 k0_t1} : Keeps c P (k0_part46 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v146 v147 c0_i32_103 c1_i32_105 k0_t1) := by
  rw [k0_part46_eq_skeleton]; unfold k0_part46_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t1 {v142 v143 v146 v147 v157 v158 v219 v220 k acc} : Keeps c P (k0_t1_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v142 v143 v146 v147 v157 v158 v219 v220 k acc) := by
  unfold k0_t1_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part47 {v248 c1_i32_106 k0_t2} : Keeps c P (k0_part47 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v248 c1_i32_106 k0_t2) := by
  rw [k0_part47_eq_skeleton]; unfold k0_part47_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part63 {k0_t2 xarg22 v2910 v2916 v2919 v2925 v2928 v2934 v2937 v2943 v3050} : Keeps c P (k0_part63 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 xarg22 v2910 v2916 v2919 v2925 v2928 v2934 v2937 v2943 v3050) := by
  rw [k0_part63_eq_skeleton]; unfold k0_part63_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part64 {k0_t2 v2946 v2952 v2955 v2961 v2964 v2970 v2973 v2979 v2982 v3086 v3092} : Keeps c P (k0_part64 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 v2946 v2952 v2955 v2961 v2964 v2970 v2973 v2979 v2982 v3086 v3092) := by
  rw [k0_part64_eq_skeleton]; unfold k0_part64_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part65 {k0_t2 v2988 v2991 v2997 v3000 v3006 v3009 v3015 v3018 v3086} : Keeps c P (k0_part65 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 v2988 v2991 v2997 v3000 v3006 v3009 v3015 v3018 v3086) := by
  rw [k0_part65_eq_skeleton]; unfold k0_part65_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part66 {k0_t2 v3024 v3027 v3033 v3036 v3042 v3045 v3051 v3054 v3060 v3086} : Keeps c P (k0_part66 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 v3024 v3027 v3033 v3036 v3042 v3045 v3051 v3054 v3060 v3086) := by
  rw [k0_part66_eq_skeleton]; unfold k0_part66_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part67 {v146 v147 k0_t2 v2326 v3063 v3069 v3072 v3078 v3081 v3086} : Keeps c P (k0_part67 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v146 v147 k0_t2 v2326 v3063 v3069 v3072 v3078 v3081 v3086) := by
  rw [k0_part67_eq_skeleton]; unfold k0_part67_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part68 {k0_t2 v2329 v3086 v3228 v3232 c_m1_i32_1169} : Keeps c P (k0_part68 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 v2329 v3086 v3228 v3232 c_m1_i32_1169) := by
  rw [k0_part68_eq_skeleton]; unfold k0_part68_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part84 {k0_t2 xarg22 v3818 v3821 v3827 v3830 v3836 v3839 v3845 v3848 v3854 v3959 c1431655765_i32_1401} : Keeps c P (k0_part84 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 xarg22 v3818 v3821 v3827 v3830 v3836 v3839 v3845 v3848 v3854 v3959 c1431655765_i32_1401) := by
  rw [k0_part84_eq_skeleton]; unfold k0_part84_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part85 {k0_t2 v3857 v3863 v3866 v3872 v3875 v3881 v3884 v3890 v3997} : Keeps c P (k0_part85 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 v3857 v3863 v3866 v3872 v3875 v3881 v3884 v3890 v3997) := by
  rw [k0_part85_eq_skeleton]; unfold k0_part85_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part86 {k0_t2 v3893 v3899 v3902 v3908 v3911 v3917 v3920 v3926 v3929 v3997} : Keeps c P (k0_part86 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 v3893 v3899 v3902 v3908 v3911 v3917 v3920 v3926 v3929 v3997) := by
  rw [k0_part86_eq_skeleton]; unfold k0_part86_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part87 {k0_t2 v3935 v3938 v3944 v3947 v3953 v3956 v3962 v3965 v3971 v3997} : Keeps c P (k0_part87 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 v3935 v3938 v3944 v3947 v3953 v3956 v3962 v3965 v3971 v3997) := by
  rw [k0_part87_eq_skeleton]; unfold k0_part87_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part88 {v146 v147 k0_t2 v2326 v3974 v3980 v3983 v3989 v3992 v3997 v4105} : Keeps c P (k0_part88 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v146 v147 k0_t2 v2326 v3974 v3980 v3983 v3989 v3992 v3997 v4105) := by
  rw [k0_part88_eq_skeleton]; unfold k0_part88_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part89 {k0_t2 xarg22 v3997 v4139 v4141 c32_i32_1487} : Keeps c P (k0_part89 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_t2 xarg22 v3997 v4139 v4141 c32_i32_1487) := by
  rw [k0_part89_eq_skeleton]; unfold k0_part89_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part90 {v4157 v4174 v4176 v4179} : Keeps c P (k0_part90 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v4157 v4174 v4176 v4179) := by
  rw [k0_part90_eq_skeleton]; unfold k0_part90_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part91 {v146 v147 v248 c1_i32_106 k0_t2} : Keeps c P (k0_part91 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v146 v147 v248 c1_i32_106 k0_t2) := by
  rw [k0_part91_eq_skeleton]; unfold k0_part91_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t2 {v142 v143 v146 v147 v157 v158 v219 v220 v248 k acc} : Keeps c P (k0_t2_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v142 v143 v146 v147 v157 v158 v219 v220 v248 k acc) := by
  unfold k0_t2_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part178 {v142 v143 v146 v147 v157 v158 v219 v220} : Keeps c P (k0_part178 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v142 v143 v146 v147 v157 v158 v219 v220) := by
  rw [k0_part178_eq_skeleton]; unfold k0_part178_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part195 {v157 v842 v848 v851 v857 v860 v866 v869 v875 v985} : Keeps c P (k0_part195 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v842 v848 v851 v857 v860 v866 v869 v875 v985) := by
  rw [k0_part195_eq_skeleton]; unfold k0_part195_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part196 {v878 v884 v887 v893 v896 v902 v905 v911 v914 v1009} : Keeps c P (k0_part196 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v878 v884 v887 v893 v896 v902 v905 v911 v914 v1009) := by
  rw [k0_part196_eq_skeleton]; unfold k0_part196_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part197 {v920 v923 v929 v932 v938 v941 v947 v950 v956 v1009} : Keeps c P (k0_part197 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v920 v923 v929 v932 v938 v941 v947 v950 v956 v1009) := by
  rw [k0_part197_eq_skeleton]; unfold k0_part197_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part198 {v959 v965 v968 v974 v977 v983 v986 v992 v1009 v1093} : Keeps c P (k0_part198 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v959 v965 v968 v974 v977 v983 v986 v992 v1009 v1093) := by
  rw [k0_part198_eq_skeleton]; unfold k0_part198_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part199 {v146 v147 v249 v252 v995 v1001 v1004 v1009} : Keeps c P (k0_part199 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v146 v147 v249 v252 v995 v1001 v1004 v1009) := by
  rw [k0_part199_eq_skeleton]; unfold k0_part199_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part216 {v157 v1753 v1759 v1762 v1768 v1771 v1777 v1780 v1786 v1893} : Keeps c P (k0_part216 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v1753 v1759 v1762 v1768 v1771 v1777 v1780 v1786 v1893) := by
  rw [k0_part216_eq_skeleton]; unfold k0_part216_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part217 {v1789 v1795 v1798 v1804 v1807 v1813 v1816 v1822 v1825 v1920} : Keeps c P (k0_part217 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v1789 v1795 v1798 v1804 v1807 v1813 v1816 v1822 v1825 v1920) := by
  rw [k0_part217_eq_skeleton]; unfold k0_part217_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part218 {v1831 v1834 v1840 v1843 v1849 v1852 v1858 v1861 v1920 v1968} : Keeps c P (k0_part218 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v1831 v1834 v1840 v1843 v1849 v1852 v1858 v1861 v1920 v1968) := by
  rw [k0_part218_eq_skeleton]; unfold k0_part218_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part219 {v1867 v1870 v1876 v1879 v1885 v1888 v1894 v1897 v1903 v1920} : Keeps c P (k0_part219 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v1867 v1870 v1876 v1879 v1885 v1888 v1894 v1897 v1903 v1920) := by
  rw [k0_part219_eq_skeleton]; unfold k0_part219_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part220 {v146 v147 v249 v1906 v1912 v1915 v1920} : Keeps c P (k0_part220 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v146 v147 v249 v1906 v1912 v1915 v1920) := by
  rw [k0_part220_eq_skeleton]; unfold k0_part220_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t3 {v20 c2_i32_711 k0_h2 k acc} : Keeps c P (k0_t3_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 c2_i32_711 k0_h2 k acc) := by
  unfold k0_t3_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part92 {k0_h3 c0_i32_852 c1_i32_854 k0_t4 xarg23 xarg24} : Keeps c P (k0_part92 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_h3 c0_i32_852 c1_i32_854 k0_t4 xarg23 xarg24) := by
  rw [k0_part92_eq_skeleton]; unfold k0_part92_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t4 {v20 c2_i32_711 k0_h3 k acc} : Keeps c P (k0_t4_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 c2_i32_711 k0_h3 k acc) := by
  unfold k0_t4_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part93 {k0_h4 c0_i32_852 c1_i32_854 k0_t5} : Keeps c P (k0_part93 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_h4 c0_i32_852 c1_i32_854 k0_t5) := by
  rw [k0_part93_eq_skeleton]; unfold k0_part93_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t5 {v20 c2_i32_711 k0_h4 k acc} : Keeps c P (k0_t5_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 c2_i32_711 k0_h4 k acc) := by
  unfold k0_t5_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part94 {k0_h5 c0_i32_852 c1_i32_854 k0_t6} : Keeps c P (k0_part94 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 k0_h5 c0_i32_852 c1_i32_854 k0_t6) := by
  rw [k0_part94_eq_skeleton]; unfold k0_part94_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t6 {v20 c2_i32_711 k0_h5 k acc} : Keeps c P (k0_t6_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 c2_i32_711 k0_h5 k acc) := by
  unfold k0_t6_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part221 {v20 c2_i32_711} : Keeps c P (k0_part221 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 c2_i32_711) := by
  rw [k0_part221_eq_skeleton]; unfold k0_part221_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t7 {v20 v143 v2098 v2100 v2168 c_m2147483647_i32 v2326 k acc} : Keeps c P (k0_t7_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 v143 v2098 v2100 v2168 c_m2147483647_i32 v2326 k acc) := by
  unfold k0_t7_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t8 {v20 v143 v2098 v2100 v2168 c_m2147483647_i32 v2337 k acc} : Keeps c P (k0_t8_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 v143 v2098 v2100 v2168 c_m2147483647_i32 v2337 k acc) := by
  unfold k0_t8_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t9 {v20 v143 v2098 v2100 v2168 c_m2147483647_i32 v2337 k acc} : Keeps c P (k0_t9_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 v143 v2098 v2100 v2168 c_m2147483647_i32 v2337 k acc) := by
  unfold k0_t9_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part223 {v20 v143 v2098 v2100 v2168 c_m2147483647_i32} : Keeps c P (k0_part223 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 v143 v2098 v2100 v2168 c_m2147483647_i32) := by
  rw [k0_part223_eq_skeleton]; unfold k0_part223_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part224 {v2194 v2201 cst_752 v2202} : Keeps c P (k0_part224 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2194 v2201 cst_752 v2202) := by
  rw [k0_part224_eq_skeleton]; unfold k0_part224_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part225 {v20 v2206 v2228} : Keeps c P (k0_part225 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v20 v2206 v2228) := by
  rw [k0_part225_eq_skeleton]; unfold k0_part225_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part96 {v157 v2170 c0_i32_802 c1_i32_804 k0_t10} : Keeps c P (k0_part96 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2170 c0_i32_802 c1_i32_804 k0_t10) := by
  rw [k0_part96_eq_skeleton]; unfold k0_part96_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part97 {v2348} : Keeps c P (k0_part97 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2348) := by
  rw [k0_part97_eq_skeleton]; unfold k0_part97_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part98 {v2190 k0_t10 v2326 v2385} : Keeps c P (k0_part98 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2190 k0_t10 v2326 v2385) := by
  rw [k0_part98_eq_skeleton]; unfold k0_part98_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part99 {v2404} : Keeps c P (k0_part99 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2404) := by
  rw [k0_part99_eq_skeleton]; unfold k0_part99_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part100 {v2404 v2454} : Keeps c P (k0_part100 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2404 v2454) := by
  rw [k0_part100_eq_skeleton]; unfold k0_part100_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part101 {v2404 v2489} : Keeps c P (k0_part101 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2404 v2489) := by
  rw [k0_part101_eq_skeleton]; unfold k0_part101_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part102 {v2392 v2394 v2401 v2404 v2524} : Keeps c P (k0_part102 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2392 v2394 v2401 v2404 v2524) := by
  rw [k0_part102_eq_skeleton]; unfold k0_part102_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part103 {v2545 v2558} : Keeps c P (k0_part103 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2545 v2558) := by
  rw [k0_part103_eq_skeleton]; unfold k0_part103_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part104 {v2545} : Keeps c P (k0_part104 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2545) := by
  rw [k0_part104_eq_skeleton]; unfold k0_part104_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part105 {v2545 v2626} : Keeps c P (k0_part105 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2545 v2626) := by
  rw [k0_part105_eq_skeleton]; unfold k0_part105_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part106 {v2392 v2394 v2401 v2545 v2662} : Keeps c P (k0_part106 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2392 v2394 v2401 v2545 v2662) := by
  rw [k0_part106_eq_skeleton]; unfold k0_part106_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part107 {v2686 v2696} : Keeps c P (k0_part107 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2686 v2696) := by
  rw [k0_part107_eq_skeleton]; unfold k0_part107_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part108 {v2686 v2731} : Keeps c P (k0_part108 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2686 v2731) := by
  rw [k0_part108_eq_skeleton]; unfold k0_part108_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part109 {v2686 v2766} : Keeps c P (k0_part109 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2686 v2766) := by
  rw [k0_part109_eq_skeleton]; unfold k0_part109_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part110 {v2392 v2394 v2401 v2686} : Keeps c P (k0_part110 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2392 v2394 v2401 v2686) := by
  rw [k0_part110_eq_skeleton]; unfold k0_part110_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part111 {v2827} : Keeps c P (k0_part111 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2827) := by
  rw [k0_part111_eq_skeleton]; unfold k0_part111_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part112 {v2827 v2868} : Keeps c P (k0_part112 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2827 v2868) := by
  rw [k0_part112_eq_skeleton]; unfold k0_part112_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part113 {v2827 v2904} : Keeps c P (k0_part113 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2827 v2904) := by
  rw [k0_part113_eq_skeleton]; unfold k0_part113_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part114 {v157 v2326 v2394 v2401 v2827 v2936} : Keeps c P (k0_part114 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2326 v2394 v2401 v2827 v2936) := by
  rw [k0_part114_eq_skeleton]; unfold k0_part114_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part115 {v2170 k0_t10 v2967 v2969} : Keeps c P (k0_part115 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2170 k0_t10 v2967 v2969) := by
  rw [k0_part115_eq_skeleton]; unfold k0_part115_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part116 {v157 v2326 v2987 v3004} : Keeps c P (k0_part116 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2326 v2987 v3004) := by
  rw [k0_part116_eq_skeleton]; unfold k0_part116_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part117 {v2190 k0_t10 v3029 v3030 v3032} : Keeps c P (k0_part117 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2190 k0_t10 v3029 v3030 v3032) := by
  rw [k0_part117_eq_skeleton]; unfold k0_part117_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part118 {v3045 v3069} : Keeps c P (k0_part118 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3045 v3069) := by
  rw [k0_part118_eq_skeleton]; unfold k0_part118_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part119 {v3045} : Keeps c P (k0_part119 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3045) := by
  rw [k0_part119_eq_skeleton]; unfold k0_part119_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part120 {v3045 v3137} : Keeps c P (k0_part120 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3045 v3137) := by
  rw [k0_part120_eq_skeleton]; unfold k0_part120_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part121 {v3033 v3035 v3042 v3170 v3171} : Keeps c P (k0_part121 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3033 v3035 v3042 v3170 v3171) := by
  rw [k0_part121_eq_skeleton]; unfold k0_part121_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part122 {v3186 v3207} : Keeps c P (k0_part122 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3186 v3207) := by
  rw [k0_part122_eq_skeleton]; unfold k0_part122_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part123 {v3186 v3239} : Keeps c P (k0_part123 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3186 v3239) := by
  rw [k0_part123_eq_skeleton]; unfold k0_part123_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part124 {v3186} : Keeps c P (k0_part124 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3186) := by
  rw [k0_part124_eq_skeleton]; unfold k0_part124_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part125 {v3033 v3035 v3042 v3309} : Keeps c P (k0_part125 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3033 v3035 v3042 v3309) := by
  rw [k0_part125_eq_skeleton]; unfold k0_part125_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part126 {v3327} : Keeps c P (k0_part126 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3327) := by
  rw [k0_part126_eq_skeleton]; unfold k0_part126_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part127 {v3327 v3379} : Keeps c P (k0_part127 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3327 v3379) := by
  rw [k0_part127_eq_skeleton]; unfold k0_part127_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part128 {v3327 v3412 v3413} : Keeps c P (k0_part128 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3327 v3412 v3413) := by
  rw [k0_part128_eq_skeleton]; unfold k0_part128_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part129 {v3033 v3035 v3042 v3327} : Keeps c P (k0_part129 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3033 v3035 v3042 v3327) := by
  rw [k0_part129_eq_skeleton]; unfold k0_part129_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part130 {v3468 v3481} : Keeps c P (k0_part130 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3468 v3481) := by
  rw [k0_part130_eq_skeleton]; unfold k0_part130_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part131 {v3468} : Keeps c P (k0_part131 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3468) := by
  rw [k0_part131_eq_skeleton]; unfold k0_part131_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part132 {v3468 v3551} : Keeps c P (k0_part132 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3468 v3551) := by
  rw [k0_part132_eq_skeleton]; unfold k0_part132_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part133 {v157 v2170 v2190 c0_i32_802 c1_i32_804 k0_t10} : Keeps c P (k0_part133 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2170 v2190 c0_i32_802 c1_i32_804 k0_t10) := by
  rw [k0_part133_eq_skeleton]; unfold k0_part133_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t10 {v157 v2170 v2190 v2264 c0_i32_802 k acc} : Keeps c P (k0_t10_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2170 v2190 v2264 c0_i32_802 k acc) := by
  unfold k0_t10_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part134 {v157 v2170 v2269 c1_i32_805 k0_t11} : Keeps c P (k0_part134 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2170 v2269 c1_i32_805 k0_t11) := by
  rw [k0_part134_eq_skeleton]; unfold k0_part134_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part135 {v2348} : Keeps c P (k0_part135 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2348) := by
  rw [k0_part135_eq_skeleton]; unfold k0_part135_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part136 {v2190 k0_t11 v2326 v2385} : Keeps c P (k0_part136 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2190 k0_t11 v2326 v2385) := by
  rw [k0_part136_eq_skeleton]; unfold k0_part136_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part137 {v2404} : Keeps c P (k0_part137 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2404) := by
  rw [k0_part137_eq_skeleton]; unfold k0_part137_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part138 {v2404 v2454} : Keeps c P (k0_part138 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2404 v2454) := by
  rw [k0_part138_eq_skeleton]; unfold k0_part138_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part139 {v2404 v2489} : Keeps c P (k0_part139 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2404 v2489) := by
  rw [k0_part139_eq_skeleton]; unfold k0_part139_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part140 {v2392 v2394 v2401 v2404 v2524} : Keeps c P (k0_part140 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2392 v2394 v2401 v2404 v2524) := by
  rw [k0_part140_eq_skeleton]; unfold k0_part140_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part141 {v2545 v2558} : Keeps c P (k0_part141 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2545 v2558) := by
  rw [k0_part141_eq_skeleton]; unfold k0_part141_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part142 {v2545} : Keeps c P (k0_part142 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2545) := by
  rw [k0_part142_eq_skeleton]; unfold k0_part142_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part143 {v2545 v2626} : Keeps c P (k0_part143 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2545 v2626) := by
  rw [k0_part143_eq_skeleton]; unfold k0_part143_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part144 {v2392 v2394 v2401 v2545 v2662} : Keeps c P (k0_part144 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2392 v2394 v2401 v2545 v2662) := by
  rw [k0_part144_eq_skeleton]; unfold k0_part144_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part145 {v2686 v2696} : Keeps c P (k0_part145 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2686 v2696) := by
  rw [k0_part145_eq_skeleton]; unfold k0_part145_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part146 {v2686 v2731} : Keeps c P (k0_part146 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2686 v2731) := by
  rw [k0_part146_eq_skeleton]; unfold k0_part146_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part147 {v2686 v2766} : Keeps c P (k0_part147 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2686 v2766) := by
  rw [k0_part147_eq_skeleton]; unfold k0_part147_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part148 {v2392 v2394 v2401 v2686} : Keeps c P (k0_part148 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2392 v2394 v2401 v2686) := by
  rw [k0_part148_eq_skeleton]; unfold k0_part148_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part149 {v2827} : Keeps c P (k0_part149 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2827) := by
  rw [k0_part149_eq_skeleton]; unfold k0_part149_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part150 {v2827 v2868} : Keeps c P (k0_part150 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2827 v2868) := by
  rw [k0_part150_eq_skeleton]; unfold k0_part150_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part151 {v2827 v2904} : Keeps c P (k0_part151 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2827 v2904) := by
  rw [k0_part151_eq_skeleton]; unfold k0_part151_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part152 {v157 v2326 v2394 v2401 v2827 v2936} : Keeps c P (k0_part152 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2326 v2394 v2401 v2827 v2936) := by
  rw [k0_part152_eq_skeleton]; unfold k0_part152_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part153 {v2170 k0_t11 v2967 v2969} : Keeps c P (k0_part153 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2170 k0_t11 v2967 v2969) := by
  rw [k0_part153_eq_skeleton]; unfold k0_part153_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part154 {v157 v2326 v2987 v3004} : Keeps c P (k0_part154 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2326 v2987 v3004) := by
  rw [k0_part154_eq_skeleton]; unfold k0_part154_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part155 {v2190 k0_t11 v3029 v3030 v3032} : Keeps c P (k0_part155 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v2190 k0_t11 v3029 v3030 v3032) := by
  rw [k0_part155_eq_skeleton]; unfold k0_part155_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part156 {v3045 v3069} : Keeps c P (k0_part156 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3045 v3069) := by
  rw [k0_part156_eq_skeleton]; unfold k0_part156_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part157 {v3045} : Keeps c P (k0_part157 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3045) := by
  rw [k0_part157_eq_skeleton]; unfold k0_part157_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part158 {v3045 v3137} : Keeps c P (k0_part158 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3045 v3137) := by
  rw [k0_part158_eq_skeleton]; unfold k0_part158_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part159 {v3033 v3035 v3042 v3170 v3171} : Keeps c P (k0_part159 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3033 v3035 v3042 v3170 v3171) := by
  rw [k0_part159_eq_skeleton]; unfold k0_part159_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part160 {v3186 v3207} : Keeps c P (k0_part160 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3186 v3207) := by
  rw [k0_part160_eq_skeleton]; unfold k0_part160_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part161 {v3186 v3239} : Keeps c P (k0_part161 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3186 v3239) := by
  rw [k0_part161_eq_skeleton]; unfold k0_part161_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part162 {v3186} : Keeps c P (k0_part162 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3186) := by
  rw [k0_part162_eq_skeleton]; unfold k0_part162_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part163 {v3033 v3035 v3042 v3309} : Keeps c P (k0_part163 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3033 v3035 v3042 v3309) := by
  rw [k0_part163_eq_skeleton]; unfold k0_part163_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part164 {v3327} : Keeps c P (k0_part164 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3327) := by
  rw [k0_part164_eq_skeleton]; unfold k0_part164_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part165 {v3327 v3379} : Keeps c P (k0_part165 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3327 v3379) := by
  rw [k0_part165_eq_skeleton]; unfold k0_part165_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part166 {v3327 v3412 v3413} : Keeps c P (k0_part166 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3327 v3412 v3413) := by
  rw [k0_part166_eq_skeleton]; unfold k0_part166_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part167 {v3033 v3035 v3042 v3327} : Keeps c P (k0_part167 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3033 v3035 v3042 v3327) := by
  rw [k0_part167_eq_skeleton]; unfold k0_part167_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part168 {v3468 v3481} : Keeps c P (k0_part168 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3468 v3481) := by
  rw [k0_part168_eq_skeleton]; unfold k0_part168_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part169 {v3468} : Keeps c P (k0_part169 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3468) := by
  rw [k0_part169_eq_skeleton]; unfold k0_part169_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part170 {v3468 v3551} : Keeps c P (k0_part170 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v3468 v3551) := by
  rw [k0_part170_eq_skeleton]; unfold k0_part170_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part171 {v157 v2170 v2190 v2269 c1_i32_805 k0_t11} : Keeps c P (k0_part171 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2170 v2190 v2269 c1_i32_805 k0_t11) := by
  rw [k0_part171_eq_skeleton]; unfold k0_part171_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_t11 {v157 v2170 v2190 v2264 c0_i32_802 v2269 k acc} : Keeps c P (k0_t11_body (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2170 v2190 v2264 c0_i32_802 v2269 k acc) := by
  unfold k0_t11_body
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part226 {v157 v2170 v2190 v2264 c0_i32_802} : Keeps c P (k0_part226 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 v157 v2170 v2190 v2264 c0_i32_802) := by
  rw [k0_part226_eq_skeleton]; unfold k0_part226_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_part227 : Keeps c P (k0_part227 (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 ) := by
  rw [k0_part227_eq_skeleton]; unfold k0_part227_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

instance keeps_root_dsa : Keeps c P (cc0_dsa (F := F) i a2 h2 a3 h3 a4 h4 a5 h5 a6 h6 a7 h7 a8 h8 a9 h9 a10 h10 a11 h11 a12 h12 a13 h13 a14 h14 a15 h15 a16 h16 a17 h17 a18 h18 a19 h19 a20 h20 a21 h21 ) := by
  rw [cc0_dsa_eq_skeleton]; unfold cc0_dsa_skel
  repeat' first
    | with_reducible exact Keeps.pure _
    | infer_instance
    | with_reducible refine Keeps.load fun _ => ?_
    | with_reducible exact Keeps.last
    | with_reducible refine Keeps.store fun _ => ?_
    | refine Keeps.loop fun _ _ => ?_
    | refine Keeps.cond (fun _ => ?_) fun _ => ?_
    | refine Keeps.cond' ?_ ?_
    | with_reducible refine Keeps.bind ?_ fun _ => ?_
    | split
    | exact Keeps.pure _
    | dsimp only

end Cert.Kernel.Kept

end
-- ==== Proof.DsaFrame.lean ====
module

public import proofs.«01_k».proof.Proof.DsaKept

/-! The sparse attention call runs and leaves its arguments as they were: its body keeps the ownership of its buffers
(`DsaKept`), whatever they hold, so the pipeline's proof data states nothing of any staging buffer. -/

@[expose] public section

set_option maxRecDepth 16384

noncomputable section

namespace Cert.Kernel.Kept

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [BitOps F]

local notation "𝕄" => MT nD τ sig Unit (Elt F) ℕ (UR sig nD τ) ℕ

section Taking

variable {c : Dev nD} {A B : sProp (MT nD τ sig Unit (Elt F) ℕ (UR sig nD τ) ℕ)} {s : Shape} {e : EltTy} {a : Memref sig .tc .vmem s e}

instance here : Has c (held (F := F) c a) a :=
  ⟨by iintro H; isplitl [H]; · iexact H
      iintro H; iexact H⟩

instance left [h : Has c A a] : Has c iprop(A ∗ B) a :=
  ⟨by iintro ⟨HA, HB⟩
      ihave ⟨H, Hw⟩ := h.take $$ HA
      isplitl [H]; · iexact H
      iintro H
      isplitr [HB]; · iapply Hw; iexact H
      iexact HB⟩

instance right [h : Has c B a] : Has c iprop(A ∗ B) a :=
  ⟨by iintro ⟨HA, HB⟩
      ihave ⟨H, Hw⟩ := h.take $$ HB
      isplitl [H]; · iexact H
      iintro H
      isplitl [HA]; · iexact HA
      iapply Hw; iexact H⟩

end Taking

/-- The call's scratch buffers, at some contents. -/
abbrev scratch (c : Dev nD) : sProp 𝕄 :=
  iprop(held c (Memref.whole cc0_scratch0) ∗ held c (Memref.whole cc0_scratch1) ∗ held c (Memref.whole cc0_scratch2) ∗ held c (Memref.whole cc0_scratch3)
    ∗ held c (Memref.whole cc0_scratch4) ∗ held c (Memref.whole cc0_scratch5) ∗ held c (Memref.whole cc0_scratch6) ∗ held c (Memref.whole cc0_scratch7)
    ∗ held c (Memref.whole cc0_scratch8) ∗ held c (Memref.whole cc0_scratch9) ∗ held c (Memref.whole cc0_scratch10) ∗ held c (Memref.whole cc0_scratch11)
    ∗ held c (Memref.whole cc0_scratch12))

theorem invariant_eq (c : Dev nD) : (Pipeline.ΦA spec0 c : sProp 𝕄) = iprop(scratch c ∗ (∃ r, prngReg c r)) := by
  unfold Pipeline.ΦA; rw [scopedRest0_eq]; simp only [scratch, held, owns_whole]; try rfl

variable (m : (ℓ : Loc nD τ sig) → Buf (Elt F) ℓ) (ρ : Dev nD → PrngReg)

/-- The proof data: nothing is said of what the body leaves in any staging buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is run from and to, at a point. -/
abbrev around (c : Dev nD) (t : Fin cfg0.N) (R : sProp 𝕄) : sProp 𝕄 :=
  iprop((scratch c ∗ (∃ r, prngReg c r)) ∗ R ∗ held c (win0_0.stage (cfg0.slots t 0)) ∗ held c (win0_1.stage (cfg0.slots t 1)) ∗ held c (win0_2.stage (cfg0.slots t 2)) ∗ held c (win0_3.stage (cfg0.slots t 3))
    ∗ held c (win0_4.stage (cfg0.slots t 4)) ∗ held c (win0_5.stage (cfg0.slots t 5)) ∗ held c (win0_6.stage (cfg0.slots t 6)))

theorem body_kept (c : Dev nD) (t : Fin cfg0.N) (R : sProp 𝕄) : Keeps c (around c t R) (bodyAt0 (F := F) t) := by
  unfold bodyAt0
  exact keeps_root_dsa

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y _ => by
  rw [bigSep_W0, bigSep_W0, defs₀_row]
  refine triple_restated (body_kept c t ((rdat m c).owesAt () t.castSucc)).run rfl ?_ fun _ => ?_
  · rw [show (rdat m c).Φ t.castSucc = Pipeline.ΦA spec0 c from rfl, invariant_eq]
    unfold around
    iintro ⟨HΦ, Ho, H0, H1, H2, H3, H4, H5, H6⟩
    isplitl [HΦ]; · iexact HΦ
    isplitl [Ho]; · iexact Ho
    isplitl [H0]; · unfold held; iexists _; iexact H0
    isplitl [H1]; · unfold held; iexists _; iexact H1
    isplitl [H2]; · unfold held; iexists _; iexact H2
    isplitl [H3]; · unfold held; iexists _; iexact H3
    isplitl [H4]; · unfold held; iexists _; iexact H4
    isplitl [H5]; · unfold held; iexists _; iexact H5
    unfold held; iexists _; iexact H6
  · rw [show (rdat m c).Φ t.succ = Pipeline.ΦA spec0 c from rfl, invariant_eq,
      show (rdat m c).owesAt () t.succ = (rdat m c).owesAt () t.castSucc from rfl]
    unfold around held
    iintro ⟨HΦ, Ho, ⟨%d0, H0⟩, ⟨%d1, H1⟩, ⟨%d2, H2⟩, ⟨%d3, H3⟩, ⟨%d4, H4⟩, ⟨%d5, H5⟩, ⟨%d6, H6⟩⟩
    isplitl [HΦ]; · iexact HΦ
    isplitl [Ho]; · iexact Ho
    isplitl [H0]; · iexists d0; isplitr; · ipureintro; trivial
                    iexact H0
    isplitl [H1]; · iexists d1; isplitr; · ipureintro; trivial
                    iexact H1
    isplitl [H2]; · iexists d2; isplitr; · ipureintro; trivial
                    iexact H2
    isplitl [H3]; · iexists d3; isplitr; · ipureintro; trivial
                    iexact H3
    isplitl [H4]; · iexists d4; isplitr; · ipureintro; trivial
                    iexact H4
    isplitl [H5]; · iexists d5; isplitr; · ipureintro; trivial
                    iexact H5
    iexists d6; isplitr; · ipureintro; trivial
    iexact H6

set_option backward.isDefEq.respectTransparency.types false in
theorem run : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: the call terminates without a fault, its arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨RDat.FramePost.arr_in h.1 c 0 rfl, RDat.FramePost.arr_in h.1 c 1 rfl, RDat.FramePost.arr_in h.1 c 2 rfl,
      RDat.FramePost.arr_in h.1 c 3 rfl, RDat.FramePost.arr_in h.1 c 4 rfl, RDat.FramePost.arr_in h.1 c 5 rfl⟩, h.2⟩) (run m ρ)

end Cert.Kernel.Kept

end
-- ==== Proof.LayerNorm.lean ====
/- Layer normalisation of one row of 1024 numbers, at the ideal instance, and the two forms it takes in the programs:
   a block's rows inside a kernel (sums over the block's last axis) and a whole array's rows on the host. -/
module

public import proofs.«01_k».proof.Proof.Gen.MergeIdeal.Skeleton
public import proofs.«01_k».proof.Proof.Gen.MergeRefIdeal
public import Idealize.ShloMosaic.Lib.Pointwise

@[expose] public section

set_option maxRecDepth 16384

noncomputable section

open Idealize.ShloMosaic Idealize.ShloMosaic.TcCoe
open scoped BigOperators

namespace Cert.RowNorm

/-- The mean of a row. -/
def mean (row : Fin 1024 → EReal) : EReal := Ideal.div (∑ k, row k) (Ideal.ofBits .f32 0x44800000#32)

/-- Entry `l` of the normalised row: centred, scaled by the inverse root of the variance, then gain `γ` and shift `β`. -/
def norm (row : Fin 1024 → EReal) (γ β : EReal) (l : Fin 1024) : EReal :=
  (row l - mean row)
    * Ideal.rsqrt (Ideal.div (∑ k, (row k - mean row) * (row k - mean row)) (Ideal.ofBits .f32 0x44800000#32)
        + Ideal.ofBits .f32 0x3727C5AC#32) * γ + β

end Cert.RowNorm

namespace Cert.MergeIdeal.Pure
open Cert.MergeIdeal Cert.MergeIdeal.Gen

/-- The merge kernel's last payload is the normalisation of each row of the block it is given. -/
theorem norm_block (z : FVec Ideal S512x1024 .f32) (g b : FVec Ideal S1x1024 .f32) (r : Fin 512) (l : Fin 1024) :
    k0_pay1 (F := Ideal) z g b (ix3 0 r l) = RowNorm.norm (fun k => z (ix2 r k)) (g (ix2 0 l)) (b (ix2 0 l)) l := by
  pointwise [k0_pay1, RowNorm.norm, RowNorm.mean]

end Cert.MergeIdeal.Pure

namespace Cert.MergeRefIdeal.Pure
open Cert.MergeRefIdeal Cert.MergeRefIdeal.Gen

/-- The host's layer normalisation of a whole array, as the reference computes it. -/
def normed (z : FVec Ideal S8x8192x1024 .f32) (g b : FVec Ideal S1024 .f32) : FVec Ideal S8x8192x1024 .f32 :=
  let mu : FVec Ideal S8x8192x1 .f32 := Host.divf
    (broadcastInDim S8x8192x1 ![0, 1] bcast_S8x8192_S8x8192x1_0_1 (Host.reduceAdd z (constant S_ .f32 0x00000000#32) reducesTo_S8x8192x1024_S8x8192_d2 h_S_))
    (broadcastInDim S8x8192x1 ![] bcast_S_S8x8192x1 (constant S_ .f32 0x44800000#32))
  let d : FVec Ideal S8x8192x1024 .f32 := subf z (broadcastInDim S8x8192x1024 ![0, 1, 2] bcast_S8x8192x1_S8x8192x1024_0_1_2 mu)
  let var : FVec Ideal S8x8192x1 .f32 := Host.divf
    (broadcastInDim S8x8192x1 ![0, 1] bcast_S8x8192_S8x8192x1_0_1 (Host.reduceAdd (mulf d d) (constant S_ .f32 0x00000000#32) reducesTo_S8x8192x1024_S8x8192_d2 h_S_))
    (broadcastInDim S8x8192x1 ![] bcast_S_S8x8192x1 (constant S_ .f32 0x44800000#32))
  let inv : FVec Ideal S8x8192x1 .f32 := Host.rsqrt (addf var (broadcastInDim S8x8192x1 ![] bcast_S_S8x8192x1 (constant S_ .f32 0x3727C5AC#32)))
  addf (mulf (mulf d (broadcastInDim S8x8192x1024 ![0, 1, 2] bcast_S8x8192x1_S8x8192x1024_0_1_2 inv))
      (broadcastInDim S8x8192x1024 ![0, 1, 2] bcast_S1x1x1024_S8x8192x1024_0_1_2 (broadcastInDim S1x1x1024 ![2] bcast_S1024_S1x1x1024_2 g)))
    (broadcastInDim S8x8192x1024 ![0, 1, 2] bcast_S1x1x1024_S8x8192x1024_0_1_2 (broadcastInDim S1x1x1024 ![2] bcast_S1024_S1x1x1024_2 b))

/-- It normalises each row. -/
theorem normed_at (z : FVec Ideal S8x8192x1024 .f32) (g b : FVec Ideal S1024 .f32) (i : Fin 8) (r : Fin 8192) (l : Fin 1024) :
    normed z g b (ix3 i r l) = RowNorm.norm (fun k => z (ix3 i r k)) (g (ix1 l)) (b (ix1 l)) l := by
  pointwise [normed, RowNorm.norm, RowNorm.mean]
  all_goals simp only [zero_add]

end Cert.MergeRefIdeal.Pure
-- ==== Proof.MergeValue.lean ====
/- The merge call: what it leaves in its result array is the reference's term of the argument arrays, at the ideal
   instance. Both sides gate two branch products, project the sum, add the scaled residual, and normalise each row. -/
module

public import proofs.«01_k».proof.Proof.LayerNorm
public import proofs.«01_k».proof.Proof.Gen.MergeIdeal.Frame
public import proofs.«01_k».proof.Proof.Gen.MergeRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MergeRefIdeal.Pure
open Cert.MergeRefIdeal Cert.MergeRefIdeal.Gen

/-- The array the reference normalises: the scaled residual plus the projection of the gated branches. -/
def mixed (x : FVec Ideal S8x8192x1024 .f32) (yg yd : FVec Ideal S8x8192x512 .bf16) (wg : FVec Ideal S1024x2048 .f32)
    (wb : FVec Ideal S2x512x1024 .f32) (wo : FVec Ideal S1024x1024 .f32) : FVec Ideal S8x8192x1024 .f32 :=
  let g : FVec Ideal S8x8192x2048 .f32 := Host.divf
    (broadcastInDim S8x8192x2048 ![] bcast_S_S8x8192x2048 (constant S_ .f32 0x3F800000#32))
    (addf (broadcastInDim S8x8192x2048 ![] bcast_S_S8x8192x2048 (constant S_ .f32 0x3F800000#32))
      (Host.exp (Host.negf (Host.dotGeneral dot_S8x8192x1024_S1024x2048_S8x8192x2048_2_0_01_1_n_n none x wg))))
  let w0 : FVec Ideal S512x1024 .f32 := shapeCast _ (extractStridedSlice S1x512x1024 ![0, 0, 0] wb slices_S2x512x1024_S1x512x1024_0_0_0) shapeCasts_S1x512x1024_S512x1024
  let w1 : FVec Ideal S512x1024 .f32 := shapeCast _ (extractStridedSlice S1x512x1024 ![1, 0, 0] wb slices_S2x512x1024_S1x512x1024_1_0_0) shapeCasts_S1x512x1024_S512x1024
  let mix : FVec Ideal S8x8192x1024 .f32 := addf
    (mulf (extractStridedSlice S8x8192x1024 ![0, 0, 0] g slices_S8x8192x2048_S8x8192x1024_0_0_0)
      (Host.dotGeneral dot_S8x8192x512_S512x1024_S8x8192x1024_2_0_01_1_n_n none (extf .f32 yg bitsLt_bf16_f32) w0))
    (mulf (extractStridedSlice S8x8192x1024 ![0, 0, 1024] g slices_S8x8192x2048_S8x8192x1024_0_0_1024)
      (Host.dotGeneral dot_S8x8192x512_S512x1024_S8x8192x1024_2_0_01_1_n_n none (extf .f32 yd bitsLt_bf16_f32) w1))
  addf (mulf (broadcastInDim S8x8192x1024 ![] bcast_S_S8x8192x1024 (constant S_ .f32 0x3F9837F0#32)) x)
    (Host.dotGeneral dot_S8x8192x1024_S1024x1024_S8x8192x1024_2_0_01_1_n_n none mix wo)

set_option maxHeartbeats 1600000 in
/-- The reference's result is the normalised `mixed`. -/
theorem res_eq (m : (ℓ : Loc nD τ sig) → Buf (Elt Ideal) ℓ) (c : Dev nD) :
    Cert.MergeRefIdeal.Value.res_main_v47 m c
      = normed (mixed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
        (m ((c.tc : Thread nD τ).loc main_arg6)) (m ((c.tc : Thread nD τ).loc main_arg7)) := by
  unfold Cert.MergeRefIdeal.Value.res_main_v47 normed mixed
  rfl

end Cert.MergeRefIdeal.Pure

namespace Cert.MergeIdeal.Pure
open Cert.MergeIdeal Cert.MergeIdeal.Gen
open Cert.MergeRefIdeal.Pure (mixed normed normed_at)

variable (m : (ℓ : Loc nD τ sig) → Buf (Elt Ideal) ℓ)

/-- The windows' block indices: the rows' window moves with the grid point, the weights' stay. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0] ∧ win0_4.index t = ![0, 0, 0] ∧ win0_5.index t = ![0, 0]
    ∧ win0_6.index t = ![0, 0] ∧ win0_7.index t = ![0, 0] ∧ win0_8.index t = ![t.val / 16, t.val % 16, 0] :=
  (by decide +kernel : ∀ t : Fin grid0.N, _)

/-- The batch and the row of the array at which row `r` of point `t`'s block lies. -/
def batch (t : Fin cfg0.N) : Fin 8 := ⟨t.val / 16, by have h : t.val < 128 := t.isLt; omega⟩
@[inherit_doc batch]
def place (t : Fin cfg0.N) (r : Fin 512) : Fin 8192 := ⟨t.val % 16 * 512 + r.val, by have := r.isLt; omega⟩

set_option maxHeartbeats 1600000 in
/-- Before the normalisation: the block's entry is the entry of `mixed` at the block's place. -/
theorem entry (c : Dev nD) (t : Fin cfg0.N) (r : Fin 512) (k : Fin 1024) :
    k0_pay2 (F := Ideal) (iblk m c 0 t) (iblk m c 3 t) (iblk m c 1 t) (View.ld (iblk m c 4 t) r0_3) (iblk m c 2 t) (View.ld (iblk m c 4 t) r0_4)
        (iblk m c 5 t) (ix2 r k)
      = (mixed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))) (ix3 (batch t) (place t r) k) := by
  pointwise [k0_pay2, mixed, Ideal.logistic]
  blk_point [iblk, V, idx t, batch, place]

/-- The gain's block is the gain, as a row. -/
theorem gain (c : Dev nD) (t : Fin cfg0.N) (l : Fin 1024) :
    k0_pay3 (F := Ideal) (iblk m c 6 t) (ix2 0 l) = m ((c.tc : Thread nD τ).loc main_arg6) (ix1 l) := by
  pointwise [k0_pay3]
  blk_point [iblk, V, idx t]

/-- The shift's block is the shift, as a row. -/
theorem shift (c : Dev nD) (t : Fin cfg0.N) (l : Fin 1024) :
    iblk m c 7 t (ix2 0 l : S1x1024.Idx) = m ((c.tc : Thread nD τ).loc main_arg7) (ix1 l) := by
  blk_point [iblk, V, idx t]

/-- What the body stores at a grid point is the reference's value at the place the block has in the array. -/
theorem stored (c : Dev nD) (t : Fin cfg0.N) (r : Fin 512) (l : Fin 1024) :
    k0_pay1 (F := Ideal) (k0_pay2 (iblk m c 0 t) (iblk m c 3 t) (iblk m c 1 t) (View.ld (iblk m c 4 t) r0_3) (iblk m c 2 t)
        (View.ld (iblk m c 4 t) r0_4) (iblk m c 5 t)) (k0_pay3 (iblk m c 6 t)) (iblk m c 7 t) (ix3 0 r l)
      = normed (mixed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
        (m ((c.tc : Thread nD τ).loc main_arg6)) (m ((c.tc : Thread nD τ).loc main_arg7)) (ix3 (batch t) (place t r) l) := by
  rw [norm_block, normed_at, gain, shift, funext fun k => entry m c t r k]

/-- The result array after the run. -/
theorem final (c : Dev nD) : (dats m 0 c).arrAt 8 (cfgs 0).N
    = normed (mixed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
        (m ((c.tc : Thread nD τ).loc main_arg6)) (m ((c.tc : Thread nD τ).loc main_arg7)) := by
  refine (dats m 0 c).arrAt_eq_of_covers 8 _ (by decide +kernel) fun t _ y => ?_
  blk_simp
  rw [after0_8]
  frame_out
  have hy : y = (ix3 0 (y 1) (y 2) : S1x512x1024.Idx) := by
    refine (eq_ix3 y).trans ?_
    idx_ext
  have he : ((View.whole main_v5).slice (win0_8.rect t)).emb y = (ix3 (batch t) (place t (y 1)) (y 2) : S8x8192x1024.Idx) := by
    blk_ext [idx t, batch, place]
  exact (congrArg _ hy).trans ((stored m c t (y 1) (y 2)).trans (congrArg _ he).symm)

end Cert.MergeIdeal.Pure
-- ==== Proof.MergeClaim.lean ====
module

public import proofs.«01_k».proof.Defs
public import proofs.«01_k».proof.Proof.Gen.Merge.Frame
public import proofs.«01_k».proof.Proof.MergeValue

/-! The claims on the merge call: the two frames are the generated ones, and the equality of the results is
`MergeValue`'s reading of both. -/

@[expose] public section

noncomputable section

namespace Cert.Proof

open Idealize.ShloMosaic Idealize.SL.Sem

theorem merge_frame : Cert.quiescent_Merge := fun m g _ => Cert.Merge.Gen.frame m g

theorem merge_ideal_frame : Cert.quiescent_MergeIdeal := fun m g _ => Cert.MergeIdeal.Gen.frame m g

theorem merge_reference_frame : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run m g)

theorem merge_value : Cert.algebraic_MergeIdeal_MergeRefIdeal := by
  pair_intro
  · run_from Cert.MergeIdeal.Gen.run_main m g
  · run_from Cert.MergeRefIdeal.Value.run m' g'
    obtain ⟨h0, h1, h2, h3, h4, h5, h6, h7⟩ := hagree c
    refine (Cert.MergeRefIdeal.Pure.res_eq m' c).trans ?_
    rw [h0, h1, h2, h3, h4, h5, h6, h7]
    exact (Cert.MergeIdeal.Pure.final m c).symm

end Cert.Proof

end
-- ==== Proof.FfnBody.lean ====
/- The feed-forward call's body, at the ideal instance: its scratch buffers' contents as functions of the grid point's
   blocks, and the formula of the block it stores.

   The body works through eleven chunks of the gate and value columns. For each chunk it stores, in one of the two slots of a
   scratch buffer, eight rows kept from the rows before and the 512 rows of the up projection; then, 64 rows at a time,
   the three-row convolution and the gated product, stored in a second scratch buffer; at the end it projects the eleven
   gated chunks down together, adds the scaled residual, and normalises each row. -/
module

public import proofs.«01_k».proof.Proof.LayerNorm
public import proofs.«01_k».proof.Proof.Gen.FfnIdeal.Skeleton
public import Idealize.ShloMosaic.Lib.Pipeline.ReadBack
public import Idealize.ShloMosaic.Lib.Pipeline.ValueKit

@[expose] public section

set_option maxRecDepth 16384

noncomputable section

open Idealize.ShloMosaic Idealize.ShloMosaic.TcCoe
open scoped BigOperators

namespace Cert.Pieces

variable {S : Shape} {e : EltTy}

/-- Where the last write holds the index, the contents are its payload there. -/
theorem canon_hit (off size : Fin S.rank → Nat) (inb : ∀ a, off a + size a ≤ S.size a)
    (w : (Rect.unit off size inb).shape.Idx → Elt Ideal e) (L : List (View.Piece (Elt Ideal) S e)) (y : S.Idx)
    (x : (Rect.unit off size inb).shape.Idx) (h : ∀ a, (y a : Nat) = off a + x a) :
    View.canon (Val := Elt Ideal) ((⟨Rect.unit off size inb, w⟩ : View.Piece (Elt Ideal) S e) :: L) y = w x := by
  have hy : y = (Rect.unit off size inb).emb x := by
    funext a
    refine Fin.ext ((h a).trans ?_)
    rw [Rect.emb_apply]
    show _ = off a + 1 * (x a : Nat)
    omega
  rw [hy, View.canon_cons_emb]

/-- Where the last write misses the index, along some axis, the contents are the earlier writes'. -/
theorem canon_miss (off size : Fin S.rank → Nat) (inb : ∀ a, off a + size a ≤ S.size a)
    (w : (Rect.unit off size inb).shape.Idx → Elt Ideal e) (L : List (View.Piece (Elt Ideal) S e)) (y : S.Idx)
    (a : Fin S.rank) (h : (y a : Nat) < off a ∨ off a + size a ≤ (y a : Nat)) :
    View.canon (Val := Elt Ideal) ((⟨Rect.unit off size inb, w⟩ : View.Piece (Elt Ideal) S e) :: L) y
      = View.canon (Val := Elt Ideal) L y := by
  refine View.canon_cons_of_not_mem _ _ fun hm => ?_
  have h2 := (Rect.mem_set_unit (off := off) (size := size) (inb := inb)).mp hm a
  omega

/-- A read of a rectangle, at an index. -/
theorem read_at {sig : RefSig} {κ : Kind} {sp : Space} (v : View sig κ sp S e) (off size : Fin S.rank → Nat)
    (inb : ∀ a, off a + size a ≤ S.size a) (L : List (View.Piece (Elt Ideal) S e))
    (x : (Rect.unit off size inb).toLoadRect.shape.Idx) (y : S.Idx) (h : ∀ a, (y a : Nat) = off a + x a) :
    v.readCov (Val := Elt Ideal) L (Rect.unit off size inb).toLoadRect x = View.canon (Val := Elt Ideal) L y := by
  rw [View.readCov_eq_canon']
  refine congrArg (View.canon (Val := Elt Ideal) L) (funext fun a => Fin.ext ?_)
  refine Eq.trans ?_ (h a).symm
  show off a + 1 * (x a : Nat) = _
  omega

end Cert.Pieces

namespace Cert.FfnIdeal.Body
open Cert.FfnIdeal Cert.FfnIdeal.Gen Cert.Pieces

/-! ## The formulas -/

/-- Row `r` of chunk `c`'s up projection, at lane `j`. -/
def up (X : FVec Ideal S1x512x1024 .f32) (W : FVec Ideal S11x1024x512 .bf16) (c : Fin 11) (r : Fin 512) (j : Fin 512) : EReal :=
  ∑ k : Fin 1024, X (ix3 0 r k) * W (ix3 c k j)

/-- The slot's 520 rows: eight kept from before, then the block's own 512. -/
def rows (X : FVec Ideal S1x512x1024 .f32) (W : FVec Ideal S11x1024x512 .bf16) (H : Fin 11 → Fin 8 → Fin 512 → EReal)
    (c : Fin 11) (p : Fin 520) (j : Fin 512) : EReal :=
  if h : p.val < 8 then H c ⟨p.val, h⟩ j else up X W c ⟨p.val - 8, by omega⟩ j

/-- The three-row convolution with its shift. -/
def conv (CW : FVec Ideal S11x8x512 .f32) (CB : FVec Ideal S11x1x512 .f32) (c : Fin 11) (j : Fin 512) (u0 u1 u2 : EReal) : EReal :=
  CB (ix3 c 0 j) + u0 * CW (ix3 c 0 j) + u1 * CW (ix3 c 1 j) + u2 * CW (ix3 c 2 j)

/-- A gate times its logistic. -/
def silu (x : EReal) : EReal := x * Ideal.div 1 (1 + Ideal.exp (-x))

/-! ## The payloads, at an index -/

/-- One chunk's gated rows, of the weights' chunk and the three shifted reads of the slot. -/
def gated (w : Vec Ideal S1x8x512 .f32) (b : Vec Ideal S1x1x512 .f32) (u0 u1 u2 : Vec Ideal S1x64x512 .f32) : FVec Ideal S1x64x256 .bf16 :=
  k0_pay16 (F := Ideal) (k0_pay10 w) (k0_pay11 b) u0 u1 u2

theorem gated_at (w : Vec Ideal S1x8x512 .f32) (b : Vec Ideal S1x1x512 .f32) (u0 u1 u2 : Vec Ideal S1x64x512 .f32) (r : Fin 64) (l : Fin 256) :
    gated w b u0 u1 u2 (ix3 0 r l)
      = silu (b (ix3 0 0 ⟨l.val, by omega⟩) + u0 (ix3 0 r ⟨l.val, by omega⟩) * w (ix3 0 0 ⟨l.val, by omega⟩)
            + u1 (ix3 0 r ⟨l.val, by omega⟩) * w (ix3 0 1 ⟨l.val, by omega⟩) + u2 (ix3 0 r ⟨l.val, by omega⟩) * w (ix3 0 2 ⟨l.val, by omega⟩))
        * (b (ix3 0 0 ⟨256 + l.val, by omega⟩) + u0 (ix3 0 r ⟨256 + l.val, by omega⟩) * w (ix3 0 0 ⟨256 + l.val, by omega⟩)
            + u1 (ix3 0 r ⟨256 + l.val, by omega⟩) * w (ix3 0 1 ⟨256 + l.val, by omega⟩)
            + u2 (ix3 0 r ⟨256 + l.val, by omega⟩) * w (ix3 0 2 ⟨256 + l.val, by omega⟩)) := by
  pointwise [gated, k0_pay16, k0_pay10, k0_pay11, Ideal.logistic, silu]

/-- One chunk's up projection. -/
theorem up_at (X : Vec Ideal S1x512x1024 .f32) (Wc : Vec Ideal S1x1024x512 .bf16) (r j : Fin 512) :
    k0_pay4 (F := Ideal) X Wc (ix3 0 r j) = ∑ k : Fin 1024, X (ix3 0 r k) * Wc (ix3 0 k j) := by
  pointwise [k0_pay4, k0_pay2]

/-- The kept rows pass through unchanged. -/
theorem kept_at (h : Vec Ideal S1x8x512 .f32) (p : Fin 8) (j : Fin 512) : k0_pay3 (F := Ideal) h (ix3 0 p j) = h (ix3 0 p j) := by
  pointwise [k0_pay3]

/-- The eleven gated chunks side by side. -/
def cat (a0 a1 a2 a3 a4 a5 a6 a7 a8 a9 a10 : Vec Ideal S1x512x256 .bf16) : FVec Ideal S512x2816 .bf16 := concatenate S512x2816 1 [⟨S512x256, shapeCast
    S512x256 a0 shapeCasts_S1x512x256_S512x256⟩, ⟨S512x256, shapeCast S512x256 a1 shapeCasts_S1x512x256_S512x256⟩, ⟨S512x256, shapeCast S512x256 a2
    shapeCasts_S1x512x256_S512x256⟩, ⟨S512x256, shapeCast S512x256 a3 shapeCasts_S1x512x256_S512x256⟩, ⟨S512x256, shapeCast S512x256 a4
    shapeCasts_S1x512x256_S512x256⟩, ⟨S512x256, shapeCast S512x256 a5 shapeCasts_S1x512x256_S512x256⟩, ⟨S512x256, shapeCast S512x256 a6
    shapeCasts_S1x512x256_S512x256⟩, ⟨S512x256, shapeCast S512x256 a7 shapeCasts_S1x512x256_S512x256⟩, ⟨S512x256, shapeCast S512x256 a8
    shapeCasts_S1x512x256_S512x256⟩, ⟨S512x256, shapeCast S512x256 a9 shapeCasts_S1x512x256_S512x256⟩, ⟨S512x256, shapeCast S512x256 a10
    shapeCasts_S1x512x256_S512x256⟩]
    concatenates_S512x256_S512x256_S512x256_S512x256_S512x256_S512x256_S512x256_S512x256_S512x256_S512x256_S512x256_S512x2816_d1

/-- A chunk's entry at an index. -/
theorem flat_at (a : Vec Ideal S1x512x256 .bf16) (r : Fin 512) (j : Fin 256) :
    (shapeCast S512x256 a shapeCasts_S1x512x256_S512x256 : FVec Ideal S512x256 .bf16) (ix2 r j) = a (ix3 0 r j) := by
  pointwise

/-- Off the last axis the two indices agree. -/
theorem off_axis (r : Fin 512) (j : Fin 256) (k : Fin 2816) (b : Fin 2) (hb : b ≠ 1) :
    ((ix2 r j : S512x256.Idx) b).val = ((ix2 r k : S512x2816.Idx) b).val := by
  fin_cases b
  · rfl
  · exact absurd rfl hb

set_option maxHeartbeats 1600000 in
theorem cat_at (a0 a1 a2 a3 a4 a5 a6 a7 a8 a9 a10 : Vec Ideal S1x512x256 .bf16) (A : Fin 11 → Fin 512 → Fin 256 → EReal) (h0 : ∀ r j, a0 (ix3 0 r j) =
    A 0 r j) (h1 : ∀ r j, a1 (ix3 0 r j) = A 1 r j) (h2 : ∀ r j, a2 (ix3 0 r j) = A 2 r j) (h3 : ∀ r j, a3 (ix3 0 r j) = A 3 r j) (h4 : ∀ r j, a4 (ix3
    0 r j) = A 4 r j) (h5 : ∀ r j, a5 (ix3 0 r j) = A 5 r j) (h6 : ∀ r j, a6 (ix3 0 r j) = A 6 r j) (h7 : ∀ r j, a7 (ix3 0 r j) = A 7 r j) (h8 : ∀ r
    j, a8 (ix3 0 r j) = A 8 r j) (h9 : ∀ r j, a9 (ix3 0 r j) = A 9 r j) (h10 : ∀ r j, a10 (ix3 0 r j) = A 10 r j) (r : Fin 512) (c : Fin 11) (j : Fin
    256) : cat a0 a1 a2 a3 a4 a5 a6 a7 a8 a9 a10 (ix2 r ⟨c.val * 256 + j.val, by omega⟩) = A c r j := by
  obtain ⟨c, hc⟩ := c
  unfold cat
  interval_cases c
  · refine (concatenate_apply_piece (t := S512x2816) (1 : Fin 2) _ _ _ 0 ?_ S512x256 _ ?_ rfl 0 ?_ (ix2 r j) ?_ ?_).trans ((flat_at _ r j).trans (h0 r j))
    · exact (by decide : 0 < 11)
    · rfl
    · rfl
    · exact fun b hb => off_axis r j _ b hb
    · rfl
  · refine (concatenate_apply_piece (t := S512x2816) (1 : Fin 2) _ _ _ 1 ?_ S512x256 _ ?_ rfl 256 ?_ (ix2 r j) ?_ ?_).trans ((flat_at _ r j).trans (h1 r j))
    · exact (by decide : 1 < 11)
    · rfl
    · rfl
    · exact fun b hb => off_axis r j _ b hb
    · rfl
  · refine (concatenate_apply_piece (t := S512x2816) (1 : Fin 2) _ _ _ 2 ?_ S512x256 _ ?_ rfl 512 ?_ (ix2 r j) ?_ ?_).trans ((flat_at _ r j).trans (h2 r j))
    · exact (by decide : 2 < 11)
    · rfl
    · rfl
    · exact fun b hb => off_axis r j _ b hb
    · rfl
  · refine (concatenate_apply_piece (t := S512x2816) (1 : Fin 2) _ _ _ 3 ?_ S512x256 _ ?_ rfl 768 ?_ (ix2 r j) ?_ ?_).trans ((flat_at _ r j).trans (h3 r j))
    · exact (by decide : 3 < 11)
    · rfl
    · rfl
    · exact fun b hb => off_axis r j _ b hb
    · rfl
  · refine (concatenate_apply_piece (t := S512x2816) (1 : Fin 2) _ _ _ 4 ?_ S512x256 _ ?_ rfl 1024 ?_ (ix2 r j) ?_ ?_).trans ((flat_at _ r j).trans (h4 r j))
    · exact (by decide : 4 < 11)
    · rfl
    · rfl
    · exact fun b hb => off_axis r j _ b hb
    · rfl
  · refine (concatenate_apply_piece (t := S512x2816) (1 : Fin 2) _ _ _ 5 ?_ S512x256 _ ?_ rfl 1280 ?_ (ix2 r j) ?_ ?_).trans ((flat_at _ r j).trans (h5 r j))
    · exact (by decide : 5 < 11)
    · rfl
    · rfl
    · exact fun b hb => off_axis r j _ b hb
    · rfl
  · refine (concatenate_apply_piece (t := S512x2816) (1 : Fin 2) _ _ _ 6 ?_ S512x256 _ ?_ rfl 1536 ?_ (ix2 r j) ?_ ?_).trans ((flat_at _ r j).trans (h6 r j))
    · exact (by decide : 6 < 11)
    · rfl
    · rfl
    · exact fun b hb => off_axis r j _ b hb
    · rfl
  · refine (concatenate_apply_piece (t := S512x2816) (1 : Fin 2) _ _ _ 7 ?_ S512x256 _ ?_ rfl 1792 ?_ (ix2 r j) ?_ ?_).trans ((flat_at _ r j).trans (h7 r j))
    · exact (by decide : 7 < 11)
    · rfl
    · rfl
    · exact fun b hb => off_axis r j _ b hb
    · rfl
  · refine (concatenate_apply_piece (t := S512x2816) (1 : Fin 2) _ _ _ 8 ?_ S512x256 _ ?_ rfl 2048 ?_ (ix2 r j) ?_ ?_).trans ((flat_at _ r j).trans (h8 r j))
    · exact (by decide : 8 < 11)
    · rfl
    · rfl
    · exact fun b hb => off_axis r j _ b hb
    · rfl
  · refine (concatenate_apply_piece (t := S512x2816) (1 : Fin 2) _ _ _ 9 ?_ S512x256 _ ?_ rfl 2304 ?_ (ix2 r j) ?_ ?_).trans ((flat_at _ r j).trans (h9 r j))
    · exact (by decide : 9 < 11)
    · rfl
    · rfl
    · exact fun b hb => off_axis r j _ b hb
    · rfl
  · refine (concatenate_apply_piece (t := S512x2816) (1 : Fin 2) _ _ _ 10 ?_ S512x256 _ ?_ rfl 2560 ?_ (ix2 r j) ?_ ?_).trans ((flat_at _ r j).trans (h10 r j))
    · exact (by decide : 10 < 11)
    · rfl
    · rfl
    · exact fun b hb => off_axis r j _ b hb
    · rfl

/-- A row before the normalisation: the scaled residual plus the down projection. -/
def before (k : FVec Ideal S512x2816 .bf16) (D : FVec Ideal S2816x1024 .bf16) (X : FVec Ideal S1x512x1024 .f32) : FVec Ideal S512x1024 .f32 :=
  addf (mulf (broadcast S512x1024 (Scalar.ofBits (F := Ideal) .f32 0x3F9837F0#32)) (shapeCast S512x1024 X shapeCasts_S1x512x1024_S512x1024))
    (matmul dot_S512x2816_S2816x1024_S512x1024_1_0_0_1_n_n none k (shapeCast S2816x1024 D shapeCasts_S2816x1024_S2816x1024) (constant S512x1024 .f32 0x00000000#32))

theorem before_at (k : FVec Ideal S512x2816 .bf16) (D : FVec Ideal S2816x1024 .bf16) (X : FVec Ideal S1x512x1024 .f32) (r : Fin 512) (l : Fin 1024) :
    before k D X (ix2 r l) = Ideal.ofBits .f32 0x3F9837F0#32 * X (ix3 0 r l) + ∑ n : Fin 2816, k (ix2 r n) * D (ix2 n l) := by
  pointwise [before]

/-- The last payload is the normalisation of each row of `before`. -/
theorem down_eq (a0 a1 a2 a3 a4 a5 a6 a7 a8 a9 a10 : Vec Ideal S1x512x256 .bf16) (D : FVec Ideal S2816x1024 .bf16) (X : FVec Ideal S1x512x1024 .f32)
    (g b : FVec Ideal S1x1024 .f32) : k0_pay247 (F := Ideal) (k0_pay237 a0) (k0_pay238 a1) (k0_pay239 a2) (k0_pay240 a3) (k0_pay241 a4) (k0_pay242 a5)
    (k0_pay243 a6) (k0_pay244 a7) (k0_pay245 a8) (k0_pay246 a9) a10 D X g b = Cert.MergeIdeal.Gen.k0_pay1 (F := Ideal) (before (cat a0 a1 a2 a3 a4 a5
    a6 a7 a8 a9 a10) D X) (Cert.MergeIdeal.Gen.k0_pay3 (F := Ideal) g) b := rfl

/-- The stored block's row: the residual scaled, plus the down projection of the gated chunks. -/
def line (X : FVec Ideal S1x512x1024 .f32) (D : FVec Ideal S2816x1024 .bf16) (A : Fin 11 → Fin 512 → Fin 256 → EReal) (r : Fin 512) (l : Fin 1024) : EReal :=
  Ideal.ofBits .f32 0x3F9837F0#32 * X (ix3 0 r l)
    + ∑ c : Fin 11, ∑ j : Fin 256, A c r j * D (ix2 ⟨c.val * 256 + j.val, by omega⟩ l)

theorem down_at (a0 a1 a2 a3 a4 a5 a6 a7 a8 a9 a10 : Vec Ideal S1x512x256 .bf16) (D : FVec Ideal S2816x1024 .bf16) (X : FVec Ideal S1x512x1024 .f32)
    (g b : FVec Ideal S1x1024 .f32) (A : Fin 11 → Fin 512 → Fin 256 → EReal) (h0 : ∀ r j, a0 (ix3 0 r j) = A 0 r j) (h1 : ∀ r j, a1 (ix3 0 r j) = A 1
    r j) (h2 : ∀ r j, a2 (ix3 0 r j) = A 2 r j) (h3 : ∀ r j, a3 (ix3 0 r j) = A 3 r j) (h4 : ∀ r j, a4 (ix3 0 r j) = A 4 r j) (h5 : ∀ r j, a5 (ix3 0 r
    j) = A 5 r j) (h6 : ∀ r j, a6 (ix3 0 r j) = A 6 r j) (h7 : ∀ r j, a7 (ix3 0 r j) = A 7 r j) (h8 : ∀ r j, a8 (ix3 0 r j) = A 8 r j) (h9 : ∀ r j, a9
    (ix3 0 r j) = A 9 r j) (h10 : ∀ r j, a10 (ix3 0 r j) = A 10 r j) (r : Fin 512) (l : Fin 1024) : k0_pay247 (F := Ideal) (k0_pay237 a0) (k0_pay238
    a1) (k0_pay239 a2) (k0_pay240 a3) (k0_pay241 a4) (k0_pay242 a5) (k0_pay243 a6) (k0_pay244 a7) (k0_pay245 a8) (k0_pay246 a9) a10 D X g b (ix3 0 r
    l) = RowNorm.norm (line X D A r) (g (ix2 0 l)) (b (ix2 0 l)) l := by
  rw [down_eq, Cert.MergeIdeal.Pure.norm_block]
  have hg : Cert.MergeIdeal.Gen.k0_pay3 (F := Ideal) g (ix2 0 l) = g (ix2 0 l) := by pointwise [Cert.MergeIdeal.Gen.k0_pay3]
  rw [hg]
  refine congrArg (fun f => RowNorm.norm f (g (ix2 0 l)) (b (ix2 0 l)) l) (funext fun k => ?_)
  rw [before_at]
  unfold line
  refine congrArg _ ((Fin.sum_mul_add_fin 11 256 (fun n : Fin 2816 => cat a0 a1 a2 a3 a4 a5 a6 a7 a8 a9 a10 (ix2 r n) * D (ix2 n k))).symm.trans ?_)
  refine Finset.sum_congr rfl fun c _ => Finset.sum_congr rfl fun j _ => ?_
  exact congrArg (· * _) (cat_at _ _ _ _ _ _ _ _ _ _ _ A h0 h1 h2 h3 h4 h5 h6 h7 h8 h9 h10 r c j)

/-! ## The slots of the up-projection buffer -/

/-- After the writes `L`, slot `s` holds the 520 rows `f`. -/
def Holds (L : List (View.Piece (Elt Ideal) S2x520x512 .f32)) (s : Fin 2) (f : Fin 520 → Fin 512 → EReal) : Prop :=
  ∀ (p : Fin 520) (j : Fin 512), View.canon (Val := Elt Ideal) L (ix3 s p j : S2x520x512.Idx) = f p j

/-- A slot just filled: the kept rows, then the block's. -/
theorem holds_head (s : Fin 2) (f : Fin 520 → Fin 512 → EReal) (i1) (i2) (D : FVec Ideal S1x512x512 .f32) (K : FVec Ideal S1x8x512 .f32)
    (L : List (View.Piece (Elt Ideal) S2x520x512 .f32))
    (hD : ∀ p j : Fin 512, D (ix3 0 p j) = f ⟨8 + p.val, by omega⟩ j)
    (hK : ∀ (p : Fin 8) (j : Fin 512), K (ix3 0 p j) = f ⟨p.val, by omega⟩ j) :
    Holds ((⟨Rect.unit ![s.val, 8, 0] ![1, 512, 512] i1, D⟩ : View.Piece (Elt Ideal) S2x520x512 .f32)
      :: (⟨Rect.unit ![s.val, 0, 0] ![1, 8, 512] i2, K⟩ : View.Piece (Elt Ideal) S2x520x512 .f32) :: L) s f := by
  intro p j
  by_cases hp : p.val < 8
  · refine (canon_miss _ _ _ _ _ _ (1 : Fin 3) (.inl hp)).trans ?_
    refine (canon_hit _ _ _ _ _ _ (ix3 (0 : Fin 1) (⟨p.val, hp⟩ : Fin 8) j : S1x8x512.Idx) ?_).trans (hK ⟨p.val, hp⟩ j)
    intro a
    fin_cases a
    · show s.val = s.val + 0; rfl
    · show p.val = 0 + p.val; omega
    · show j.val = 0 + j.val; omega
  · have hq : p.val - 8 < 512 := by omega
    refine (canon_hit _ _ _ _ _ _ (ix3 (0 : Fin 1) (⟨p.val - 8, hq⟩ : Fin 512) j : S1x512x512.Idx) ?_).trans
      ((hD ⟨p.val - 8, hq⟩ j).trans (congrArg (fun q => f q j) (Fin.ext (show 8 + (p.val - 8) = p.val by omega))))
    intro a
    fin_cases a
    · show s.val = s.val + 0; rfl
    · show p.val = 8 + (p.val - 8); omega
    · show j.val = 0 + j.val; omega

/-- Filling the other slot leaves it. -/
theorem holds_skip (s s' : Fin 2) (hs : s' ≠ s) (f : Fin 520 → Fin 512 → EReal) (i1) (i2) (D : FVec Ideal S1x512x512 .f32) (K : FVec Ideal S1x8x512 .f32)
    (L : List (View.Piece (Elt Ideal) S2x520x512 .f32)) (h : Holds L s f) :
    Holds ((⟨Rect.unit ![s'.val, 8, 0] ![1, 512, 512] i1, D⟩ : View.Piece (Elt Ideal) S2x520x512 .f32)
      :: (⟨Rect.unit ![s'.val, 0, 0] ![1, 8, 512] i2, K⟩ : View.Piece (Elt Ideal) S2x520x512 .f32) :: L) s f := by
  have hv : s'.val ≠ s.val := fun e => hs (Fin.ext e)
  intro p j
  refine (canon_miss _ _ _ _ _ _ (0 : Fin 3) ?_).trans ((canon_miss _ _ _ _ _ _ (0 : Fin 3) ?_).trans (h p j))
  · show s.val < s'.val ∨ s'.val + 1 ≤ s.val; omega
  · show s.val < s'.val ∨ s'.val + 1 ≤ s.val; omega

/-- A read of 64 rows of a slot. -/
theorem read_rows (v : View sig .tc .vmem S2x520x512 .f32) (L : List (View.Piece (Elt Ideal) S2x520x512 .f32)) (s : Fin 2) (f : Fin 520 → Fin 512 → EReal)
    (h : Holds L s f) (o : ℕ) (ho : o + 64 ≤ 520) (i1) (r : Fin 64) (j : Fin 512) :
    v.readCov (Val := Elt Ideal) L (Rect.unit (s := S2x520x512) ![s.val, o, 0] ![1, 64, 512] i1).toLoadRect
        (ix3 (0 : Fin 1) r j : S1x64x512.Idx)
      = f ⟨o + r.val, by omega⟩ j := by
  refine (read_at v _ _ _ L _ (ix3 s (⟨o + r.val, by omega⟩ : Fin 520) j : S2x520x512.Idx) ?_).trans (h _ _)
  intro a
  fin_cases a
  · show s.val = s.val + 0; rfl
  · rfl
  · show j.val = 0 + j.val; omega

/-- A read of its last eight rows. -/
theorem read_last (v : View sig .tc .vmem S2x520x512 .f32) (L : List (View.Piece (Elt Ideal) S2x520x512 .f32)) (s : Fin 2) (f : Fin 520 → Fin 512 → EReal)
    (h : Holds L s f) (i1) (p : Fin 8) (j : Fin 512) :
    v.readCov (Val := Elt Ideal) L (Rect.unit (s := S2x520x512) ![s.val, 512, 0] ![1, 8, 512] i1).toLoadRect
        (ix3 (0 : Fin 1) p j : S1x8x512.Idx)
      = f ⟨512 + p.val, by omega⟩ j := by
  refine (read_at v _ _ _ L _ (ix3 s (⟨512 + p.val, by omega⟩ : Fin 520) j : S2x520x512.Idx) ?_).trans (h _ _)
  intro a
  fin_cases a
  · show s.val = s.val + 0; rfl
  · rfl
  · show j.val = 0 + j.val; omega

/-! ## The gated chunks -/

/-- Entry of chunk `c`'s gated product, the slot holding `f`. -/
def act (CW : FVec Ideal S11x8x512 .f32) (CB : FVec Ideal S11x1x512 .f32) (f : Fin 11 → Fin 520 → Fin 512 → EReal)
    (c : Fin 11) (r : Fin 512) (l : Fin 256) : EReal :=
  silu (conv CW CB c ⟨l.val, by omega⟩ (f c ⟨6 + r.val, by omega⟩ ⟨l.val, by omega⟩) (f c ⟨7 + r.val, by omega⟩ ⟨l.val, by omega⟩)
      (f c ⟨8 + r.val, by omega⟩ ⟨l.val, by omega⟩))
    * conv CW CB c ⟨256 + l.val, by omega⟩ (f c ⟨6 + r.val, by omega⟩ ⟨256 + l.val, by omega⟩) (f c ⟨7 + r.val, by omega⟩ ⟨256 + l.val, by omega⟩)
      (f c ⟨8 + r.val, by omega⟩ ⟨256 + l.val, by omega⟩)

/-- The gated buffer's function of its index. -/
def gate (CW : FVec Ideal S11x8x512 .f32) (CB : FVec Ideal S11x1x512 .f32) (f : Fin 11 → Fin 520 → Fin 512 → EReal)
    (y : S11x512x256.Idx) : Elt Ideal .bf16 := act CW CB f (y 0) (y 1) (y 2)

/-- One store of the gated buffer: 64 rows of chunk `c` from row `o`. -/
theorem piece (c : Fin 11) (s : Fin 2) (o : ℕ) (ho : o + 64 ≤ 512) (CW : FVec Ideal S11x8x512 .f32) (CB : FVec Ideal S11x1x512 .f32)
    (f : Fin 11 → Fin 520 → Fin 512 → EReal) (v : View sig .tc .vmem S2x520x512 .f32) (L : List (View.Piece (Elt Ideal) S2x520x512 .f32))
    (h : Holds L s (f c)) (i1 i2 i3 i4 i5 i6) (x : (Rect.unit (s := S11x512x256) ![c.val, o, 0] ![1, 64, 256] i6).shape.Idx) :
    gated (View.ld (Val := Elt Ideal) (S := S11x8x512) (e' := .f32) CW (Rect.unit (s := S11x8x512) ![c.val, 0, 0] ![1, 8, 512] i1)) (View.ld (Val := Elt Ideal) (S := S11x1x512) (e' := .f32) CB (Rect.unit (s := S11x1x512) ![c.val, 0, 0] ![1, 1, 512] i2))
        (v.readCov (Val := Elt Ideal) L (Rect.unit (s := S2x520x512) ![s.val, 6 + o, 0] ![1, 64, 512] i3).toLoadRect)
        (v.readCov (Val := Elt Ideal) L (Rect.unit (s := S2x520x512) ![s.val, 7 + o, 0] ![1, 64, 512] i4).toLoadRect)
        (v.readCov (Val := Elt Ideal) L (Rect.unit (s := S2x520x512) ![s.val, 8 + o, 0] ![1, 64, 512] i5).toLoadRect) x
      = gate CW CB f ((Rect.unit (s := S11x512x256) ![c.val, o, 0] ![1, 64, 256] i6).emb x) := by
  obtain ⟨r, l, rfl⟩ : ∃ (r : Fin 64) (l : Fin 256), x = (ix3 (0 : Fin 1) r l : S1x64x256.Idx) :=
    ⟨x 1, x 2, funext fun a => Fin.ext (by
      fin_cases a
      · exact Nat.lt_one_iff.mp (x 0).isLt
      · rfl
      · rfl)⟩
  have he : (Rect.unit (s := S11x512x256) ![c.val, o, 0] ![1, 64, 256] i6).emb (ix3 (0 : Fin 1) r l : S1x64x256.Idx)
      = (ix3 c (⟨o + r.val, by omega⟩ : Fin 512) l : S11x512x256.Idx) := by
    funext a
    refine Fin.ext ((Rect.idx_unit_val (s := S11x512x256) ![c.val, o, 0] ![1, 64, 256] i6 (ix3 (0 : Fin 1) r l : S1x64x256.Idx) a).trans ?_)
    fin_cases a
    · rfl
    · rfl
    · show 0 + l.val = l.val; omega
  have hw : ∀ (p : Fin 8) (j : Fin 512), View.ld (Val := Elt Ideal) (S := S11x8x512) (e' := .f32) CW (Rect.unit (s := S11x8x512) ![c.val, 0, 0] ![1, 8, 512] i1) (ix3 (0 : Fin 1) p j : S1x8x512.Idx)
      = CW (ix3 c p j) := fun p j => View.ld_unit_apply_of _ _ _ _ _ _ (fun a => by
    fin_cases a
    · rfl
    · show p.val = 0 + p.val; omega
    · show j.val = 0 + j.val; omega)
  have hb : ∀ (j : Fin 512), View.ld (Val := Elt Ideal) (S := S11x1x512) (e' := .f32) CB (Rect.unit (s := S11x1x512) ![c.val, 0, 0] ![1, 1, 512] i2) (ix3 (0 : Fin 1) (0 : Fin 1) j : S1x1x512.Idx)
      = CB (ix3 c 0 j) := fun j => View.ld_unit_apply_of _ _ _ _ _ _ (fun a => by
    fin_cases a
    · rfl
    · rfl
    · show j.val = 0 + j.val; omega)
  have h0 := read_rows v L s (f c) h (6 + o) (by omega) i3 r
  have h1 := read_rows v L s (f c) h (7 + o) (by omega) i4 r
  have h2 := read_rows v L s (f c) h (8 + o) (by omega) i5 r
  have ha : ∀ a : ℕ, a + o + r.val = a + (o + r.val) := fun a => Nat.add_assoc _ _ _
  rw [he]
  refine (gated_at _ _ _ _ _ r l).trans ?_
  simp only [hw, hb, h0, h1, h2, ha]
  rfl

/-- The gated buffer read back, chunk by chunk. -/
theorem read_chunk (v : View sig .tc .vmem S11x512x256 .bf16) (L : List (View.Piece (Elt Ideal) S11x512x256 .bf16)) (CW : FVec Ideal S11x8x512 .f32)
    (CB : FVec Ideal S11x1x512 .f32) (f : Fin 11 → Fin 520 → Fin 512 → EReal)
    (h : ∀ y, View.canon (Val := Elt Ideal) L y = gate CW CB f y) (c : Fin 11) (i1) (r : Fin 512) (j : Fin 256) :
    v.readCov (Val := Elt Ideal) L (Rect.unit (s := S11x512x256) ![c.val, 0, 0] ![1, 512, 256] i1).toLoadRect
        (ix3 (0 : Fin 1) r j : S1x512x256.Idx)
      = act CW CB f c r j := by
  refine (read_at v _ _ _ L _ (ix3 c r j : S11x512x256.Idx) ?_).trans (h _)
  intro a
  fin_cases a
  · rfl
  · show r.val = 0 + r.val; omega
  · show j.val = 0 + j.val; omega

theorem rows_low (X : FVec Ideal S1x512x1024 .f32) (W : FVec Ideal S11x1024x512 .bf16) (H : Fin 11 → Fin 8 → Fin 512 → EReal) (c : Fin 11)
    (p : Fin 8) (j : Fin 512) : rows X W H c ⟨p.val, by omega⟩ j = H c p j := by
  unfold rows
  exact dif_pos p.isLt

theorem rows_high (X : FVec Ideal S1x512x1024 .f32) (W : FVec Ideal S11x1024x512 .bf16) (H : Fin 11 → Fin 8 → Fin 512 → EReal) (c : Fin 11)
    (p j : Fin 512) : rows X W H c ⟨8 + p.val, by omega⟩ j = up X W c p j := by
  unfold rows
  refine (dif_neg (show ¬ 8 + p.val < 8 by omega)).trans ?_
  exact congrArg (fun q => up X W c q j) (Fin.ext (show 8 + p.val - 8 = p.val by omega))

/-- The chunk's dot product is the slot's later rows. -/
theorem dot_row (X : FVec Ideal S1x512x1024 .f32) (W : FVec Ideal S11x1024x512 .bf16) (H : Fin 11 → Fin 8 → Fin 512 → EReal) (c : Fin 11) (i1)
    (p j : Fin 512) :
    k0_pay4 (F := Ideal) X (View.ld (Val := Elt Ideal) (S := S11x1024x512) (e' := .bf16) W (Rect.unit (s := S11x1024x512) ![c.val, 0, 0] ![1, 1024, 512] i1))
      (ix3 0 p j) = rows X W H c ⟨8 + p.val, by omega⟩ j := by
  refine ((up_at _ _ p j).trans ?_).trans (rows_high X W H c p j).symm
  refine Finset.sum_congr rfl fun k _ => congrArg (_ * ·) ?_
  refine View.ld_unit_apply_of (S := S11x1024x512) _ _ _ _ _ (ix3 c k j : S11x1024x512.Idx) (fun a => ?_)
  fin_cases a
  · rfl
  · show k.val = 0 + k.val; omega
  · show j.val = 0 + j.val; omega

/-- The rows kept in the carried buffer are the slot's first rows. -/
theorem kept_row (X : FVec Ideal S1x512x1024 .f32) (W : FVec Ideal S11x1024x512 .bf16) (H : Fin 11 → Fin 8 → Fin 512 → EReal)
    (Y : FVec Ideal S11x8x512 .f32) (hY : ∀ c p j, Y (ix3 c p j) = H c p j) (c : Fin 11) (i1) (p : Fin 8) (j : Fin 512) :
    k0_pay3 (F := Ideal) (View.ld (Val := Elt Ideal) (S := S11x8x512) (e' := .f32) Y (Rect.unit (s := S11x8x512) ![c.val, 0, 0] ![1, 8, 512] i1)) (ix3 0 p j)
      = rows X W H c ⟨p.val, by omega⟩ j := by
  refine ((kept_at _ p j).trans ?_).trans (rows_low X W H c p j).symm
  refine (View.ld_unit_apply_of (S := S11x8x512) _ _ _ _ _ (ix3 c p j : S11x8x512.Idx) (fun a => ?_)).trans (hY c p j)
  fin_cases a
  · rfl
  · show p.val = 0 + p.val; omega
  · show j.val = 0 + j.val; omega

/-- The pieces of the gated buffer, one at a time. -/
theorem gate_cons (G : S11x512x256.Idx → Elt Ideal .bf16) (off size : Fin 3 → ℕ) (i1) (w) (L : List (View.Piece (Elt Ideal) S11x512x256 .bf16))
    (h : ∀ x, w x = G ((Rect.unit (s := S11x512x256) off size i1).emb x)) (hL : View.PiecesOf G L) :
    View.PiecesOf G ((⟨Rect.unit (s := S11x512x256) off size i1, w⟩ : View.Piece (Elt Ideal) S11x512x256 .bf16) :: L) := ⟨h, hL⟩

/-- The stored block, once the gated buffer's contents are known. -/
theorem stored (v : View sig .tc .vmem S11x512x256 .bf16) (L : List (View.Piece (Elt Ideal) S11x512x256 .bf16)) (CW : FVec Ideal S11x8x512 .f32) (CB :
    FVec Ideal S11x1x512 .f32) (f : Fin 11 → Fin 520 → Fin 512 → EReal) (D : FVec Ideal S2816x1024 .bf16) (X : FVec Ideal S1x512x1024 .f32) (g b :
    FVec Ideal S1x1024 .f32) (i0) (i1) (i2) (i3) (i4) (i5) (i6) (i7) (i8) (i9) (i10) (h : ∀ y, View.canon (Val := Elt Ideal) L y = gate CW CB f y) (r
    : Fin 512) (l : Fin 1024) :
    k0_pay247 (F := Ideal)
      (k0_pay237 (v.readCov (Val := Elt Ideal) L (Rect.unit (s := S11x512x256) ![0, 0, 0] ![1, 512, 256] i0).toLoadRect))
      (k0_pay238 (v.readCov (Val := Elt Ideal) L (Rect.unit (s := S11x512x256) ![1, 0, 0] ![1, 512, 256] i1).toLoadRect))
      (k0_pay239 (v.readCov (Val := Elt Ideal) L (Rect.unit (s := S11x512x256) ![2, 0, 0] ![1, 512, 256] i2).toLoadRect))
      (k0_pay240 (v.readCov (Val := Elt Ideal) L (Rect.unit (s := S11x512x256) ![3, 0, 0] ![1, 512, 256] i3).toLoadRect))
      (k0_pay241 (v.readCov (Val := Elt Ideal) L (Rect.unit (s := S11x512x256) ![4, 0, 0] ![1, 512, 256] i4).toLoadRect))
      (k0_pay242 (v.readCov (Val := Elt Ideal) L (Rect.unit (s := S11x512x256) ![5, 0, 0] ![1, 512, 256] i5).toLoadRect))
      (k0_pay243 (v.readCov (Val := Elt Ideal) L (Rect.unit (s := S11x512x256) ![6, 0, 0] ![1, 512, 256] i6).toLoadRect))
      (k0_pay244 (v.readCov (Val := Elt Ideal) L (Rect.unit (s := S11x512x256) ![7, 0, 0] ![1, 512, 256] i7).toLoadRect))
      (k0_pay245 (v.readCov (Val := Elt Ideal) L (Rect.unit (s := S11x512x256) ![8, 0, 0] ![1, 512, 256] i8).toLoadRect))
      (k0_pay246 (v.readCov (Val := Elt Ideal) L (Rect.unit (s := S11x512x256) ![9, 0, 0] ![1, 512, 256] i9).toLoadRect))
      (v.readCov (Val := Elt Ideal) L (Rect.unit (s := S11x512x256) ![10, 0, 0] ![1, 512, 256] i10).toLoadRect)
      D X g b (ix3 0 r l) = RowNorm.norm (line X D (act CW CB f) r) (g (ix2 0 l)) (b (ix2 0 l)) l :=
  down_at _ _ _ _ _ _ _ _ _ _ _ D X g b (act CW CB f)
    (read_chunk v L CW CB f h 0 i0)
    (read_chunk v L CW CB f h 1 i1)
    (read_chunk v L CW CB f h 2 i2)
    (read_chunk v L CW CB f h 3 i3)
    (read_chunk v L CW CB f h 4 i4)
    (read_chunk v L CW CB f h 5 i5)
    (read_chunk v L CW CB f h 6 i6)
    (read_chunk v L CW CB f h 7 i7)
    (read_chunk v L CW CB f h 8 i8)
    (read_chunk v L CW CB f h 9 i9)
    (read_chunk v L CW CB f h 10 i10) r l

/-! ## The carried rows -/

/-- After the writes `L`, chunk `c` of the carried buffer holds the eight rows `g`. -/
def Kept (L : List (View.Piece (Elt Ideal) S11x8x512 .f32)) (c : Fin 11) (g : Fin 8 → Fin 512 → EReal) : Prop :=
  ∀ (p : Fin 8) (j : Fin 512), View.canon (Val := Elt Ideal) L (ix3 c p j : S11x8x512.Idx) = g p j

/-- The chunk just written. -/
theorem kept_hit (c : Fin 11) (g : Fin 8 → Fin 512 → EReal) (i1) (K : FVec Ideal S1x8x512 .f32) (L : List (View.Piece (Elt Ideal) S11x8x512 .f32))
    (hK : ∀ (p : Fin 8) (j : Fin 512), K (ix3 0 p j) = g p j) :
    Kept ((⟨Rect.unit ![c.val, 0, 0] ![1, 8, 512] i1, K⟩ : View.Piece (Elt Ideal) S11x8x512 .f32) :: L) c g := by
  intro p j
  refine (canon_hit _ _ _ _ _ _ (ix3 (0 : Fin 1) p j : S1x8x512.Idx) ?_).trans (hK p j)
  intro a
  fin_cases a
  · rfl
  · show p.val = 0 + p.val; omega
  · show j.val = 0 + j.val; omega

/-- Writing another chunk leaves it. -/
theorem kept_skip (c c' : Fin 11) (hc : c' ≠ c) (g : Fin 8 → Fin 512 → EReal) (i1) (K : FVec Ideal S1x8x512 .f32)
    (L : List (View.Piece (Elt Ideal) S11x8x512 .f32)) (h : Kept L c g) :
    Kept ((⟨Rect.unit ![c'.val, 0, 0] ![1, 8, 512] i1, K⟩ : View.Piece (Elt Ideal) S11x8x512 .f32) :: L) c g := by
  have hv : c'.val ≠ c.val := fun e => hc (Fin.ext e)
  intro p j
  refine (canon_miss _ _ _ _ _ _ (0 : Fin 3) ?_).trans (h p j)
  show c.val < c'.val ∨ c'.val + 1 ≤ c.val
  omega

/-- The fill with zeros. -/
theorem kept_zero (c : Fin 11) (i1) : Kept [(⟨Rect.unit ![0, 0, 0] ![11, 8, 512] i1, k0_pay1 (F := Ideal)⟩ : View.Piece (Elt Ideal) S11x8x512 .f32)] c fun _ _ => 0 := by
  intro p j
  refine (canon_hit _ _ _ _ _ _ (ix3 c p j : S11x8x512.Idx) ?_).trans ?_
  · intro a
    fin_cases a
    · show c.val = 0 + c.val; omega
    · show p.val = 0 + p.val; omega
    · show j.val = 0 + j.val; omega
  · pointwise [k0_pay1]

/-- The rows read back from the carried buffer within one point. -/
theorem kept_read (X : FVec Ideal S1x512x1024 .f32) (W : FVec Ideal S11x1024x512 .bf16) (H : Fin 11 → Fin 8 → Fin 512 → EReal)
    (v : View sig .tc .vmem S11x8x512 .f32) (L : List (View.Piece (Elt Ideal) S11x8x512 .f32)) (c : Fin 11) (h : Kept L c (H c)) (i1) (p : Fin 8) (j : Fin 512) :
    k0_pay3 (F := Ideal) (v.readCov (Val := Elt Ideal) L (Rect.unit (s := S11x8x512) ![c.val, 0, 0] ![1, 8, 512] i1).toLoadRect) (ix3 0 p j)
      = rows X W H c ⟨p.val, by omega⟩ j := by
  refine ((kept_at _ p j).trans ?_).trans (rows_low X W H c p j).symm
  refine (read_at v _ _ _ L _ (ix3 c p j : S11x8x512.Idx) ?_).trans (h p j)
  intro a
  fin_cases a
  · rfl
  · show p.val = 0 + p.val; omega
  · show j.val = 0 + j.val; omega

/-- What is kept of a chunk: the slot's last eight rows, the block's own. -/
theorem kept_next (X : FVec Ideal S1x512x1024 .f32) (W : FVec Ideal S11x1024x512 .bf16) (H : Fin 11 → Fin 8 → Fin 512 → EReal) (c : Fin 11)
    (v : View sig .tc .vmem S2x520x512 .f32) (L : List (View.Piece (Elt Ideal) S2x520x512 .f32)) (s : Fin 2) (h : Holds L s (rows X W H c)) (i1)
    (p : Fin 8) (j : Fin 512) :
    k0_pay3 (F := Ideal) (v.readCov (Val := Elt Ideal) L (Rect.unit (s := S2x520x512) ![s.val, 512, 0] ![1, 8, 512] i1).toLoadRect) (ix3 0 p j)
      = up X W c ⟨504 + p.val, by omega⟩ j := by
  refine ((kept_at _ p j).trans (read_last v L s _ h i1 p j)).trans ?_
  refine Eq.trans ?_ (rows_high X W H c ⟨504 + p.val, by omega⟩ j)
  exact congrArg (fun q => rows X W H c q j) (Fin.ext (show 512 + p.val = 8 + (504 + p.val) by omega))

end Cert.FfnIdeal.Body

end
-- ==== Proof.FfnPoint.lean ====
/- The feed-forward call, one grid point: the block the body stores and the rows it carries on, at the ideal instance.
   A point that starts a batch row fills the carried buffer with zeros; every other point finds there what the point
   before left. Each point's stores of the gated buffer are read off one by one. -/
module

public import proofs.«01_k».proof.Proof.FfnBody
public import proofs.«01_k».proof.Proof.Gen.FfnIdeal.Frame

@[expose] public section

set_option maxRecDepth 16384

noncomputable section

open Idealize.ShloMosaic Idealize.ShloMosaic.TcCoe
open scoped BigOperators

namespace Cert.FfnIdeal.Body
open Cert.FfnIdeal Cert.FfnIdeal.Gen Cert.Pieces

variable (m : (ℓ : Loc nD τ sig) → Buf (Elt Ideal) ℓ)

set_option maxHeartbeats 8000000 in
/-- What the body stores at a point that carries rows over from the point before. -/
theorem point_B (c : Dev nD) (t : Fin cfg0.N) (hc) (xs : FVec Ideal S11x8x512 .f32) (H : Fin 11 → Fin 8 → Fin 512 → EReal) (hH : ∀ c p j, xs (ix3 c p
    j) = H c p j) (r : Fin 512) (l : Fin 1024) : out0_B_7 (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) scM0_0 (Memref.isWhole_whole _) scM0_1
    (Memref.isWhole_whole _) scM0_2 (Memref.isWhole_whole _) hc (iblk m c 0 t) (iblk m c 1 t) (iblk m c 2 t) (iblk m c 3 t) (iblk m c 4 t) (iblk m c 5
    t) (iblk m c 6 t) xs (ix3 (0 : Fin 1) r l : S1x512x1024.Idx) = RowNorm.norm (line (iblk m c 0 t) (iblk m c 4 t) (act (iblk m c 2 t) (iblk m c 3 t)
    (rows (iblk m c 0 t) (iblk m c 1 t) H)) r) (iblk m c 5 t (ix2 0 l : S1x1024.Idx)) (iblk m c 6 t (ix2 0 l : S1x1024.Idx)) l := by
  frame_out
  have hY : ∀ (c : Fin 11) (p : Fin 8) (j : Fin 512), View.read (Elt Ideal) (View.whole cc0_scratch0) ((Memref.isWhole_whole cc0_scratch0).unread xs) (ix3 c p j : S11x8x512.Idx) = H c p j :=
    fun c p j => (congrFun (read_unread_whole (Val := Elt Ideal) cc0_scratch0 (Memref.isWhole_whole _) xs) (ix3 c p j : S11x8x512.Idx)).trans (hH c p j)
  refine stored _ _ (iblk m c 2 t) (iblk m c 3 t) (rows (iblk m c 0 t) (iblk m c 1 t) H) _ _ _ _ _ _ _ _ _ _ _ _ _ _ _ ?_ r l
  intro y
  refine View.canon_apply_of_pieces _ _ (View.PiecesOf.mem ?_) y (View.cover_of_tiledL (s := S11x512x256) _ ![1, 64, 256] (by sl_kernel_rfl) y)
  refine gate_cons _ _ _ _ _ _ ?_ ?_
  · refine piece 10 0 448 (by decide) (iblk m c 2 t) (iblk m c 3 t) (rows (iblk m c 0 t) (iblk m c 1 t) H) _ _ ?_ _ _ _ _ _ _
    exact (holds_head 0 _ _ _ _ _ _ (dot_row (iblk m c 0 t) (iblk m c 1 t) H 10 _) (kept_row (iblk m c 0 t) (iblk m c 1 t) H _ hY 10 _))
  refine gate_cons _ _ _ _ _ _ ?_ ?_
  · refine piece 10 0 384 (by decide) (iblk m c 2 t) (iblk m c 3 t) (rows (iblk m c 0 t) (iblk m c 1 t) H) _ _ ?_ _ _ _ _ _ _
    exact (holds_head 0 _ _ _ _ _ _ (dot_row (iblk m c 0 t) (iblk m c 1 t) H 10 _) (kept_row (iblk m c 0 t) (iblk m c 1 t) H _ hY 10 _))
  refine gate_cons _ _ _ _ _ _ ?_ ?_
  · refine piece 10 0 320 (by decide) (iblk m c 2 t) (iblk m c 3 t) (rows (iblk m c 0 t) (iblk m c 1 t) H) _ _ ?_ _ _ _ _ _ _
    exact (holds_head 0 _ _ _ _ _ _ (dot_row (iblk m c 0 t) (iblk m c 1 t) H 10 _) (kept_row (iblk m c 0 t) (iblk m c 1 t) H _ hY 10 _))
  refine gate_cons _ _ _ _ _ _ ?_ ?_
  · refine piece 10 0 256 (by decide) (iblk m c 2 t) (iblk m c 3 t) (rows (iblk m c 0 t) (iblk m c 1 t) H) _ _ ?_ _ _ _ _ _ _
    exact (holds_head 0 _ _ _ _ _ _ (dot_row (iblk m c 0 t) (iblk m c 1 t) H 10 _) (kept_row (iblk m c 0 t) (iblk m c 1 t) H _ hY 10 _))
  refine gate_cons _ _ _ _ _ _ ?_ ?_
  · refine piece 10 0 192 (by decide) (iblk m c 2 t) (iblk m c 3 t) (rows (iblk m c 0 t) (iblk m c 1 t) H) _ _ ?_ _ _ _ _ _ _
    exact (holds_head 0 _ _ _ _ _ _ (dot_row (iblk m c 0 t) (iblk m c 1 t) H 10 _) (kept_row (iblk m c 0 t) (iblk m c 1 t) H _ hY 10 _))
  refine gate_cons _ _ _ _ _ _ ?_ ?_
  · refine piece 10 0 128 (by decide) (iblk m c 2 t) (iblk m c 3 t) (rows (iblk m c 0 t) (iblk m c 1 t) H) _ _ ?_ _ _ _ _ _ _
    exact (holds_head 0 _ _ _ _ _ _ (dot_row (iblk m c 0 t) (iblk m c 1 t) H 10 _) (kept_row (iblk m c 0 t) (iblk m c 1 t) H _ hY 10 _))
  refine gate_cons _ _ _ _ _ _ ?_ ?_
  · refine piece 10 0 64 (by decide) (iblk m c 2 t) (iblk m c 3 t) (rows (iblk m c 0 t) (iblk m c 1 t) H) _ _ ?_ _ _ _ _ _ _
    exact (holds_head 0 _ _ _ _ _ _ (dot_row (iblk m c 0 t) (iblk m c 1 t) H 10 _) (kept_row (iblk m c 0 t) (iblk m c 1 t) H _ hY 10 _))
  refine gate_cons _ _ _ _ _ _ ?_ ?_
  · refine piece 10 0 0 (by decide) (iblk m c 2 t) (iblk m c 3 t) (rows (iblk m c 0 t) (iblk m c 1 t) H) _ _ ?_ _ _ _ _ _ _
    exact (holds_head 0 _ _ _ _ _ _ (dot_row (iblk m c 0 t) (iblk m c 1 t) H 10 _) (kept_row (iblk m c 0 t) (iblk m c 1 t) H _ hY 10 _))
  refine gate_cons _ _ _ _ _ _ ?_ ?_
  · refine piece 9 1 448 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 9 _) (kept_row (iblk m c 0 t) (iblk m
      c 1 t) H _ hY 9 _)))
  refine gate_cons _ _ _ _ _ _ ?_ ?_
  · refine piece 9 1 384 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 9 _) (kept_row (iblk m c 0 t) (iblk m
      c 1 t) H _ hY 9 _)))
  refine gate_cons _ _ _ _ _ _ ?_ ?_
  · refine piece 9 1 320 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 9 _) (kept_row (iblk m c 0 t) (iblk m
      c 1 t) H _ hY 9 _)))
  refine gate_cons _ _ _ _ _ _ ?_ ?_
  · refine piece 9 1 256 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 9 _) (kept_row (iblk m c 0 t) (iblk m
      c 1 t) H _ hY 9 _)))
  refine gate_cons _ _ _ _ _ _ ?_ ?_
  · refine piece 9 1 192 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 9 _) (kept_row (iblk m c 0 t) (iblk m
      c 1 t) H _ hY 9 _)))
  refine gate_cons _ _ _ _ _ _ ?_ ?_
  · refine piece 9 1 128 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 9 _) (kept_row (iblk m c 0 t) (iblk m
      c 1 t) H _ hY 9 _)))
  refine gate_cons _ _ _ _ _ _ ?_ ?_
  · refine piece 9 1 64 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 9 _) (kept_row (iblk m c 0 t) (iblk m
      c 1 t) H _ hY 9 _)))
  refine gate_cons _ _ _ _ _ _ ?_ ?_
  · refine piece 9 1 0 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 9 _) (kept_row (iblk m c 0 t) (iblk m
      c 1 t) H _ hY 9 _)))
  refine gate_cons _ _ _ _ _ _ ?_ ?_
  · refine piece 8 0 448 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 8 _) (kept_row (iblk m c 0 t) (iblk m
      c 1 t) H _ hY 8 _)))
  refine gate_cons _ _ _ _ _ _ ?_ ?_
  · refine piece 8 0 384 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 8 _) (kept_row (iblk m c 0 t) (iblk m
      c 1 t) H _ hY 8 _)))
  refine gate_cons _ _ _ _ _ _ ?_ ?_
  · refine piece 8 0 320 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 8 _) (kept_row (iblk m c 0 t) (iblk m
      c 1 t) H _ hY 8 _)))
  refine gate_cons _ _ _ _ _ _ ?_ ?_
  · refine piece 8 0 256 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 8 _) (kept_row (iblk m c 0 t) (iblk m
      c 1 t) H _ hY 8 _)))
  refine gate_cons _ _ _ _ _ _ ?_ ?_
  · refine piece 8 0 192 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 8 _) (kept_row (iblk m c 0 t) (iblk m
      c 1 t) H _ hY 8 _)))
  refine gate_cons _ _ _ _ _ _ ?_ ?_
  · refine piece 8 0 128 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 8 _) (kept_row (iblk m c 0 t) (iblk m
      c 1 t) H _ hY 8 _)))
  refine gate_cons _ _ _ _ _ _ ?_ ?_
  · refine piece 8 0 64 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 8 _) (kept_row (iblk m c 0 t) (iblk m
      c 1 t) H _ hY 8 _)))
  refine gate_cons _ _ _ _ _ _ ?_ ?_
  · refine piece 8 0 0 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 8 _) (kept_row (iblk m c 0 t) (iblk m
      c 1 t) H _ hY 8 _)))
  refine gate_cons _ _ _ _ _ _ ?_ ?_
  · refine piece 7 1 448 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 7 _) (kept_row (iblk m c 0 t) (iblk m
      c 1 t) H _ hY 7 _)))
  refine gate_cons _ _ _ _ _ _ ?_ ?_
  · refine piece 7 1 384 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 7 _) (kept_row (iblk m c 0 t) (iblk m
      c 1 t) H _ hY 7 _)))
  refine gate_cons _ _ _ _ _ _ ?_ ?_
  · refine piece 7 1 320 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 7 _) (kept_row (iblk m c 0 t) (iblk m
      c 1 t) H _ hY 7 _)))
  refine gate_cons _ _ _ _ _ _ ?_ ?_
  · refine piece 7 1 256 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 7 _) (kept_row (iblk m c 0 t) (iblk m
      c 1 t) H _ hY 7 _)))
  refine gate_cons _ _ _ _ _ _ ?_ ?_
  · refine piece 7 1 192 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 7 _) (kept_row (iblk m c 0 t) (iblk m
      c 1 t) H _ hY 7 _)))
  refine gate_cons _ _ _ _ _ _ ?_ ?_
  · refine piece 7 1 128 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 7 _) (kept_row (iblk m c 0 t) (iblk m
      c 1 t) H _ hY 7 _)))
  refine gate_cons _ _ _ _ _ _ ?_ ?_
  · refine piece 7 1 64 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 7 _) (kept_row (iblk m c 0 t) (iblk m
      c 1 t) H _ hY 7 _)))
  refine gate_cons _ _ _ _ _ _ ?_ ?_
  · refine piece 7 1 0 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 7 _) (kept_row (iblk m c 0 t) (iblk m
      c 1 t) H _ hY 7 _)))
  refine gate_cons _ _ _ _ _ _ ?_ ?_
  · refine piece 6 0 448 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 6 _) (kept_row (iblk m c 0 t) (iblk m
      c 1 t) H _ hY 6 _)))
  refine gate_cons _ _ _ _ _ _ ?_ ?_
  · refine piece 6 0 384 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 6 _) (kept_row (iblk m c 0 t) (iblk m
      c 1 t) H _ hY 6 _)))
  refine gate_cons _ _ _ _ _ _ ?_ ?_
  · refine piece 6 0 320 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 6 _) (kept_row (iblk m c 0 t) (iblk m
      c 1 t) H _ hY 6 _)))
  refine gate_cons _ _ _ _ _ _ ?_ ?_
  · refine piece 6 0 256 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 6 _) (kept_row (iblk m c 0 t) (iblk m
      c 1 t) H _ hY 6 _)))
  refine gate_cons _ _ _ _ _ _ ?_ ?_
  · refine piece 6 0 192 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 6 _) (kept_row (iblk m c 0 t) (iblk m
      c 1 t) H _ hY 6 _)))
  refine gate_cons _ _ _ _ _ _ ?_ ?_
  · refine piece 6 0 128 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 6 _) (kept_row (iblk m c 0 t) (iblk m
      c 1 t) H _ hY 6 _)))
  refine gate_cons _ _ _ _ _ _ ?_ ?_
  · refine piece 6 0 64 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 6 _) (kept_row (iblk m c 0 t) (iblk m
      c 1 t) H _ hY 6 _)))
  refine gate_cons _ _ _ _ _ _ ?_ ?_
  · refine piece 6 0 0 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 6 _) (kept_row (iblk m c 0 t) (iblk m
      c 1 t) H _ hY 6 _)))
  refine gate_cons _ _ _ _ _ _ ?_ ?_
  · refine piece 5 1 448 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 5 _) (kept_row (iblk m c 0 t) (iblk m
      c 1 t) H _ hY 5 _)))
  refine gate_cons _ _ _ _ _ _ ?_ ?_
  · refine piece 5 1 384 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 5 _) (kept_row (iblk m c 0 t) (iblk m
      c 1 t) H _ hY 5 _)))
  refine gate_cons _ _ _ _ _ _ ?_ ?_
  · refine piece 5 1 320 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 5 _) (kept_row (iblk m c 0 t) (iblk m
      c 1 t) H _ hY 5 _)))
  refine gate_cons _ _ _ _ _ _ ?_ ?_
  · refine piece 5 1 256 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 5 _) (kept_row (iblk m c 0 t) (iblk m
      c 1 t) H _ hY 5 _)))
  refine gate_cons _ _ _ _ _ _ ?_ ?_
  · refine piece 5 1 192 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 5 _) (kept_row (iblk m c 0 t) (iblk m
      c 1 t) H _ hY 5 _)))
  refine gate_cons _ _ _ _ _ _ ?_ ?_
  · refine piece 5 1 128 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 5 _) (kept_row (iblk m c 0 t) (iblk m
      c 1 t) H _ hY 5 _)))
  refine gate_cons _ _ _ _ _ _ ?_ ?_
  · refine piece 5 1 64 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 5 _) (kept_row (iblk m c 0 t) (iblk m
      c 1 t) H _ hY 5 _)))
  refine gate_cons _ _ _ _ _ _ ?_ ?_
  · refine piece 5 1 0 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 5 _) (kept_row (iblk m c 0 t) (iblk m
      c 1 t) H _ hY 5 _)))
  refine gate_cons _ _ _ _ _ _ ?_ ?_
  · refine piece 4 0 448 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 4 _) (kept_row (iblk m c 0 t) (iblk m
      c 1 t) H _ hY 4 _)))
  refine gate_cons _ _ _ _ _ _ ?_ ?_
  · refine piece 4 0 384 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 4 _) (kept_row (iblk m c 0 t) (iblk m
      c 1 t) H _ hY 4 _)))
  refine gate_cons _ _ _ _ _ _ ?_ ?_
  · refine piece 4 0 320 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 4 _) (kept_row (iblk m c 0 t) (iblk m
      c 1 t) H _ hY 4 _)))
  refine gate_cons _ _ _ _ _ _ ?_ ?_
  · refine piece 4 0 256 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 4 _) (kept_row (iblk m c 0 t) (iblk m
      c 1 t) H _ hY 4 _)))
  refine gate_cons _ _ _ _ _ _ ?_ ?_
  · refine piece 4 0 192 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 4 _) (kept_row (iblk m c 0 t) (iblk m
      c 1 t) H _ hY 4 _)))
  refine gate_cons _ _ _ _ _ _ ?_ ?_
  · refine piece 4 0 128 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 4 _) (kept_row (iblk m c 0 t) (iblk m
      c 1 t) H _ hY 4 _)))
  refine gate_cons _ _ _ _ _ _ ?_ ?_
  · refine piece 4 0 64 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 4 _) (kept_row (iblk m c 0 t) (iblk m
      c 1 t) H _ hY 4 _)))
  refine gate_cons _ _ _ _ _ _ ?_ ?_
  · refine piece 4 0 0 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 4 _) (kept_row (iblk m c 0 t) (iblk m
      c 1 t) H _ hY 4 _)))
  refine gate_cons _ _ _ _ _ _ ?_ ?_
  · refine piece 3 1 448 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 3 _) (kept_row (iblk m c 0 t) (iblk m
      c 1 t) H _ hY 3 _)))
  refine gate_cons _ _ _ _ _ _ ?_ ?_
  · refine piece 3 1 384 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 3 _) (kept_row (iblk m c 0 t) (iblk m
      c 1 t) H _ hY 3 _)))
  refine gate_cons _ _ _ _ _ _ ?_ ?_
  · refine piece 3 1 320 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 3 _) (kept_row (iblk m c 0 t) (iblk m
      c 1 t) H _ hY 3 _)))
  refine gate_cons _ _ _ _ _ _ ?_ ?_
  · refine piece 3 1 256 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 3 _) (kept_row (iblk m c 0 t) (iblk m
      c 1 t) H _ hY 3 _)))
  refine gate_cons _ _ _ _ _ _ ?_ ?_
  · refine piece 3 1 192 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 3 _) (kept_row (iblk m c 0 t) (iblk m
      c 1 t) H _ hY 3 _)))
  refine gate_cons _ _ _ _ _ _ ?_ ?_
  · refine piece 3 1 128 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 3 _) (kept_row (iblk m c 0 t) (iblk m
      c 1 t) H _ hY 3 _)))
  refine gate_cons _ _ _ _ _ _ ?_ ?_
  · refine piece 3 1 64 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 3 _) (kept_row (iblk m c 0 t) (iblk m
      c 1 t) H _ hY 3 _)))
  refine gate_cons _ _ _ _ _ _ ?_ ?_
  · refine piece 3 1 0 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 3 _) (kept_row (iblk m c 0 t) (iblk m
      c 1 t) H _ hY 3 _)))
  refine gate_cons _ _ _ _ _ _ ?_ ?_
  · refine piece 2 0 448 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 2 _) (kept_row (iblk m c 0 t) (iblk m
      c 1 t) H _ hY 2 _)))
  refine gate_cons _ _ _ _ _ _ ?_ ?_
  · refine piece 2 0 384 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 2 _) (kept_row (iblk m c 0 t) (iblk m
      c 1 t) H _ hY 2 _)))
  refine gate_cons _ _ _ _ _ _ ?_ ?_
  · refine piece 2 0 320 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 2 _) (kept_row (iblk m c 0 t) (iblk m
      c 1 t) H _ hY 2 _)))
  refine gate_cons _ _ _ _ _ _ ?_ ?_
  · refine piece 2 0 256 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 2 _) (kept_row (iblk m c 0 t) (iblk m
      c 1 t) H _ hY 2 _)))
  refine gate_cons _ _ _ _ _ _ ?_ ?_
  · refine piece 2 0 192 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 2 _) (kept_row (iblk m c 0 t) (iblk m
      c 1 t) H _ hY 2 _)))
  refine gate_cons _ _ _ _ _ _ ?_ ?_
  · refine piece 2 0 128 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 2 _) (kept_row (iblk m c 0 t) (iblk m
      c 1 t) H _ hY 2 _)))
  refine gate_cons _ _ _ _ _ _ ?_ ?_
  · refine piece 2 0 64 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 2 _) (kept_row (iblk m c 0 t) (iblk m
      c 1 t) H _ hY 2 _)))
  refine gate_cons _ _ _ _ _ _ ?_ ?_
  · refine piece 2 0 0 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 2 _) (kept_row (iblk m c 0 t) (iblk m
      c 1 t) H _ hY 2 _)))
  refine gate_cons _ _ _ _ _ _ ?_ ?_
  · refine piece 1 1 448 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 1 _) (kept_row (iblk m c 0 t) (iblk m
      c 1 t) H _ hY 1 _)))
  refine gate_cons _ _ _ _ _ _ ?_ ?_
  · refine piece 1 1 384 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 1 _) (kept_row (iblk m c 0 t) (iblk m
      c 1 t) H _ hY 1 _)))
  refine gate_cons _ _ _ _ _ _ ?_ ?_
  · refine piece 1 1 320 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 1 _) (kept_row (iblk m c 0 t) (iblk m
      c 1 t) H _ hY 1 _)))
  refine gate_cons _ _ _ _ _ _ ?_ ?_
  · refine piece 1 1 256 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 1 _) (kept_row (iblk m c 0 t) (iblk m
      c 1 t) H _ hY 1 _)))
  refine gate_cons _ _ _ _ _ _ ?_ ?_
  · refine piece 1 1 192 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 1 _) (kept_row (iblk m c 0 t) (iblk m
      c 1 t) H _ hY 1 _)))
  refine gate_cons _ _ _ _ _ _ ?_ ?_
  · refine piece 1 1 128 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 1 _) (kept_row (iblk m c 0 t) (iblk m
      c 1 t) H _ hY 1 _)))
  refine gate_cons _ _ _ _ _ _ ?_ ?_
  · refine piece 1 1 64 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 1 _) (kept_row (iblk m c 0 t) (iblk m
      c 1 t) H _ hY 1 _)))
  refine gate_cons _ _ _ _ _ _ ?_ ?_
  · refine piece 1 1 0 (by decide) (iblk m c 2 t) (iblk m c 3 t) (rows (iblk m c 0 t) (iblk m c 1 t) H) _ _ ?_ _ _ _ _ _ _
    exact (holds_skip 1 0 (by decide) _ _ _ _ _ _ (holds_head 1 _ _ _ _ _ _ (dot_row (iblk m c 0 t) (iblk m c 1 t) H 1 _) (kept_row (iblk m c 0 t) (iblk m
      c 1 t) H _ hY 1 _)))
  refine gate_cons _ _ _ _ _ _ ?_ ?_
  · refine piece 0 0 448 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 0 _) (kept_row (iblk m c 0 t) (iblk m
      c 1 t) H _ hY 0 _)))
  refine gate_cons _ _ _ _ _ _ ?_ ?_
  · refine piece 0 0 384 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 0 _) (kept_row (iblk m c 0 t) (iblk m
      c 1 t) H _ hY 0 _)))
  refine gate_cons _ _ _ _ _ _ ?_ ?_
  · refine piece 0 0 320 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 0 _) (kept_row (iblk m c 0 t) (iblk m
      c 1 t) H _ hY 0 _)))
  refine gate_cons _ _ _ _ _ _ ?_ ?_
  · refine piece 0 0 256 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 0 _) (kept_row (iblk m c 0 t) (iblk m
      c 1 t) H _ hY 0 _)))
  refine gate_cons _ _ _ _ _ _ ?_ ?_
  · refine piece 0 0 192 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 0 _) (kept_row (iblk m c 0 t) (iblk m
      c 1 t) H _ hY 0 _)))
  refine gate_cons _ _ _ _ _ _ ?_ ?_
  · refine piece 0 0 128 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 0 _) (kept_row (iblk m c 0 t) (iblk m
      c 1 t) H _ hY 0 _)))
  refine gate_cons _ _ _ _ _ _ ?_ ?_
  · refine piece 0 0 64 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 0 _) (kept_row (iblk m c 0 t) (iblk m
      c 1 t) H _ hY 0 _)))
  refine gate_cons _ _ _ _ _ _ ?_ ?_
  · refine piece 0 0 0 (by decide) (iblk m c 2 t) (iblk m c 3 t) (rows (iblk m c 0 t) (iblk m c 1 t) H) _ _ ?_ _ _ _ _ _ _
    exact (holds_skip 0 1 (by decide) _ _ _ _ _ _ (holds_head 0 _ _ _ _ _ _ (dot_row (iblk m c 0 t) (iblk m c 1 t) H 0 _) (kept_row (iblk m c 0 t) (iblk m
      c 1 t) H _ hY 0 _)))
  exact trivial

set_option maxHeartbeats 8000000 in
/-- What such a point leaves in the carried buffer: each chunk's last eight rows. -/
theorem carried_B (c : Dev nD) (t : Fin cfg0.N) (hc) (xs : FVec Ideal S11x8x512 .f32) (H : Fin 11 → Fin 8 → Fin 512 → EReal) (hH : ∀ c p j, xs (ix3 c
    p j) = H c p j) (d : Fin 11) (p : Fin 8) (j : Fin 512) : sout0_B_0 (F := Ideal) c (grid0.coords t) (ms0_0 t) (hs0_0 t) (ms0_1 t) (hs0_1 t) (ms0_2
    t) (hs0_2 t) (ms0_3 t) (hs0_3 t) (ms0_4 t) (hs0_4 t) (ms0_5 t) (hs0_5 t) (ms0_6 t) (hs0_6 t) (ms0_7 t) (hs0_7 t) scM0_0 (Memref.isWhole_whole _)
    scM0_1 (Memref.isWhole_whole _) scM0_2 (Memref.isWhole_whole _) hc (iblk m c 0 t) (iblk m c 1 t) (iblk m c 2 t) (iblk m c 3 t) (iblk m c 4 t)
    (iblk m c 5 t) (iblk m c 6 t) xs (ix3 d p j : S11x8x512.Idx) = up (iblk m c 0 t) (iblk m c 1 t) d ⟨504 + p.val, by omega⟩ j := by
  frame_out
  have hY : ∀ (c : Fin 11) (p : Fin 8) (j : Fin 512), View.read (Elt Ideal) (View.whole cc0_scratch0) ((Memref.isWhole_whole cc0_scratch0).unread xs) (ix3 c p j : S11x8x512.Idx) = H c p j :=
    fun c p j => (congrFun (read_unread_whole (Val := Elt Ideal) cc0_scratch0 (Memref.isWhole_whole _) xs) (ix3 c p j : S11x8x512.Idx)).trans (hH c p j)
  obtain ⟨d, hd⟩ := d
  interval_cases d
  · refine (?_ : Kept _ 0 (fun p j => up (iblk m c 0 t) (iblk m c 1 t) 0 ⟨504 + p.val, by omega⟩ j)) p j
    refine kept_skip 0 10 (by decide) _ _ _ _ ?_
    refine kept_skip 0 9 (by decide) _ _ _ _ ?_
    refine kept_skip 0 8 (by decide) _ _ _ _ ?_
    refine kept_skip 0 7 (by decide) _ _ _ _ ?_
    refine kept_skip 0 6 (by decide) _ _ _ _ ?_
    refine kept_skip 0 5 (by decide) _ _ _ _ ?_
    refine kept_skip 0 4 (by decide) _ _ _ _ ?_
    refine kept_skip 0 3 (by decide) _ _ _ _ ?_
    refine kept_skip 0 2 (by decide) _ _ _ _ ?_
    refine kept_skip 0 1 (by decide) _ _ _ _ ?_
    refine kept_hit 0 _ _ _ _ ?_
    refine kept_next (iblk m c 0 t) (iblk m c 1 t) H 0 _ _ 0 ?_ _
    exact (holds_head 0 _ _ _ _ _ _ (dot_row (iblk m c 0 t) (iblk m c 1 t) H 0 _) (kept_row (iblk m c 0 t) (iblk m c 1 t) H _ hY 0 _))
  · refine (?_ : Kept _ 1 (fun p j => up (iblk m c 0 t) (iblk m c 1 t) 1 ⟨504 + p.val, by omega⟩ j)) p j
    refine kept_skip 1 10 (by decide) _ _ _ _ ?_
    refine kept_skip 1 9 (by decide) _ _ _ _ ?_
    refine kept_skip 1 8 (by decide) _ _ _ _ ?_
    refine kept_skip 1 7 (by decide) _ _ _ _ ?_
    refine kept_skip 1 6 (by decide) _ _ _ _ ?_
    refine kept_skip 1 5 (by decide) _ _ _ _ ?_
    refine kept_skip 1 4 (by decide) _ _ _ _ ?_
    refine kept_skip 1 3 (by decide) _ _ _ _ ?_
    refine kept_skip 1 2 (by decide) _ _ _ _ ?_
    refine kept_hit 1 _ _ _ _ ?_
    refine kept_next (iblk m c 0 t) (iblk m c 1 t) H 1 _ _ 1 ?_ _
    exact (holds_head 1 _ _ _ _ _ _ (dot_row (iblk m c 0 t) (iblk m c 1 t) H 1 _) (kept_row (iblk m c 0 t) (iblk m c 1 t) H _ hY 1 _))
  · refine (?_ : Kept _ 2 (fun p j => up (iblk m c 0 t) (iblk m c 1 t) 2 ⟨504 + p.val, by omega⟩ j)) p j
    refine kept_skip 2 10 (by decide) _ _ _ _ ?_
    refine kept_skip 2 9 (by decide) _ _ _ _ ?_
    refine kept_skip 2 8 (by decide) _ _ _ _ ?_
    refine kept_skip 2 7 (by decide) _ _ _ _ ?_
    refine kept_skip 2 6 (by decide) _ _ _ _ ?_
    refine kept_skip 2 5 (by decide) _ _ _ _ ?_
    refine kept_skip 2 4 (by decide) _ _ _ _ ?_
    refine kept_skip 2 3 (by decide) _ _ _ _ ?_
    refine kept_hit 2 _ _ _ _ ?_
    refine kept_next (iblk m c 0 t) (iblk m c 1 t) H 2 _ _ 0 ?_ _
    exact (holds_head 0 _ _ _ _ _ _ (dot_row (iblk m c 0 t) (iblk m c 1 t) H 2 _) (kept_row (iblk m c 0 t) (iblk m c 1 t) H _ hY 2 _))
  · refine (?_ : Kept _ 3 (fun p j => up (iblk m c 0 t) (iblk m c 1 t) 3 ⟨504 + p.val, by omega⟩ j)) p j
    refine kept_skip 3 10 (by decide) _ _ _ _ ?_
    refine kept_skip 3 9 (by decide) _ _ _ _ ?_
    refine kept_skip 3 8 (by decide) _ _ _ _ ?_
    refine kept_skip 3 7 (by decide) _ _ _ _ ?_
    refine kept_skip 3 6 (by decide) _ _ _ _ ?_
    refine kept_skip 3 5 (by decide) _ _ _ _ ?_
    refine kept_skip 3 4 (by decide) _ _ _ _ ?_
    refine kept_hit 3 _ _ _ _ ?_
    refine kept_next (iblk m c 0 t) (iblk m c 1 t) H 3 _ _ 1 ?_ _
    exact (holds_head 1 _ _ _ _ _ _ (dot_row (iblk m c 0 t) (iblk m c 1 t) H 3 _) (kept_row (iblk m c 0 t) (iblk m c 1 t) H _ hY 3 _))
  · refine (?_ : Kept _ 4 (fun p j => up (iblk m c 0 t) (iblk m c 1 t) 4 ⟨504 + p.val, by omega⟩ j)) p j
    refine kept_skip 4 10 (by decide) _ _ _ _ ?_
    refine kept_skip 4 9 (by decide) _ _ _ _ ?_
    refine kept_skip 4 8 (by decide) _ _ _ _ ?_
    refine kept_skip 4 7 (by decide) _ _ _ _ ?_
    refine kept_skip 4 6 (by decide) _ _ _ _ ?_
    refine kept_skip 4 5 (by decide) _ _ _ _ ?_
    refine kept_hit 4 _ _ _ _ ?_
    refine kept_next (iblk m c 0 t) (iblk m c 1 t) H 4 _ _ 0 ?_ _
    exact (holds_head 0 _ _ _ _ _ _ (dot_row (iblk m c 0 t) (iblk m c 1 t) H 4 _) (kept_row (iblk m c 0 t) (iblk m c 1 t) H _ hY 4 _))
  · refine (?_ : Kept _ 5 (fun p j => up (iblk m c 0 t) (iblk m c 1 t) 5 ⟨504 + p.val, by omega⟩ j)) p j
    refine kept_skip 5 10 (by decide) _ _ _ _ ?_
    refine kept_skip 5 9 (by decide) _ _ _ _ ?_
    refine kept_skip 5 8 (by decide) _ _ _ _ ?_
    refine kept_skip 5 7 (by decide) _ _ _ _ ?_
    refine kept_skip 5 6 (by decide) _ _ _ _ ?_
    refine kept_hit 5 _ _ _ _ ?_
    refine kept_next (iblk m c 0 t) (iblk m c 1 t) H 5 _ _ 1 ?_ _
    exact (holds_head 1 _ _ _ _ _ _ (dot_row (iblk m c 0 t) (iblk m c 1 t) H 5 _) (kept_row (iblk m c 0 t) (iblk m c 1 t) H _ hY 5 _))
  · refine (?_ : Kept _ 6 (fun p j => up (iblk m c 0 t) (iblk m c 1 t) 6 ⟨504 + p.val, by omega⟩ j)) p j
    refine kept_skip 6 10 (by decide) _ _ _ _ ?_
    refine kept_skip 6 9 (by decide) _ _ _ _ ?_
    refine kept_skip 6 8 (by decide) _ _ _ _ ?_
    refine kept_skip 6 7 (by decide) _ _ _ _ ?_
    refine kept_hit 6 _ _ _ _ ?_
    refine kept_next (iblk m c 0 t) (iblk m c 1 t) H 6 _ _ 0 ?_ _
    exact (holds_head 0 _ _ _ _ _ _ (dot_row (iblk m c 0 t) (iblk m c 1 t) H 6 _) (kept_row (iblk m c 0 t) (iblk m c 1 t) H _ hY 6 _))
  · refine (?_ : Kept _ 7 (fun p j => up (iblk m c 0 t) (iblk m c 1 t) 7 ⟨504 + p.val, by omega⟩ j)) p j
    refine kept_skip 7 10 (by decide) _ _ _ _ ?_
    refine kept_skip 7 9 (by decide) _ _ _ _ ?_
    refine kept_skip 7 8 (by decide) _ _ _ _ ?_
    refine kept_hit 7 _ _ _ _ ?_
    refine kept_next (iblk m c 0 t) (iblk m c 1 t) H 7 _ _ 1 ?_ _
    exact (holds_head 1 _ _ _ _ _ _ (dot_row (iblk m c 0 t) (iblk m c 1 t) H 7 _) (kept_row (iblk m c 0 t) (iblk m c 1 t) H _ hY 7 _))
  · refine (?_ : Kept _ 8 (fun p j => up (iblk m c 0 t) (iblk m c 1 t) 8 ⟨504 + p.val, by omega⟩ j)) p j
    refine kept_skip 8 10 (by decide) _ _ _ _ ?_
    refine kept_skip 8 9 (by decide) _ _ _ _ ?_
    refine kept_hit 8 _ _ _ _ ?_
    refine kept_next (iblk m c 0 t) (iblk m c 1 t) H 8 _ _ 0 ?_ _
    exact (holds_head 0 _ _ _ _ _ _ (dot_row (iblk m c 0 t) (iblk m c 1 t) H 8 _) (kept_row (iblk m c 0 t) (iblk m c 1 t) H _ hY 8 _))
  · refine (?_ : Kept _ 9 (fun p j => up (iblk m c 0 t) (iblk m c 1 t) 9 ⟨504 + p.val, by omega⟩ j)) p j
    refine kept_skip 9 10 (by decide) _ _ _ _ ?_
    refine kept_hit 9 _ _ _ _ ?_
    refine kept_next (iblk m c 0 t) (iblk m c 1 t) H 9 _ _ 1 ?_ _
    exact (holds_head 1 _ _ _ _ _ _ (dot_row (iblk m c 0 t) (iblk m c 1 t) H 9 _) (kept_row (iblk m c 0 t) (iblk m c 1 t) H _ hY 9 _))
  · refine (?_ : Kept _ 10 (fun p j => up (iblk m c 0 t) (iblk m c 1 t) 10 ⟨504 + p.val, by omega⟩ j)) p j
    refine kept_hit 10 _ _ _ _ ?_
    refine kept_next (iblk m c 0 t) (iblk m c 1 t) H 10 _ _ 0 ?_ _
    exact (holds_head 0 _ _ _ _ _ _ (dot_row (iblk m c 0 t) (iblk m c 1 t) H 10 _) (kept_row (iblk m c 0 t) (iblk m c 1 t) H _ hY 10 _))

set_option maxHeartbeats 8000000 in
/-- What the body stores at a point that starts a batch row: nothing is carried in, the first rows are zero. -/
theorem point_A (c : Dev nD) (t : Fin cfg0.N) (hc) (r : Fin 512) (l : Fin 1024) : out0_A_7 (F := Ideal) c (grid0.coords t) (ms0_0 t) (hs0_0 t) (ms0_1
    t) (hs0_1 t) (ms0_2 t) (hs0_2 t) (ms0_3 t) (hs0_3 t) (ms0_4 t) (hs0_4 t) (ms0_5 t) (hs0_5 t) (ms0_6 t) (hs0_6 t) (ms0_7 t) (hs0_7 t) scM0_0
    (Memref.isWhole_whole _) scM0_1 (Memref.isWhole_whole _) scM0_2 (Memref.isWhole_whole _) hc (iblk m c 0 t) (iblk m c 1 t) (iblk m c 2 t) (iblk m c
    3 t) (iblk m c 4 t) (iblk m c 5 t) (iblk m c 6 t) (ix3 (0 : Fin 1) r l : S1x512x1024.Idx) = RowNorm.norm (line (iblk m c 0 t) (iblk m c 4 t) (act
    (iblk m c 2 t) (iblk m c 3 t) (rows (iblk m c 0 t) (iblk m c 1 t) (fun _ _ _ => 0))) r) (iblk m c 5 t (ix2 0 l : S1x1024.Idx)) (iblk m c 6 t (ix2
    0 l : S1x1024.Idx)) l := by
  frame_out
  refine stored _ _ (iblk m c 2 t) (iblk m c 3 t) (rows (iblk m c 0 t) (iblk m c 1 t) (fun _ _ _ => 0)) _ _ _ _ _ _ _ _ _ _ _ _ _ _ _ ?_ r l
  intro y
  refine View.canon_apply_of_pieces _ _ (View.PiecesOf.mem ?_) y (View.cover_of_tiledL (s := S11x512x256) _ ![1, 64, 256] (by sl_kernel_rfl) y)
  refine gate_cons _ _ _ _ _ _ ?_ ?_
  · refine piece 10 0 448 (by decide) (iblk m c 2 t) (iblk m c 3 t) (rows (iblk m c 0 t) (iblk m c 1 t) (fun _ _ _ => 0)) _ _ ?_ _ _ _ _ _ _
    exact (holds_head 0 _ _ _ _ _ _ (dot_row (iblk m c 0 t) (iblk m c 1 t) (fun _ _ _ => 0) 10 _) (kept_read (iblk m c 0 t) (iblk m c 1 t) (fun _ _ _ =>
      0) _ _ 10 (kept_skip 10 9 (by decide) _ _ _ _ (kept_skip 10 8 (by decide) _ _ _ _ (kept_skip 10 7 (by decide) _ _ _ _ (kept_skip 10 6 (by
      decide) _ _ _ _ (kept_skip 10 5 (by decide) _ _ _ _ (kept_skip 10 4 (by decide) _ _ _ _ (kept_skip 10 3 (by decide) _ _ _ _ (kept_skip 10 2 (by
      decide) _ _ _ _ (kept_skip 10 1 (by decide) _ _ _ _ (kept_skip 10 0 (by decide) _ _ _ _ (kept_zero 10 _))))))))))) _))
  refine gate_cons _ _ _ _ _ _ ?_ ?_
  · refine piece 10 0 384 (by decide) (iblk m c 2 t) (iblk m c 3 t) (rows (iblk m c 0 t) (iblk m c 1 t) (fun _ _ _ => 0)) _ _ ?_ _ _ _ _ _ _
    exact (holds_head 0 _ _ _ _ _ _ (dot_row (iblk m c 0 t) (iblk m c 1 t) (fun _ _ _ => 0) 10 _) (kept_read (iblk m c 0 t) (iblk m c 1 t) (fun _ _ _ =>
      0) _ _ 10 (kept_skip 10 9 (by decide) _ _ _ _ (kept_skip 10 8 (by decide) _ _ _ _ (kept_skip 10 7 (by decide) _ _ _ _ (kept_skip 10 6 (by
      decide) _ _ _ _ (kept_skip 10 5 (by decide) _ _ _ _ (kept_skip 10 4 (by decide) _ _ _ _ (kept_skip 10 3 (by decide) _ _ _ _ (kept_skip 10 2 (by
      decide) _ _ _ _ (kept_skip 10 1 (by decide) _ _ _ _ (kept_skip 10 0 (by decide) _ _ _ _ (kept_zero 10 _))))))))))) _))
  refine gate_cons _ _ _ _ _ _ ?_ ?_
  · refine piece 10 0 320 (by decide) (iblk m c 2 t) (iblk m c 3 t) (rows (iblk m c 0 t) (iblk m c 1 t) (fun _ _ _ => 0)) _ _ ?_ _ _ _ _ _ _
    exact (holds_head 0 _ _ _ _ _ _ (dot_row (iblk m c 0 t) (iblk m c 1 t) (fun _ _ _ => 0) 10 _) (kept_read (iblk m c 0 t) (iblk m c 1 t) (fun _ _ _ =>
      0) _ _ 10 (kept_skip 10 9 (by decide) _ _ _ _ (kept_skip 10 8 (by decide) _ _ _ _ (kept_skip 10 7 (by decide) _ _ _ _ (kept_skip 10 6 (by
      decide) _ _ _ _ (kept_skip 10 5 (by decide) _ _ _ _ (kept_skip 10 4 (by decide) _ _ _ _ (kept_skip 10 3 (by decide) _ _ _ _ (kept_skip 10 2 (by
      decide) _ _ _ _ (kept_skip 10 1 (by decide) _ _ _ _ (kept_skip 10 0 (by decide) _ _ _ _ (kept_zero 10 _))))))))))) _))
  refine gate_cons _ _ _ _ _ _ ?_ ?_
  · refine piece 10 0 256 (by decide) (iblk m c 2 t) (iblk m c 3 t) (rows (iblk m c 0 t) (iblk m c 1 t) (fun _ _ _ => 0)) _ _ ?_ _ _ _ _ _ _
    exact (holds_head 0 _ _ _ _ _ _ (dot_row (iblk m c 0 t) (iblk m c 1 t) (fun _ _ _ => 0) 10 _) (kept_read (iblk m c 0 t) (iblk m c 1 t) (fun _ _ _ =>
      0) _ _ 10 (kept_skip 10 9 (by decide) _ _ _ _ (kept_skip 10 8 (by decide) _ _ _ _ (kept_skip 10 7 (by decide) _ _ _ _ (kept_skip 10 6 (by
      decide) _ _ _ _ (kept_skip 10 5 (by decide) _ _ _ _ (kept_skip 10 4 (by decide) _ _ _ _ (kept_skip 10 3 (by decide) _ _ _ _ (kept_skip 10 2 (by
      decide) _ _ _ _ (kept_skip 10 1 (by decide) _ _ _ _ (kept_skip 10 0 (by decide) _ _ _ _ (kept_zero 10 _))))))))))) _))
  refine gate_cons _ _ _ _ _ _ ?_ ?_
  · refine piece 10 0 192 (by decide) (iblk m c 2 t) (iblk m c 3 t) (rows (iblk m c 0 t) (iblk m c 1 t) (fun _ _ _ => 0)) _ _ ?_ _ _ _ _ _ _
    exact (holds_head 0 _ _ _ _ _ _ (dot_row (iblk m c 0 t) (iblk m c 1 t) (fun _ _ _ => 0) 10 _) (kept_read (iblk m c 0 t) (iblk m c 1 t) (fun _ _ _ =>
      0) _ _ 10 (kept_skip 10 9 (by decide) _ _ _ _ (kept_skip 10 8 (by decide) _ _ _ _ (kept_skip 10 7 (by decide) _ _ _ _ (kept_skip 10 6 (by
      decide) _ _ _ _ (kept_skip 10 5 (by decide) _ _ _ _ (kept_skip 10 4 (by decide) _ _ _ _ (kept_skip 10 3 (by decide) _ _ _ _ (kept_skip 10 2 (by
      decide) _ _ _ _ (kept_skip 10 1 (by decide) _ _ _ _ (kept_skip 10 0 (by decide) _ _ _ _ (kept_zero 10 _))))))))))) _))
  refine gate_cons _ _ _ _ _ _ ?_ ?_
  · refine piece 10 0 128 (by decide) (iblk m c 2 t) (iblk m c 3 t) (rows (iblk m c 0 t) (iblk m c 1 t) (fun _ _ _ => 0)) _ _ ?_ _ _ _ _ _ _
    exact (holds_head 0 _ _ _ _ _ _ (dot_row (iblk m c 0 t) (iblk m c 1 t) (fun _ _ _ => 0) 10 _) (kept_read (iblk m c 0 t) (iblk m c 1 t) (fun _ _ _ =>
      0) _ _ 10 (kept_skip 10 9 (by decide) _ _ _ _ (kept_skip 10 8 (by decide) _ _ _ _ (kept_skip 10 7 (by decide) _ _ _ _ (kept_skip 10 6 (by
      decide) _ _ _ _ (kept_skip 10 5 (by decide) _ _ _ _ (kept_skip 10 4 (by decide) _ _ _ _ (kept_skip 10 3 (by decide) _ _ _ _ (kept_skip 10 2 (by
      decide) _ _ _ _ (kept_skip 10 1 (by decide) _ _ _ _ (kept_skip 10 0 (by decide) _ _ _ _ (kept_zero 10 _))))))))))) _))
  refine gate_cons _ _ _ _ _ _ ?_ ?_
  · refine piece 10 0 64 (by decide) (iblk m c 2 t) (iblk m c 3 t) (rows (iblk m c 0 t) (iblk m c 1 t) (fun _ _ _ => 0)) _ _ ?_ _ _ _ _ _ _
    exact (holds_head 0 _ _ _ _ _ _ (dot_row (iblk m c 0 t) (iblk m c 1 t) (fun _ _ _ => 0) 10 _) (kept_read (iblk m c 0 t) (iblk m c 1 t) (fun _ _ _ =>
      0) _ _ 10 (kept_skip 10 9 (by decide) _ _ _ _ (kept_skip 10 8 (by decide) _ _ _ _ (kept_skip 10 7 (by decide) _ _ _ _ (kept_skip 10 6 (by
      decide) _ _ _ _ (kept_skip 10 5 (by decide) _ _ _ _ (kept_skip 10 4 (by decide) _ _ _ _ (kept_skip 10 3 (by decide) _ _ _ _ (kept_skip 10 2 (by
      decide) _ _ _ _ (kept_skip 10 1 (by decide) _ _ _ _ (kept_skip 10 0 (by decide) _ _ _ _ (kept_zero 10 _))))))))))) _))
  refine gate_cons _ _ _ _ _ _ ?_ ?_
  · refine piece 10 0 0 (by decide) (iblk m c 2 t) (iblk m c 3 t) (rows (iblk m c 0 t) (iblk m c 1 t) (fun _ _ _ => 0)) _ _ ?_ _ _ _ _ _ _
    exact (holds_head 0 _ _ _ _ _ _ (dot_row (iblk m c 0 t) (iblk m c 1 t) (fun _ _ _ => 0) 10 _) (kept_read (iblk m c 0 t) (iblk m c 1 t) (fun _ _ _ =>
      0) _ _ 10 (kept_skip 10 9 (by decide) _ _ _ _ (kept_skip 10 8 (by decide) _ _ _ _ (kept_skip 10 7 (by decide) _ _ _ _ (kept_skip 10 6 (by
      decide) _ _ _ _ (kept_skip 10 5 (by decide) _ _ _ _ (kept_skip 10 4 (by decide) _ _ _ _ (kept_skip 10 3 (by decide) _ _ _ _ (kept_skip 10 2 (by
      decide) _ _ _ _ (kept_skip 10 1 (by decide) _ _ _ _ (kept_skip 10 0 (by decide) _ _ _ _ (kept_zero 10 _))))))))))) _))
  refine gate_cons _ _ _ _ _ _ ?_ ?_
  · refine piece 9 1 448 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 9 _) (kept_read (iblk
      m c 0 t) (iblk m c 1 t) (fun _ _ _ => 0) _ _ 9 (kept_skip 9 8 (by decide) _ _ _ _ (kept_skip 9 7 (by decide) _ _ _ _ (kept_skip 9 6 (by decide)
      _ _ _ _ (kept_skip 9 5 (by decide) _ _ _ _ (kept_skip 9 4 (by decide) _ _ _ _ (kept_skip 9 3 (by decide) _ _ _ _ (kept_skip 9 2 (by decide) _ _
      _ _ (kept_skip 9 1 (by decide) _ _ _ _ (kept_skip 9 0 (by decide) _ _ _ _ (kept_zero 9 _)))))))))) _)))
  refine gate_cons _ _ _ _ _ _ ?_ ?_
  · refine piece 9 1 384 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 9 _) (kept_read (iblk
      m c 0 t) (iblk m c 1 t) (fun _ _ _ => 0) _ _ 9 (kept_skip 9 8 (by decide) _ _ _ _ (kept_skip 9 7 (by decide) _ _ _ _ (kept_skip 9 6 (by decide)
      _ _ _ _ (kept_skip 9 5 (by decide) _ _ _ _ (kept_skip 9 4 (by decide) _ _ _ _ (kept_skip 9 3 (by decide) _ _ _ _ (kept_skip 9 2 (by decide) _ _
      _ _ (kept_skip 9 1 (by decide) _ _ _ _ (kept_skip 9 0 (by decide) _ _ _ _ (kept_zero 9 _)))))))))) _)))
  refine gate_cons _ _ _ _ _ _ ?_ ?_
  · refine piece 9 1 320 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 9 _) (kept_read (iblk
      m c 0 t) (iblk m c 1 t) (fun _ _ _ => 0) _ _ 9 (kept_skip 9 8 (by decide) _ _ _ _ (kept_skip 9 7 (by decide) _ _ _ _ (kept_skip 9 6 (by decide)
      _ _ _ _ (kept_skip 9 5 (by decide) _ _ _ _ (kept_skip 9 4 (by decide) _ _ _ _ (kept_skip 9 3 (by decide) _ _ _ _ (kept_skip 9 2 (by decide) _ _
      _ _ (kept_skip 9 1 (by decide) _ _ _ _ (kept_skip 9 0 (by decide) _ _ _ _ (kept_zero 9 _)))))))))) _)))
  refine gate_cons _ _ _ _ _ _ ?_ ?_
  · refine piece 9 1 256 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 9 _) (kept_read (iblk
      m c 0 t) (iblk m c 1 t) (fun _ _ _ => 0) _ _ 9 (kept_skip 9 8 (by decide) _ _ _ _ (kept_skip 9 7 (by decide) _ _ _ _ (kept_skip 9 6 (by decide)
      _ _ _ _ (kept_skip 9 5 (by decide) _ _ _ _ (kept_skip 9 4 (by decide) _ _ _ _ (kept_skip 9 3 (by decide) _ _ _ _ (kept_skip 9 2 (by decide) _ _
      _ _ (kept_skip 9 1 (by decide) _ _ _ _ (kept_skip 9 0 (by decide) _ _ _ _ (kept_zero 9 _)))))))))) _)))
  refine gate_cons _ _ _ _ _ _ ?_ ?_
  · refine piece 9 1 192 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 9 _) (kept_read (iblk
      m c 0 t) (iblk m c 1 t) (fun _ _ _ => 0) _ _ 9 (kept_skip 9 8 (by decide) _ _ _ _ (kept_skip 9 7 (by decide) _ _ _ _ (kept_skip 9 6 (by decide)
      _ _ _ _ (kept_skip 9 5 (by decide) _ _ _ _ (kept_skip 9 4 (by decide) _ _ _ _ (kept_skip 9 3 (by decide) _ _ _ _ (kept_skip 9 2 (by decide) _ _
      _ _ (kept_skip 9 1 (by decide) _ _ _ _ (kept_skip 9 0 (by decide) _ _ _ _ (kept_zero 9 _)))))))))) _)))
  refine gate_cons _ _ _ _ _ _ ?_ ?_
  · refine piece 9 1 128 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 9 _) (kept_read (iblk
      m c 0 t) (iblk m c 1 t) (fun _ _ _ => 0) _ _ 9 (kept_skip 9 8 (by decide) _ _ _ _ (kept_skip 9 7 (by decide) _ _ _ _ (kept_skip 9 6 (by decide)
      _ _ _ _ (kept_skip 9 5 (by decide) _ _ _ _ (kept_skip 9 4 (by decide) _ _ _ _ (kept_skip 9 3 (by decide) _ _ _ _ (kept_skip 9 2 (by decide) _ _
      _ _ (kept_skip 9 1 (by decide) _ _ _ _ (kept_skip 9 0 (by decide) _ _ _ _ (kept_zero 9 _)))))))))) _)))
  refine gate_cons _ _ _ _ _ _ ?_ ?_
  · refine piece 9 1 64 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 9 _) (kept_read (iblk
      m c 0 t) (iblk m c 1 t) (fun _ _ _ => 0) _ _ 9 (kept_skip 9 8 (by decide) _ _ _ _ (kept_skip 9 7 (by decide) _ _ _ _ (kept_skip 9 6 (by decide)
      _ _ _ _ (kept_skip 9 5 (by decide) _ _ _ _ (kept_skip 9 4 (by decide) _ _ _ _ (kept_skip 9 3 (by decide) _ _ _ _ (kept_skip 9 2 (by decide) _ _
      _ _ (kept_skip 9 1 (by decide) _ _ _ _ (kept_skip 9 0 (by decide) _ _ _ _ (kept_zero 9 _)))))))))) _)))
  refine gate_cons _ _ _ _ _ _ ?_ ?_
  · refine piece 9 1 0 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 9 _) (kept_read (iblk
      m c 0 t) (iblk m c 1 t) (fun _ _ _ => 0) _ _ 9 (kept_skip 9 8 (by decide) _ _ _ _ (kept_skip 9 7 (by decide) _ _ _ _ (kept_skip 9 6 (by decide)
      _ _ _ _ (kept_skip 9 5 (by decide) _ _ _ _ (kept_skip 9 4 (by decide) _ _ _ _ (kept_skip 9 3 (by decide) _ _ _ _ (kept_skip 9 2 (by decide) _ _
      _ _ (kept_skip 9 1 (by decide) _ _ _ _ (kept_skip 9 0 (by decide) _ _ _ _ (kept_zero 9 _)))))))))) _)))
  refine gate_cons _ _ _ _ _ _ ?_ ?_
  · refine piece 8 0 448 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 8 _) (kept_read (iblk
      m c 0 t) (iblk m c 1 t) (fun _ _ _ => 0) _ _ 8 (kept_skip 8 7 (by decide) _ _ _ _ (kept_skip 8 6 (by decide) _ _ _ _ (kept_skip 8 5 (by decide)
      _ _ _ _ (kept_skip 8 4 (by decide) _ _ _ _ (kept_skip 8 3 (by decide) _ _ _ _ (kept_skip 8 2 (by decide) _ _ _ _ (kept_skip 8 1 (by decide) _ _
      _ _ (kept_skip 8 0 (by decide) _ _ _ _ (kept_zero 8 _))))))))) _)))
  refine gate_cons _ _ _ _ _ _ ?_ ?_
  · refine piece 8 0 384 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 8 _) (kept_read (iblk
      m c 0 t) (iblk m c 1 t) (fun _ _ _ => 0) _ _ 8 (kept_skip 8 7 (by decide) _ _ _ _ (kept_skip 8 6 (by decide) _ _ _ _ (kept_skip 8 5 (by decide)
      _ _ _ _ (kept_skip 8 4 (by decide) _ _ _ _ (kept_skip 8 3 (by decide) _ _ _ _ (kept_skip 8 2 (by decide) _ _ _ _ (kept_skip 8 1 (by decide) _ _
      _ _ (kept_skip 8 0 (by decide) _ _ _ _ (kept_zero 8 _))))))))) _)))
  refine gate_cons _ _ _ _ _ _ ?_ ?_
  · refine piece 8 0 320 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 8 _) (kept_read (iblk
      m c 0 t) (iblk m c 1 t) (fun _ _ _ => 0) _ _ 8 (kept_skip 8 7 (by decide) _ _ _ _ (kept_skip 8 6 (by decide) _ _ _ _ (kept_skip 8 5 (by decide)
      _ _ _ _ (kept_skip 8 4 (by decide) _ _ _ _ (kept_skip 8 3 (by decide) _ _ _ _ (kept_skip 8 2 (by decide) _ _ _ _ (kept_skip 8 1 (by decide) _ _
      _ _ (kept_skip 8 0 (by decide) _ _ _ _ (kept_zero 8 _))))))))) _)))
  refine gate_cons _ _ _ _ _ _ ?_ ?_
  · refine piece 8 0 256 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 8 _) (kept_read (iblk
      m c 0 t) (iblk m c 1 t) (fun _ _ _ => 0) _ _ 8 (kept_skip 8 7 (by decide) _ _ _ _ (kept_skip 8 6 (by decide) _ _ _ _ (kept_skip 8 5 (by decide)
      _ _ _ _ (kept_skip 8 4 (by decide) _ _ _ _ (kept_skip 8 3 (by decide) _ _ _ _ (kept_skip 8 2 (by decide) _ _ _ _ (kept_skip 8 1 (by decide) _ _
      _ _ (kept_skip 8 0 (by decide) _ _ _ _ (kept_zero 8 _))))))))) _)))
  refine gate_cons _ _ _ _ _ _ ?_ ?_
  · refine piece 8 0 192 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 8 _) (kept_read (iblk
      m c 0 t) (iblk m c 1 t) (fun _ _ _ => 0) _ _ 8 (kept_skip 8 7 (by decide) _ _ _ _ (kept_skip 8 6 (by decide) _ _ _ _ (kept_skip 8 5 (by decide)
      _ _ _ _ (kept_skip 8 4 (by decide) _ _ _ _ (kept_skip 8 3 (by decide) _ _ _ _ (kept_skip 8 2 (by decide) _ _ _ _ (kept_skip 8 1 (by decide) _ _
      _ _ (kept_skip 8 0 (by decide) _ _ _ _ (kept_zero 8 _))))))))) _)))
  refine gate_cons _ _ _ _ _ _ ?_ ?_
  · refine piece 8 0 128 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 8 _) (kept_read (iblk
      m c 0 t) (iblk m c 1 t) (fun _ _ _ => 0) _ _ 8 (kept_skip 8 7 (by decide) _ _ _ _ (kept_skip 8 6 (by decide) _ _ _ _ (kept_skip 8 5 (by decide)
      _ _ _ _ (kept_skip 8 4 (by decide) _ _ _ _ (kept_skip 8 3 (by decide) _ _ _ _ (kept_skip 8 2 (by decide) _ _ _ _ (kept_skip 8 1 (by decide) _ _
      _ _ (kept_skip 8 0 (by decide) _ _ _ _ (kept_zero 8 _))))))))) _)))
  refine gate_cons _ _ _ _ _ _ ?_ ?_
  · refine piece 8 0 64 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 8 _) (kept_read (iblk
      m c 0 t) (iblk m c 1 t) (fun _ _ _ => 0) _ _ 8 (kept_skip 8 7 (by decide) _ _ _ _ (kept_skip 8 6 (by decide) _ _ _ _ (kept_skip 8 5 (by decide)
      _ _ _ _ (kept_skip 8 4 (by decide) _ _ _ _ (kept_skip 8 3 (by decide) _ _ _ _ (kept_skip 8 2 (by decide) _ _ _ _ (kept_skip 8 1 (by decide) _ _
      _ _ (kept_skip 8 0 (by decide) _ _ _ _ (kept_zero 8 _))))))))) _)))
  refine gate_cons _ _ _ _ _ _ ?_ ?_
  · refine piece 8 0 0 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 8 _) (kept_read (iblk
      m c 0 t) (iblk m c 1 t) (fun _ _ _ => 0) _ _ 8 (kept_skip 8 7 (by decide) _ _ _ _ (kept_skip 8 6 (by decide) _ _ _ _ (kept_skip 8 5 (by decide)
      _ _ _ _ (kept_skip 8 4 (by decide) _ _ _ _ (kept_skip 8 3 (by decide) _ _ _ _ (kept_skip 8 2 (by decide) _ _ _ _ (kept_skip 8 1 (by decide) _ _
      _ _ (kept_skip 8 0 (by decide) _ _ _ _ (kept_zero 8 _))))))))) _)))
  refine gate_cons _ _ _ _ _ _ ?_ ?_
  · refine piece 7 1 448 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 7 _) (kept_read (iblk
      m c 0 t) (iblk m c 1 t) (fun _ _ _ => 0) _ _ 7 (kept_skip 7 6 (by decide) _ _ _ _ (kept_skip 7 5 (by decide) _ _ _ _ (kept_skip 7 4 (by decide)
      _ _ _ _ (kept_skip 7 3 (by decide) _ _ _ _ (kept_skip 7 2 (by decide) _ _ _ _ (kept_skip 7 1 (by decide) _ _ _ _ (kept_skip 7 0 (by decide) _ _
      _ _ (kept_zero 7 _)))))))) _)))
  refine gate_cons _ _ _ _ _ _ ?_ ?_
  · refine piece 7 1 384 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 7 _) (kept_read (iblk
      m c 0 t) (iblk m c 1 t) (fun _ _ _ => 0) _ _ 7 (kept_skip 7 6 (by decide) _ _ _ _ (kept_skip 7 5 (by decide) _ _ _ _ (kept_skip 7 4 (by decide)
      _ _ _ _ (kept_skip 7 3 (by decide) _ _ _ _ (kept_skip 7 2 (by decide) _ _ _ _ (kept_skip 7 1 (by decide) _ _ _ _ (kept_skip 7 0 (by decide) _ _
      _ _ (kept_zero 7 _)))))))) _)))
  refine gate_cons _ _ _ _ _ _ ?_ ?_
  · refine piece 7 1 320 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 7 _) (kept_read (iblk
      m c 0 t) (iblk m c 1 t) (fun _ _ _ => 0) _ _ 7 (kept_skip 7 6 (by decide) _ _ _ _ (kept_skip 7 5 (by decide) _ _ _ _ (kept_skip 7 4 (by decide)
      _ _ _ _ (kept_skip 7 3 (by decide) _ _ _ _ (kept_skip 7 2 (by decide) _ _ _ _ (kept_skip 7 1 (by decide) _ _ _ _ (kept_skip 7 0 (by decide) _ _
      _ _ (kept_zero 7 _)))))))) _)))
  refine gate_cons _ _ _ _ _ _ ?_ ?_
  · refine piece 7 1 256 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 7 _) (kept_read (iblk
      m c 0 t) (iblk m c 1 t) (fun _ _ _ => 0) _ _ 7 (kept_skip 7 6 (by decide) _ _ _ _ (kept_skip 7 5 (by decide) _ _ _ _ (kept_skip 7 4 (by decide)
      _ _ _ _ (kept_skip 7 3 (by decide) _ _ _ _ (kept_skip 7 2 (by decide) _ _ _ _ (kept_skip 7 1 (by decide) _ _ _ _ (kept_skip 7 0 (by decide) _ _
      _ _ (kept_zero 7 _)))))))) _)))
  refine gate_cons _ _ _ _ _ _ ?_ ?_
  · refine piece 7 1 192 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 7 _) (kept_read (iblk
      m c 0 t) (iblk m c 1 t) (fun _ _ _ => 0) _ _ 7 (kept_skip 7 6 (by decide) _ _ _ _ (kept_skip 7 5 (by decide) _ _ _ _ (kept_skip 7 4 (by decide)
      _ _ _ _ (kept_skip 7 3 (by decide) _ _ _ _ (kept_skip 7 2 (by decide) _ _ _ _ (kept_skip 7 1 (by decide) _ _ _ _ (kept_skip 7 0 (by decide) _ _
      _ _ (kept_zero 7 _)))))))) _)))
  refine gate_cons _ _ _ _ _ _ ?_ ?_
  · refine piece 7 1 128 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 7 _) (kept_read (iblk
      m c 0 t) (iblk m c 1 t) (fun _ _ _ => 0) _ _ 7 (kept_skip 7 6 (by decide) _ _ _ _ (kept_skip 7 5 (by decide) _ _ _ _ (kept_skip 7 4 (by decide)
      _ _ _ _ (kept_skip 7 3 (by decide) _ _ _ _ (kept_skip 7 2 (by decide) _ _ _ _ (kept_skip 7 1 (by decide) _ _ _ _ (kept_skip 7 0 (by decide) _ _
      _ _ (kept_zero 7 _)))))))) _)))
  refine gate_cons _ _ _ _ _ _ ?_ ?_
  · refine piece 7 1 64 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 7 _) (kept_read (iblk
      m c 0 t) (iblk m c 1 t) (fun _ _ _ => 0) _ _ 7 (kept_skip 7 6 (by decide) _ _ _ _ (kept_skip 7 5 (by decide) _ _ _ _ (kept_skip 7 4 (by decide)
      _ _ _ _ (kept_skip 7 3 (by decide) _ _ _ _ (kept_skip 7 2 (by decide) _ _ _ _ (kept_skip 7 1 (by decide) _ _ _ _ (kept_skip 7 0 (by decide) _ _
      _ _ (kept_zero 7 _)))))))) _)))
  refine gate_cons _ _ _ _ _ _ ?_ ?_
  · refine piece 7 1 0 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 7 _) (kept_read (iblk
      m c 0 t) (iblk m c 1 t) (fun _ _ _ => 0) _ _ 7 (kept_skip 7 6 (by decide) _ _ _ _ (kept_skip 7 5 (by decide) _ _ _ _ (kept_skip 7 4 (by decide)
      _ _ _ _ (kept_skip 7 3 (by decide) _ _ _ _ (kept_skip 7 2 (by decide) _ _ _ _ (kept_skip 7 1 (by decide) _ _ _ _ (kept_skip 7 0 (by decide) _ _
      _ _ (kept_zero 7 _)))))))) _)))
  refine gate_cons _ _ _ _ _ _ ?_ ?_
  · refine piece 6 0 448 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 6 _) (kept_read (iblk
      m c 0 t) (iblk m c 1 t) (fun _ _ _ => 0) _ _ 6 (kept_skip 6 5 (by decide) _ _ _ _ (kept_skip 6 4 (by decide) _ _ _ _ (kept_skip 6 3 (by decide)
      _ _ _ _ (kept_skip 6 2 (by decide) _ _ _ _ (kept_skip 6 1 (by decide) _ _ _ _ (kept_skip 6 0 (by decide) _ _ _ _ (kept_zero 6 _))))))) _)))
  refine gate_cons _ _ _ _ _ _ ?_ ?_
  · refine piece 6 0 384 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 6 _) (kept_read (iblk
      m c 0 t) (iblk m c 1 t) (fun _ _ _ => 0) _ _ 6 (kept_skip 6 5 (by decide) _ _ _ _ (kept_skip 6 4 (by decide) _ _ _ _ (kept_skip 6 3 (by decide)
      _ _ _ _ (kept_skip 6 2 (by decide) _ _ _ _ (kept_skip 6 1 (by decide) _ _ _ _ (kept_skip 6 0 (by decide) _ _ _ _ (kept_zero 6 _))))))) _)))
  refine gate_cons _ _ _ _ _ _ ?_ ?_
  · refine piece 6 0 320 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 6 _) (kept_read (iblk
      m c 0 t) (iblk m c 1 t) (fun _ _ _ => 0) _ _ 6 (kept_skip 6 5 (by decide) _ _ _ _ (kept_skip 6 4 (by decide) _ _ _ _ (kept_skip 6 3 (by decide)
      _ _ _ _ (kept_skip 6 2 (by decide) _ _ _ _ (kept_skip 6 1 (by decide) _ _ _ _ (kept_skip 6 0 (by decide) _ _ _ _ (kept_zero 6 _))))))) _)))
  refine gate_cons _ _ _ _ _ _ ?_ ?_
  · refine piece 6 0 256 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 6 _) (kept_read (iblk
      m c 0 t) (iblk m c 1 t) (fun _ _ _ => 0) _ _ 6 (kept_skip 6 5 (by decide) _ _ _ _ (kept_skip 6 4 (by decide) _ _ _ _ (kept_skip 6 3 (by decide)
      _ _ _ _ (kept_skip 6 2 (by decide) _ _ _ _ (kept_skip 6 1 (by decide) _ _ _ _ (kept_skip 6 0 (by decide) _ _ _ _ (kept_zero 6 _))))))) _)))
  refine gate_cons _ _ _ _ _ _ ?_ ?_
  · refine piece 6 0 192 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 6 _) (kept_read (iblk
      m c 0 t) (iblk m c 1 t) (fun _ _ _ => 0) _ _ 6 (kept_skip 6 5 (by decide) _ _ _ _ (kept_skip 6 4 (by decide) _ _ _ _ (kept_skip 6 3 (by decide)
      _ _ _ _ (kept_skip 6 2 (by decide) _ _ _ _ (kept_skip 6 1 (by decide) _ _ _ _ (kept_skip 6 0 (by decide) _ _ _ _ (kept_zero 6 _))))))) _)))
  refine gate_cons _ _ _ _ _ _ ?_ ?_
  · refine piece 6 0 128 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 6 _) (kept_read (iblk
      m c 0 t) (iblk m c 1 t) (fun _ _ _ => 0) _ _ 6 (kept_skip 6 5 (by decide) _ _ _ _ (kept_skip 6 4 (by decide) _ _ _ _ (kept_skip 6 3 (by decide)
      _ _ _ _ (kept_skip 6 2 (by decide) _ _ _ _ (kept_skip 6 1 (by decide) _ _ _ _ (kept_skip 6 0 (by decide) _ _ _ _ (kept_zero 6 _))))))) _)))
  refine gate_cons _ _ _ _ _ _ ?_ ?_
  · refine piece 6 0 64 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 6 _) (kept_read (iblk
      m c 0 t) (iblk m c 1 t) (fun _ _ _ => 0) _ _ 6 (kept_skip 6 5 (by decide) _ _ _ _ (kept_skip 6 4 (by decide) _ _ _ _ (kept_skip 6 3 (by decide)
      _ _ _ _ (kept_skip 6 2 (by decide) _ _ _ _ (kept_skip 6 1 (by decide) _ _ _ _ (kept_skip 6 0 (by decide) _ _ _ _ (kept_zero 6 _))))))) _)))
  refine gate_cons _ _ _ _ _ _ ?_ ?_
  · refine piece 6 0 0 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 6 _) (kept_read (iblk
      m c 0 t) (iblk m c 1 t) (fun _ _ _ => 0) _ _ 6 (kept_skip 6 5 (by decide) _ _ _ _ (kept_skip 6 4 (by decide) _ _ _ _ (kept_skip 6 3 (by decide)
      _ _ _ _ (kept_skip 6 2 (by decide) _ _ _ _ (kept_skip 6 1 (by decide) _ _ _ _ (kept_skip 6 0 (by decide) _ _ _ _ (kept_zero 6 _))))))) _)))
  refine gate_cons _ _ _ _ _ _ ?_ ?_
  · refine piece 5 1 448 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 5 _) (kept_read (iblk
      m c 0 t) (iblk m c 1 t) (fun _ _ _ => 0) _ _ 5 (kept_skip 5 4 (by decide) _ _ _ _ (kept_skip 5 3 (by decide) _ _ _ _ (kept_skip 5 2 (by decide)
      _ _ _ _ (kept_skip 5 1 (by decide) _ _ _ _ (kept_skip 5 0 (by decide) _ _ _ _ (kept_zero 5 _)))))) _)))
  refine gate_cons _ _ _ _ _ _ ?_ ?_
  · refine piece 5 1 384 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 5 _) (kept_read (iblk
      m c 0 t) (iblk m c 1 t) (fun _ _ _ => 0) _ _ 5 (kept_skip 5 4 (by decide) _ _ _ _ (kept_skip 5 3 (by decide) _ _ _ _ (kept_skip 5 2 (by decide)
      _ _ _ _ (kept_skip 5 1 (by decide) _ _ _ _ (kept_skip 5 0 (by decide) _ _ _ _ (kept_zero 5 _)))))) _)))
  refine gate_cons _ _ _ _ _ _ ?_ ?_
  · refine piece 5 1 320 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 5 _) (kept_read (iblk
      m c 0 t) (iblk m c 1 t) (fun _ _ _ => 0) _ _ 5 (kept_skip 5 4 (by decide) _ _ _ _ (kept_skip 5 3 (by decide) _ _ _ _ (kept_skip 5 2 (by decide)
      _ _ _ _ (kept_skip 5 1 (by decide) _ _ _ _ (kept_skip 5 0 (by decide) _ _ _ _ (kept_zero 5 _)))))) _)))
  refine gate_cons _ _ _ _ _ _ ?_ ?_
  · refine piece 5 1 256 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 5 _) (kept_read (iblk
      m c 0 t) (iblk m c 1 t) (fun _ _ _ => 0) _ _ 5 (kept_skip 5 4 (by decide) _ _ _ _ (kept_skip 5 3 (by decide) _ _ _ _ (kept_skip 5 2 (by decide)
      _ _ _ _ (kept_skip 5 1 (by decide) _ _ _ _ (kept_skip 5 0 (by decide) _ _ _ _ (kept_zero 5 _)))))) _)))
  refine gate_cons _ _ _ _ _ _ ?_ ?_
  · refine piece 5 1 192 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 5 _) (kept_read (iblk
      m c 0 t) (iblk m c 1 t) (fun _ _ _ => 0) _ _ 5 (kept_skip 5 4 (by decide) _ _ _ _ (kept_skip 5 3 (by decide) _ _ _ _ (kept_skip 5 2 (by decide)
      _ _ _ _ (kept_skip 5 1 (by decide) _ _ _ _ (kept_skip 5 0 (by decide) _ _ _ _ (kept_zero 5 _)))))) _)))
  refine gate_cons _ _ _ _ _ _ ?_ ?_
  · refine piece 5 1 128 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 5 _) (kept_read (iblk
      m c 0 t) (iblk m c 1 t) (fun _ _ _ => 0) _ _ 5 (kept_skip 5 4 (by decide) _ _ _ _ (kept_skip 5 3 (by decide) _ _ _ _ (kept_skip 5 2 (by decide)
      _ _ _ _ (kept_skip 5 1 (by decide) _ _ _ _ (kept_skip 5 0 (by decide) _ _ _ _ (kept_zero 5 _)))))) _)))
  refine gate_cons _ _ _ _ _ _ ?_ ?_
  · refine piece 5 1 64 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 5 _) (kept_read (iblk
      m c 0 t) (iblk m c 1 t) (fun _ _ _ => 0) _ _ 5 (kept_skip 5 4 (by decide) _ _ _ _ (kept_skip 5 3 (by decide) _ _ _ _ (kept_skip 5 2 (by decide)
      _ _ _ _ (kept_skip 5 1 (by decide) _ _ _ _ (kept_skip 5 0 (by decide) _ _ _ _ (kept_zero 5 _)))))) _)))
  refine gate_cons _ _ _ _ _ _ ?_ ?_
  · refine piece 5 1 0 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 5 _) (kept_read (iblk
      m c 0 t) (iblk m c 1 t) (fun _ _ _ => 0) _ _ 5 (kept_skip 5 4 (by decide) _ _ _ _ (kept_skip 5 3 (by decide) _ _ _ _ (kept_skip 5 2 (by decide)
      _ _ _ _ (kept_skip 5 1 (by decide) _ _ _ _ (kept_skip 5 0 (by decide) _ _ _ _ (kept_zero 5 _)))))) _)))
  refine gate_cons _ _ _ _ _ _ ?_ ?_
  · refine piece 4 0 448 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 4 _) (kept_read (iblk
      m c 0 t) (iblk m c 1 t) (fun _ _ _ => 0) _ _ 4 (kept_skip 4 3 (by decide) _ _ _ _ (kept_skip 4 2 (by decide) _ _ _ _ (kept_skip 4 1 (by decide)
      _ _ _ _ (kept_skip 4 0 (by decide) _ _ _ _ (kept_zero 4 _))))) _)))
  refine gate_cons _ _ _ _ _ _ ?_ ?_
  · refine piece 4 0 384 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 4 _) (kept_read (iblk
      m c 0 t) (iblk m c 1 t) (fun _ _ _ => 0) _ _ 4 (kept_skip 4 3 (by decide) _ _ _ _ (kept_skip 4 2 (by decide) _ _ _ _ (kept_skip 4 1 (by decide)
      _ _ _ _ (kept_skip 4 0 (by decide) _ _ _ _ (kept_zero 4 _))))) _)))
  refine gate_cons _ _ _ _ _ _ ?_ ?_
  · refine piece 4 0 320 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 4 _) (kept_read (iblk
      m c 0 t) (iblk m c 1 t) (fun _ _ _ => 0) _ _ 4 (kept_skip 4 3 (by decide) _ _ _ _ (kept_skip 4 2 (by decide) _ _ _ _ (kept_skip 4 1 (by decide)
      _ _ _ _ (kept_skip 4 0 (by decide) _ _ _ _ (kept_zero 4 _))))) _)))
  refine gate_cons _ _ _ _ _ _ ?_ ?_
  · refine piece 4 0 256 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 4 _) (kept_read (iblk
      m c 0 t) (iblk m c 1 t) (fun _ _ _ => 0) _ _ 4 (kept_skip 4 3 (by decide) _ _ _ _ (kept_skip 4 2 (by decide) _ _ _ _ (kept_skip 4 1 (by decide)
      _ _ _ _ (kept_skip 4 0 (by decide) _ _ _ _ (kept_zero 4 _))))) _)))
  refine gate_cons _ _ _ _ _ _ ?_ ?_
  · refine piece 4 0 192 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 4 _) (kept_read (iblk
      m c 0 t) (iblk m c 1 t) (fun _ _ _ => 0) _ _ 4 (kept_skip 4 3 (by decide) _ _ _ _ (kept_skip 4 2 (by decide) _ _ _ _ (kept_skip 4 1 (by decide)
      _ _ _ _ (kept_skip 4 0 (by decide) _ _ _ _ (kept_zero 4 _))))) _)))
  refine gate_cons _ _ _ _ _ _ ?_ ?_
  · refine piece 4 0 128 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 4 _) (kept_read (iblk
      m c 0 t) (iblk m c 1 t) (fun _ _ _ => 0) _ _ 4 (kept_skip 4 3 (by decide) _ _ _ _ (kept_skip 4 2 (by decide) _ _ _ _ (kept_skip 4 1 (by decide)
      _ _ _ _ (kept_skip 4 0 (by decide) _ _ _ _ (kept_zero 4 _))))) _)))
  refine gate_cons _ _ _ _ _ _ ?_ ?_
  · refine piece 4 0 64 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 4 _) (kept_read (iblk
      m c 0 t) (iblk m c 1 t) (fun _ _ _ => 0) _ _ 4 (kept_skip 4 3 (by decide) _ _ _ _ (kept_skip 4 2 (by decide) _ _ _ _ (kept_skip 4 1 (by decide)
      _ _ _ _ (kept_skip 4 0 (by decide) _ _ _ _ (kept_zero 4 _))))) _)))
  refine gate_cons _ _ _ _ _ _ ?_ ?_
  · refine piece 4 0 0 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 4 _) (kept_read (iblk
      m c 0 t) (iblk m c 1 t) (fun _ _ _ => 0) _ _ 4 (kept_skip 4 3 (by decide) _ _ _ _ (kept_skip 4 2 (by decide) _ _ _ _ (kept_skip 4 1 (by decide)
      _ _ _ _ (kept_skip 4 0 (by decide) _ _ _ _ (kept_zero 4 _))))) _)))
  refine gate_cons _ _ _ _ _ _ ?_ ?_
  · refine piece 3 1 448 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 3 _) (kept_read (iblk
      m c 0 t) (iblk m c 1 t) (fun _ _ _ => 0) _ _ 3 (kept_skip 3 2 (by decide) _ _ _ _ (kept_skip 3 1 (by decide) _ _ _ _ (kept_skip 3 0 (by decide)
      _ _ _ _ (kept_zero 3 _)))) _)))
  refine gate_cons _ _ _ _ _ _ ?_ ?_
  · refine piece 3 1 384 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 3 _) (kept_read (iblk
      m c 0 t) (iblk m c 1 t) (fun _ _ _ => 0) _ _ 3 (kept_skip 3 2 (by decide) _ _ _ _ (kept_skip 3 1 (by decide) _ _ _ _ (kept_skip 3 0 (by decide)
      _ _ _ _ (kept_zero 3 _)))) _)))
  refine gate_cons _ _ _ _ _ _ ?_ ?_
  · refine piece 3 1 320 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 3 _) (kept_read (iblk
      m c 0 t) (iblk m c 1 t) (fun _ _ _ => 0) _ _ 3 (kept_skip 3 2 (by decide) _ _ _ _ (kept_skip 3 1 (by decide) _ _ _ _ (kept_skip 3 0 (by decide)
      _ _ _ _ (kept_zero 3 _)))) _)))
  refine gate_cons _ _ _ _ _ _ ?_ ?_
  · refine piece 3 1 256 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 3 _) (kept_read (iblk
      m c 0 t) (iblk m c 1 t) (fun _ _ _ => 0) _ _ 3 (kept_skip 3 2 (by decide) _ _ _ _ (kept_skip 3 1 (by decide) _ _ _ _ (kept_skip 3 0 (by decide)
      _ _ _ _ (kept_zero 3 _)))) _)))
  refine gate_cons _ _ _ _ _ _ ?_ ?_
  · refine piece 3 1 192 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 3 _) (kept_read (iblk
      m c 0 t) (iblk m c 1 t) (fun _ _ _ => 0) _ _ 3 (kept_skip 3 2 (by decide) _ _ _ _ (kept_skip 3 1 (by decide) _ _ _ _ (kept_skip 3 0 (by decide)
      _ _ _ _ (kept_zero 3 _)))) _)))
  refine gate_cons _ _ _ _ _ _ ?_ ?_
  · refine piece 3 1 128 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 3 _) (kept_read (iblk
      m c 0 t) (iblk m c 1 t) (fun _ _ _ => 0) _ _ 3 (kept_skip 3 2 (by decide) _ _ _ _ (kept_skip 3 1 (by decide) _ _ _ _ (kept_skip 3 0 (by decide)
      _ _ _ _ (kept_zero 3 _)))) _)))
  refine gate_cons _ _ _ _ _ _ ?_ ?_
  · refine piece 3 1 64 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 3 _) (kept_read (iblk
      m c 0 t) (iblk m c 1 t) (fun _ _ _ => 0) _ _ 3 (kept_skip 3 2 (by decide) _ _ _ _ (kept_skip 3 1 (by decide) _ _ _ _ (kept_skip 3 0 (by decide)
      _ _ _ _ (kept_zero 3 _)))) _)))
  refine gate_cons _ _ _ _ _ _ ?_ ?_
  · refine piece 3 1 0 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 3 _) (kept_read (iblk
      m c 0 t) (iblk m c 1 t) (fun _ _ _ => 0) _ _ 3 (kept_skip 3 2 (by decide) _ _ _ _ (kept_skip 3 1 (by decide) _ _ _ _ (kept_skip 3 0 (by decide)
      _ _ _ _ (kept_zero 3 _)))) _)))
  refine gate_cons _ _ _ _ _ _ ?_ ?_
  · refine piece 2 0 448 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 2 _) (kept_read (iblk
      m c 0 t) (iblk m c 1 t) (fun _ _ _ => 0) _ _ 2 (kept_skip 2 1 (by decide) _ _ _ _ (kept_skip 2 0 (by decide) _ _ _ _ (kept_zero 2 _))) _)))
  refine gate_cons _ _ _ _ _ _ ?_ ?_
  · refine piece 2 0 384 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 2 _) (kept_read (iblk
      m c 0 t) (iblk m c 1 t) (fun _ _ _ => 0) _ _ 2 (kept_skip 2 1 (by decide) _ _ _ _ (kept_skip 2 0 (by decide) _ _ _ _ (kept_zero 2 _))) _)))
  refine gate_cons _ _ _ _ _ _ ?_ ?_
  · refine piece 2 0 320 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 2 _) (kept_read (iblk
      m c 0 t) (iblk m c 1 t) (fun _ _ _ => 0) _ _ 2 (kept_skip 2 1 (by decide) _ _ _ _ (kept_skip 2 0 (by decide) _ _ _ _ (kept_zero 2 _))) _)))
  refine gate_cons _ _ _ _ _ _ ?_ ?_
  · refine piece 2 0 256 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 2 _) (kept_read (iblk
      m c 0 t) (iblk m c 1 t) (fun _ _ _ => 0) _ _ 2 (kept_skip 2 1 (by decide) _ _ _ _ (kept_skip 2 0 (by decide) _ _ _ _ (kept_zero 2 _))) _)))
  refine gate_cons _ _ _ _ _ _ ?_ ?_
  · refine piece 2 0 192 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 2 _) (kept_read (iblk
      m c 0 t) (iblk m c 1 t) (fun _ _ _ => 0) _ _ 2 (kept_skip 2 1 (by decide) _ _ _ _ (kept_skip 2 0 (by decide) _ _ _ _ (kept_zero 2 _))) _)))
  refine gate_cons _ _ _ _ _ _ ?_ ?_
  · refine piece 2 0 128 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 2 _) (kept_read (iblk
      m c 0 t) (iblk m c 1 t) (fun _ _ _ => 0) _ _ 2 (kept_skip 2 1 (by decide) _ _ _ _ (kept_skip 2 0 (by decide) _ _ _ _ (kept_zero 2 _))) _)))
  refine gate_cons _ _ _ _ _ _ ?_ ?_
  · refine piece 2 0 64 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 2 _) (kept_read (iblk
      m c 0 t) (iblk m c 1 t) (fun _ _ _ => 0) _ _ 2 (kept_skip 2 1 (by decide) _ _ _ _ (kept_skip 2 0 (by decide) _ _ _ _ (kept_zero 2 _))) _)))
  refine gate_cons _ _ _ _ _ _ ?_ ?_
  · refine piece 2 0 0 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 2 _) (kept_read (iblk
      m c 0 t) (iblk m c 1 t) (fun _ _ _ => 0) _ _ 2 (kept_skip 2 1 (by decide) _ _ _ _ (kept_skip 2 0 (by decide) _ _ _ _ (kept_zero 2 _))) _)))
  refine gate_cons _ _ _ _ _ _ ?_ ?_
  · refine piece 1 1 448 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 1 _) (kept_read (iblk
      m c 0 t) (iblk m c 1 t) (fun _ _ _ => 0) _ _ 1 (kept_skip 1 0 (by decide) _ _ _ _ (kept_zero 1 _)) _)))
  refine gate_cons _ _ _ _ _ _ ?_ ?_
  · refine piece 1 1 384 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 1 _) (kept_read (iblk
      m c 0 t) (iblk m c 1 t) (fun _ _ _ => 0) _ _ 1 (kept_skip 1 0 (by decide) _ _ _ _ (kept_zero 1 _)) _)))
  refine gate_cons _ _ _ _ _ _ ?_ ?_
  · refine piece 1 1 320 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 1 _) (kept_read (iblk
      m c 0 t) (iblk m c 1 t) (fun _ _ _ => 0) _ _ 1 (kept_skip 1 0 (by decide) _ _ _ _ (kept_zero 1 _)) _)))
  refine gate_cons _ _ _ _ _ _ ?_ ?_
  · refine piece 1 1 256 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 1 _) (kept_read (iblk
      m c 0 t) (iblk m c 1 t) (fun _ _ _ => 0) _ _ 1 (kept_skip 1 0 (by decide) _ _ _ _ (kept_zero 1 _)) _)))
  refine gate_cons _ _ _ _ _ _ ?_ ?_
  · refine piece 1 1 192 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 1 _) (kept_read (iblk
      m c 0 t) (iblk m c 1 t) (fun _ _ _ => 0) _ _ 1 (kept_skip 1 0 (by decide) _ _ _ _ (kept_zero 1 _)) _)))
  refine gate_cons _ _ _ _ _ _ ?_ ?_
  · refine piece 1 1 128 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 1 _) (kept_read (iblk
      m c 0 t) (iblk m c 1 t) (fun _ _ _ => 0) _ _ 1 (kept_skip 1 0 (by decide) _ _ _ _ (kept_zero 1 _)) _)))
  refine gate_cons _ _ _ _ _ _ ?_ ?_
  · refine piece 1 1 64 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 1 _) (kept_read (iblk
      m c 0 t) (iblk m c 1 t) (fun _ _ _ => 0) _ _ 1 (kept_skip 1 0 (by decide) _ _ _ _ (kept_zero 1 _)) _)))
  refine gate_cons _ _ _ _ _ _ ?_ ?_
  · refine piece 1 1 0 (by decide) (iblk m c 2 t) (iblk m c 3 t) (rows (iblk m c 0 t) (iblk m c 1 t) (fun _ _ _ => 0)) _ _ ?_ _ _ _ _ _ _
    exact (holds_skip 1 0 (by decide) _ _ _ _ _ _ (holds_head 1 _ _ _ _ _ _ (dot_row (iblk m c 0 t) (iblk m c 1 t) (fun _ _ _ => 0) 1 _) (kept_read (iblk
      m c 0 t) (iblk m c 1 t) (fun _ _ _ => 0) _ _ 1 (kept_skip 1 0 (by decide) _ _ _ _ (kept_zero 1 _)) _)))
  refine gate_cons _ _ _ _ _ _ ?_ ?_
  · refine piece 0 0 448 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 0 _) (kept_read (iblk
      m c 0 t) (iblk m c 1 t) (fun _ _ _ => 0) _ _ 0 (kept_zero 0 _) _)))
  refine gate_cons _ _ _ _ _ _ ?_ ?_
  · refine piece 0 0 384 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 0 _) (kept_read (iblk
      m c 0 t) (iblk m c 1 t) (fun _ _ _ => 0) _ _ 0 (kept_zero 0 _) _)))
  refine gate_cons _ _ _ _ _ _ ?_ ?_
  · refine piece 0 0 320 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 0 _) (kept_read (iblk
      m c 0 t) (iblk m c 1 t) (fun _ _ _ => 0) _ _ 0 (kept_zero 0 _) _)))
  refine gate_cons _ _ _ _ _ _ ?_ ?_
  · refine piece 0 0 256 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 0 _) (kept_read (iblk
      m c 0 t) (iblk m c 1 t) (fun _ _ _ => 0) _ _ 0 (kept_zero 0 _) _)))
  refine gate_cons _ _ _ _ _ _ ?_ ?_
  · refine piece 0 0 192 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 0 _) (kept_read (iblk
      m c 0 t) (iblk m c 1 t) (fun _ _ _ => 0) _ _ 0 (kept_zero 0 _) _)))
  refine gate_cons _ _ _ _ _ _ ?_ ?_
  · refine piece 0 0 128 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 0 _) (kept_read (iblk
      m c 0 t) (iblk m c 1 t) (fun _ _ _ => 0) _ _ 0 (kept_zero 0 _) _)))
  refine gate_cons _ _ _ _ _ _ ?_ ?_
  · refine piece 0 0 64 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 0 _) (kept_read (iblk
      m c 0 t) (iblk m c 1 t) (fun _ _ _ => 0) _ _ 0 (kept_zero 0 _) _)))
  refine gate_cons _ _ _ _ _ _ ?_ ?_
  · refine piece 0 0 0 (by decide) (iblk m c 2 t) (iblk m c 3 t) (rows (iblk m c 0 t) (iblk m c 1 t) (fun _ _ _ => 0)) _ _ ?_ _ _ _ _ _ _
    exact (holds_skip 0 1 (by decide) _ _ _ _ _ _ (holds_head 0 _ _ _ _ _ _ (dot_row (iblk m c 0 t) (iblk m c 1 t) (fun _ _ _ => 0) 0 _) (kept_read (iblk
      m c 0 t) (iblk m c 1 t) (fun _ _ _ => 0) _ _ 0 (kept_zero 0 _) _)))
  exact trivial

set_option maxHeartbeats 8000000 in
/-- What such a point leaves in the carried buffer: each chunk's last eight rows. -/
theorem carried_A (c : Dev nD) (t : Fin cfg0.N) (hc) (d : Fin 11) (p : Fin 8) (j : Fin 512) : sout0_A_0 (F := Ideal) c (grid0.coords t) (ms0_0 t)
    (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7
    t) scM0_0 (Memref.isWhole_whole _) scM0_1 (Memref.isWhole_whole _) scM0_2 (Memref.isWhole_whole _) hc (iblk m c 0 t) (iblk m c 1 t) (iblk m c 2 t)
    (iblk m c 3 t) (iblk m c 4 t) (iblk m c 5 t) (iblk m c 6 t) (ix3 d p j : S11x8x512.Idx) = up (iblk m c 0 t) (iblk m c 1 t) d ⟨504 + p.val, by
    omega⟩ j := by
  frame_out
  obtain ⟨d, hd⟩ := d
  interval_cases d
  · refine (?_ : Kept _ 0 (fun p j => up (iblk m c 0 t) (iblk m c 1 t) 0 ⟨504 + p.val, by omega⟩ j)) p j
    refine kept_skip 0 10 (by decide) _ _ _ _ ?_
    refine kept_skip 0 9 (by decide) _ _ _ _ ?_
    refine kept_skip 0 8 (by decide) _ _ _ _ ?_
    refine kept_skip 0 7 (by decide) _ _ _ _ ?_
    refine kept_skip 0 6 (by decide) _ _ _ _ ?_
    refine kept_skip 0 5 (by decide) _ _ _ _ ?_
    refine kept_skip 0 4 (by decide) _ _ _ _ ?_
    refine kept_skip 0 3 (by decide) _ _ _ _ ?_
    refine kept_skip 0 2 (by decide) _ _ _ _ ?_
    refine kept_skip 0 1 (by decide) _ _ _ _ ?_
    refine kept_hit 0 _ _ _ _ ?_
    refine kept_next (iblk m c 0 t) (iblk m c 1 t) (fun _ _ _ => 0) 0 _ _ 0 ?_ _
    exact (holds_head 0 _ _ _ _ _ _ (dot_row (iblk m c 0 t) (iblk m c 1 t) (fun _ _ _ => 0) 0 _) (kept_read (iblk m c 0 t) (iblk m c 1 t) (fun _ _ _ => 0)
      _ _ 0 (kept_zero 0 _) _))
  · refine (?_ : Kept _ 1 (fun p j => up (iblk m c 0 t) (iblk m c 1 t) 1 ⟨504 + p.val, by omega⟩ j)) p j
    refine kept_skip 1 10 (by decide) _ _ _ _ ?_
    refine kept_skip 1 9 (by decide) _ _ _ _ ?_
    refine kept_skip 1 8 (by decide) _ _ _ _ ?_
    refine kept_skip 1 7 (by decide) _ _ _ _ ?_
    refine kept_skip 1 6 (by decide) _ _ _ _ ?_
    refine kept_skip 1 5 (by decide) _ _ _ _ ?_
    refine kept_skip 1 4 (by decide) _ _ _ _ ?_
    refine kept_skip 1 3 (by decide) _ _ _ _ ?_
    refine kept_skip 1 2 (by decide) _ _ _ _ ?_
    refine kept_hit 1 _ _ _ _ ?_
    refine kept_next (iblk m c 0 t) (iblk m c 1 t) (fun _ _ _ => 0) 1 _ _ 1 ?_ _
    exact (holds_head 1 _ _ _ _ _ _ (dot_row (iblk m c 0 t) (iblk m c 1 t) (fun _ _ _ => 0) 1 _) (kept_read (iblk m c 0 t) (iblk m c 1 t) (fun _ _ _ => 0)
      _ _ 1 (kept_skip 1 0 (by decide) _ _ _ _ (kept_zero 1 _)) _))
  · refine (?_ : Kept _ 2 (fun p j => up (iblk m c 0 t) (iblk m c 1 t) 2 ⟨504 + p.val, by omega⟩ j)) p j
    refine kept_skip 2 10 (by decide) _ _ _ _ ?_
    refine kept_skip 2 9 (by decide) _ _ _ _ ?_
    refine kept_skip 2 8 (by decide) _ _ _ _ ?_
    refine kept_skip 2 7 (by decide) _ _ _ _ ?_
    refine kept_skip 2 6 (by decide) _ _ _ _ ?_
    refine kept_skip 2 5 (by decide) _ _ _ _ ?_
    refine kept_skip 2 4 (by decide) _ _ _ _ ?_
    refine kept_skip 2 3 (by decide) _ _ _ _ ?_
    refine kept_hit 2 _ _ _ _ ?_
    refine kept_next (iblk m c 0 t) (iblk m c 1 t) (fun _ _ _ => 0) 2 _ _ 0 ?_ _
    exact (holds_head 0 _ _ _ _ _ _ (dot_row (iblk m c 0 t) (iblk m c 1 t) (fun _ _ _ => 0) 2 _) (kept_read (iblk m c 0 t) (iblk m c 1 t) (fun _ _ _ => 0)
      _ _ 2 (kept_skip 2 1 (by decide) _ _ _ _ (kept_skip 2 0 (by decide) _ _ _ _ (kept_zero 2 _))) _))
  · refine (?_ : Kept _ 3 (fun p j => up (iblk m c 0 t) (iblk m c 1 t) 3 ⟨504 + p.val, by omega⟩ j)) p j
    refine kept_skip 3 10 (by decide) _ _ _ _ ?_
    refine kept_skip 3 9 (by decide) _ _ _ _ ?_
    refine kept_skip 3 8 (by decide) _ _ _ _ ?_
    refine kept_skip 3 7 (by decide) _ _ _ _ ?_
    refine kept_skip 3 6 (by decide) _ _ _ _ ?_
    refine kept_skip 3 5 (by decide) _ _ _ _ ?_
    refine kept_skip 3 4 (by decide) _ _ _ _ ?_
    refine kept_hit 3 _ _ _ _ ?_
    refine kept_next (iblk m c 0 t) (iblk m c 1 t) (fun _ _ _ => 0) 3 _ _ 1 ?_ _
    exact (holds_head 1 _ _ _ _ _ _ (dot_row (iblk m c 0 t) (iblk m c 1 t) (fun _ _ _ => 0) 3 _) (kept_read (iblk m c 0 t) (iblk m c 1 t) (fun _ _ _ => 0)
      _ _ 3 (kept_skip 3 2 (by decide) _ _ _ _ (kept_skip 3 1 (by decide) _ _ _ _ (kept_skip 3 0 (by decide) _ _ _ _ (kept_zero 3 _)))) _))
  · refine (?_ : Kept _ 4 (fun p j => up (iblk m c 0 t) (iblk m c 1 t) 4 ⟨504 + p.val, by omega⟩ j)) p j
    refine kept_skip 4 10 (by decide) _ _ _ _ ?_
    refine kept_skip 4 9 (by decide) _ _ _ _ ?_
    refine kept_skip 4 8 (by decide) _ _ _ _ ?_
    refine kept_skip 4 7 (by decide) _ _ _ _ ?_
    refine kept_skip 4 6 (by decide) _ _ _ _ ?_
    refine kept_skip 4 5 (by decide) _ _ _ _ ?_
    refine kept_hit 4 _ _ _ _ ?_
    refine kept_next (iblk m c 0 t) (iblk m c 1 t) (fun _ _ _ => 0) 4 _ _ 0 ?_ _
    exact (holds_head 0 _ _ _ _ _ _ (dot_row (iblk m c 0 t) (iblk m c 1 t) (fun _ _ _ => 0) 4 _) (kept_read (iblk m c 0 t) (iblk m c 1 t) (fun _ _ _ => 0)
      _ _ 4 (kept_skip 4 3 (by decide) _ _ _ _ (kept_skip 4 2 (by decide) _ _ _ _ (kept_skip 4 1 (by decide) _ _ _ _ (kept_skip 4 0 (by decide) _ _ _
      _ (kept_zero 4 _))))) _))
  · refine (?_ : Kept _ 5 (fun p j => up (iblk m c 0 t) (iblk m c 1 t) 5 ⟨504 + p.val, by omega⟩ j)) p j
    refine kept_skip 5 10 (by decide) _ _ _ _ ?_
    refine kept_skip 5 9 (by decide) _ _ _ _ ?_
    refine kept_skip 5 8 (by decide) _ _ _ _ ?_
    refine kept_skip 5 7 (by decide) _ _ _ _ ?_
    refine kept_skip 5 6 (by decide) _ _ _ _ ?_
    refine kept_hit 5 _ _ _ _ ?_
    refine kept_next (iblk m c 0 t) (iblk m c 1 t) (fun _ _ _ => 0) 5 _ _ 1 ?_ _
    exact (holds_head 1 _ _ _ _ _ _ (dot_row (iblk m c 0 t) (iblk m c 1 t) (fun _ _ _ => 0) 5 _) (kept_read (iblk m c 0 t) (iblk m c 1 t) (fun _ _ _ => 0)
      _ _ 5 (kept_skip 5 4 (by decide) _ _ _ _ (kept_skip 5 3 (by decide) _ _ _ _ (kept_skip 5 2 (by decide) _ _ _ _ (kept_skip 5 1 (by decide) _ _ _
      _ (kept_skip 5 0 (by decide) _ _ _ _ (kept_zero 5 _)))))) _))
  · refine (?_ : Kept _ 6 (fun p j => up (iblk m c 0 t) (iblk m c 1 t) 6 ⟨504 + p.val, by omega⟩ j)) p j
    refine kept_skip 6 10 (by decide) _ _ _ _ ?_
    refine kept_skip 6 9 (by decide) _ _ _ _ ?_
    refine kept_skip 6 8 (by decide) _ _ _ _ ?_
    refine kept_skip 6 7 (by decide) _ _ _ _ ?_
    refine kept_hit 6 _ _ _ _ ?_
    refine kept_next (iblk m c 0 t) (iblk m c 1 t) (fun _ _ _ => 0) 6 _ _ 0 ?_ _
    exact (holds_head 0 _ _ _ _ _ _ (dot_row (iblk m c 0 t) (iblk m c 1 t) (fun _ _ _ => 0) 6 _) (kept_read (iblk m c 0 t) (iblk m c 1 t) (fun _ _ _ => 0)
      _ _ 6 (kept_skip 6 5 (by decide) _ _ _ _ (kept_skip 6 4 (by decide) _ _ _ _ (kept_skip 6 3 (by decide) _ _ _ _ (kept_skip 6 2 (by decide) _ _ _
      _ (kept_skip 6 1 (by decide) _ _ _ _ (kept_skip 6 0 (by decide) _ _ _ _ (kept_zero 6 _))))))) _))
  · refine (?_ : Kept _ 7 (fun p j => up (iblk m c 0 t) (iblk m c 1 t) 7 ⟨504 + p.val, by omega⟩ j)) p j
    refine kept_skip 7 10 (by decide) _ _ _ _ ?_
    refine kept_skip 7 9 (by decide) _ _ _ _ ?_
    refine kept_skip 7 8 (by decide) _ _ _ _ ?_
    refine kept_hit 7 _ _ _ _ ?_
    refine kept_next (iblk m c 0 t) (iblk m c 1 t) (fun _ _ _ => 0) 7 _ _ 1 ?_ _
    exact (holds_head 1 _ _ _ _ _ _ (dot_row (iblk m c 0 t) (iblk m c 1 t) (fun _ _ _ => 0) 7 _) (kept_read (iblk m c 0 t) (iblk m c 1 t) (fun _ _ _ => 0)
      _ _ 7 (kept_skip 7 6 (by decide) _ _ _ _ (kept_skip 7 5 (by decide) _ _ _ _ (kept_skip 7 4 (by decide) _ _ _ _ (kept_skip 7 3 (by decide) _ _ _
      _ (kept_skip 7 2 (by decide) _ _ _ _ (kept_skip 7 1 (by decide) _ _ _ _ (kept_skip 7 0 (by decide) _ _ _ _ (kept_zero 7 _)))))))) _))
  · refine (?_ : Kept _ 8 (fun p j => up (iblk m c 0 t) (iblk m c 1 t) 8 ⟨504 + p.val, by omega⟩ j)) p j
    refine kept_skip 8 10 (by decide) _ _ _ _ ?_
    refine kept_skip 8 9 (by decide) _ _ _ _ ?_
    refine kept_hit 8 _ _ _ _ ?_
    refine kept_next (iblk m c 0 t) (iblk m c 1 t) (fun _ _ _ => 0) 8 _ _ 0 ?_ _
    exact (holds_head 0 _ _ _ _ _ _ (dot_row (iblk m c 0 t) (iblk m c 1 t) (fun _ _ _ => 0) 8 _) (kept_read (iblk m c 0 t) (iblk m c 1 t) (fun _ _ _ => 0)
      _ _ 8 (kept_skip 8 7 (by decide) _ _ _ _ (kept_skip 8 6 (by decide) _ _ _ _ (kept_skip 8 5 (by decide) _ _ _ _ (kept_skip 8 4 (by decide) _ _ _
      _ (kept_skip 8 3 (by decide) _ _ _ _ (kept_skip 8 2 (by decide) _ _ _ _ (kept_skip 8 1 (by decide) _ _ _ _ (kept_skip 8 0 (by decide) _ _ _ _
      (kept_zero 8 _))))))))) _))
  · refine (?_ : Kept _ 9 (fun p j => up (iblk m c 0 t) (iblk m c 1 t) 9 ⟨504 + p.val, by omega⟩ j)) p j
    refine kept_skip 9 10 (by decide) _ _ _ _ ?_
    refine kept_hit 9 _ _ _ _ ?_
    refine kept_next (iblk m c 0 t) (iblk m c 1 t) (fun _ _ _ => 0) 9 _ _ 1 ?_ _
    exact (holds_head 1 _ _ _ _ _ _ (dot_row (iblk m c 0 t) (iblk m c 1 t) (fun _ _ _ => 0) 9 _) (kept_read (iblk m c 0 t) (iblk m c 1 t) (fun _ _ _ => 0)
      _ _ 9 (kept_skip 9 8 (by decide) _ _ _ _ (kept_skip 9 7 (by decide) _ _ _ _ (kept_skip 9 6 (by decide) _ _ _ _ (kept_skip 9 5 (by decide) _ _ _
      _ (kept_skip 9 4 (by decide) _ _ _ _ (kept_skip 9 3 (by decide) _ _ _ _ (kept_skip 9 2 (by decide) _ _ _ _ (kept_skip 9 1 (by decide) _ _ _ _
      (kept_skip 9 0 (by decide) _ _ _ _ (kept_zero 9 _)))))))))) _))
  · refine (?_ : Kept _ 10 (fun p j => up (iblk m c 0 t) (iblk m c 1 t) 10 ⟨504 + p.val, by omega⟩ j)) p j
    refine kept_hit 10 _ _ _ _ ?_
    refine kept_next (iblk m c 0 t) (iblk m c 1 t) (fun _ _ _ => 0) 10 _ _ 0 ?_ _
    exact (holds_head 0 _ _ _ _ _ _ (dot_row (iblk m c 0 t) (iblk m c 1 t) (fun _ _ _ => 0) 10 _) (kept_read (iblk m c 0 t) (iblk m c 1 t) (fun _ _ _ =>
      0) _ _ 10 (kept_skip 10 9 (by decide) _ _ _ _ (kept_skip 10 8 (by decide) _ _ _ _ (kept_skip 10 7 (by decide) _ _ _ _ (kept_skip 10 6 (by
      decide) _ _ _ _ (kept_skip 10 5 (by decide) _ _ _ _ (kept_skip 10 4 (by decide) _ _ _ _ (kept_skip 10 3 (by decide) _ _ _ _ (kept_skip 10 2 (by
      decide) _ _ _ _ (kept_skip 10 1 (by decide) _ _ _ _ (kept_skip 10 0 (by decide) _ _ _ _ (kept_zero 10 _))))))))))) _))

end Cert.FfnIdeal.Body
end
-- ==== Proof.FfnValue.lean ====
/- The feed-forward call: what it leaves in its result array is the reference's term of the argument arrays, at the ideal
   instance. The rows a point keeps for the next are the two rows the reference's padding shifts in. -/
module

public import proofs.«01_k».proof.Proof.FfnPoint
public import proofs.«01_k».proof.Proof.Gen.FfnIdeal.Frame
public import proofs.«01_k».proof.Proof.Gen.FfnRefIdeal.Run
public import Idealize.ShloMosaic.Lib.Pipeline.ValueKit
public import Idealize.ShloMosaic.Lib.KernelVsHost
public import Idealize.ShloMosaic.Lib.Claim

@[expose] public section

set_option maxRecDepth 16384
noncomputable section

open Idealize.ShloMosaic Idealize.ShloMosaic.TcCoe Idealize.SL.Sem
open scoped BigOperators

namespace Cert.FfnRefIdeal.Pure
open Cert.FfnRefIdeal Cert.FfnRefIdeal.Gen

/-- The reference's up projection, with two rows of zeros before it. -/
def padded (x : FVec Ideal S8x8192x1024 .f32) (wu : FVec Ideal S1024x5632 .f32) : FVec Ideal S8x8194x5632 .f32 :=
  pad S8x8194x5632 ![0, 2, 0] ![0, 0, 0] ![0, 0, 0] (Host.dotGeneral (F := Ideal) dot_S8x8192x1024_S1024x5632_S8x8192x5632_2_0_01_1_n_n none x wu)
    (sitofp (F := Ideal) .f32 (constantI S_ 32 0#32)) pads_S8x8192x5632_S8x8194x5632_000_200_000 h_S_

/-- The reference's convolution over three consecutive rows. -/
def convolved (x : FVec Ideal S8x8192x1024 .f32) (wu : FVec Ideal S1024x5632 .f32) (cw : FVec Ideal S3x5632 .f32) (cb : FVec Ideal S5632 .f32) : FVec Ideal S8x8192x5632 .f32 :=
  addf (addf (addf (broadcastInDim S8x8192x5632 ![0, 1, 2] bcast_S1x1x5632_S8x8192x5632_0_1_2 (broadcastInDim S1x1x5632 ![2] bcast_S5632_S1x1x5632_2 cb))
      (mulf (extractStridedSlice S8x8192x5632 ![0, 0, 0] (padded x wu) slices_S8x8194x5632_S8x8192x5632_0_0_0)
        (broadcastInDim S8x8192x5632 ![0, 1, 2] bcast_S1x1x5632_S8x8192x5632_0_1_2 (broadcastInDim S1x1x5632 ![2] bcast_S5632_S1x1x5632_2
          (shapeCast _ (extractStridedSlice S1x5632 ![0, 0] cw slices_S3x5632_S1x5632_0_0) shapeCasts_S1x5632_S5632)))))
      (mulf (extractStridedSlice S8x8192x5632 ![0, 1, 0] (padded x wu) slices_S8x8194x5632_S8x8192x5632_0_1_0)
        (broadcastInDim S8x8192x5632 ![0, 1, 2] bcast_S1x1x5632_S8x8192x5632_0_1_2 (broadcastInDim S1x1x5632 ![2] bcast_S5632_S1x1x5632_2
          (shapeCast _ (extractStridedSlice S1x5632 ![1, 0] cw slices_S3x5632_S1x5632_1_0) shapeCasts_S1x5632_S5632)))))
      (mulf (extractStridedSlice S8x8192x5632 ![0, 2, 0] (padded x wu) slices_S8x8194x5632_S8x8192x5632_0_2_0)
        (broadcastInDim S8x8192x5632 ![0, 1, 2] bcast_S1x1x5632_S8x8192x5632_0_1_2 (broadcastInDim S1x1x5632 ![2] bcast_S5632_S1x1x5632_2
          (shapeCast _ (extractStridedSlice S1x5632 ![2, 0] cw slices_S3x5632_S1x5632_2_0) shapeCasts_S1x5632_S5632))))

/-- The reference's gated product. -/
def product (u : FVec Ideal S8x8192x5632 .f32) : FVec Ideal S8x8192x2816 .f32 :=
  let a : FVec Ideal S8x8192x2816 .f32 := extractStridedSlice S8x8192x2816 ![0, 0, 0] u slices_S8x8192x5632_S8x8192x2816_0_0_0
  mulf (mulf a (Host.divf (broadcastInDim S8x8192x2816 ![] bcast_S_S8x8192x2816 (constant S_ .f32 0x3F800000#32))
      (addf (broadcastInDim S8x8192x2816 ![] bcast_S_S8x8192x2816 (constant S_ .f32 0x3F800000#32)) (Host.exp (Host.negf a)))))
    (extractStridedSlice S8x8192x2816 ![0, 0, 2816] u slices_S8x8192x5632_S8x8192x2816_0_0_2816)

/-- The array the reference normalises: the scaled residual plus the down projection. -/
def fed (x : FVec Ideal S8x8192x1024 .f32) (wu : FVec Ideal S1024x5632 .f32) (cw : FVec Ideal S3x5632 .f32) (cb : FVec Ideal S5632 .f32)
    (wd : FVec Ideal S2816x1024 .f32) : FVec Ideal S8x8192x1024 .f32 :=
  addf (mulf (broadcastInDim S8x8192x1024 ![] bcast_S_S8x8192x1024 (constant S_ .f32 0x3F9837F0#32)) x)
    (Host.dotGeneral dot_S8x8192x2816_S2816x1024_S8x8192x1024_2_0_01_1_n_n none (product (convolved x wu cw cb)) wd)

set_option maxHeartbeats 800000 in
/-- The reference's result is the normalised `fed`. -/
theorem res_eq (m : (ℓ : Loc nD τ sig) → Buf (Elt Ideal) ℓ) (c : Dev nD) :
    Cert.FfnRefIdeal.Value.res_main_v56 m c
      = Cert.MergeRefIdeal.Pure.normed (fed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))
        (m ((c.tc : Thread nD τ).loc main_arg5)) (m ((c.tc : Thread nD τ).loc main_arg6)) := by
  unfold Cert.FfnRefIdeal.Value.res_main_v56 Cert.MergeRefIdeal.Pure.normed fed product convolved padded
  rfl

/-- Row `q` of the up projection is row `q + 2` of the padded one. -/
theorem padded_high (x : FVec Ideal S8x8192x1024 .f32) (wu : FVec Ideal S1024x5632 .f32) (i : Fin 8) (q : Fin 8192) (p : Fin 8194)
    (h : p.val = q.val + 2) (n : Fin 5632) : padded x wu (ix3 i p n) = ∑ k : Fin 1024, x (ix3 i q k) * wu (ix2 k n) := by
  have hq : ∀ h', (⟨p.val - 2, h'⟩ : Fin 8192) = q := fun _ => Fin.ext (by simp only [h]; omega)
  pointwise [padded]
  rw [dif_pos ⟨by omega, by have := q.isLt; omega⟩]
  simp only [hq]

/-- The first two rows of the padded projection are zeros. -/
theorem padded_low (x : FVec Ideal S8x8192x1024 .f32) (wu : FVec Ideal S1024x5632 .f32) (i : Fin 8) (p : Fin 8194) (h : p.val < 2) (n : Fin 5632) :
    padded x wu (ix3 i p n) = 0 := by
  pointwise [padded]
  rw [dif_neg (by omega)]
  exact sitofp_zero

/-- The convolution, entry by entry. -/
theorem convolved_at (x : FVec Ideal S8x8192x1024 .f32) (wu : FVec Ideal S1024x5632 .f32) (cw : FVec Ideal S3x5632 .f32) (cb : FVec Ideal S5632 .f32)
    (i : Fin 8) (q : Fin 8192) (n : Fin 5632) :
    convolved x wu cw cb (ix3 i q n) = cb (ix1 n) + padded x wu (ix3 i ⟨q.val, by have := q.isLt; omega⟩ n) * cw (ix2 0 n)
      + padded x wu (ix3 i ⟨1 + q.val, by have := q.isLt; omega⟩ n) * cw (ix2 1 n)
      + padded x wu (ix3 i ⟨2 + q.val, by have := q.isLt; omega⟩ n) * cw (ix2 2 n) := by
  pointwise [convolved]

/-- The gated product, entry by entry. -/
theorem product_at (u : FVec Ideal S8x8192x5632 .f32) (i : Fin 8) (q : Fin 8192) (n : Fin 2816) :
    product u (ix3 i q n) = Cert.FfnIdeal.Body.silu (u (ix3 i q ⟨n.val, by have := n.isLt; omega⟩)) * u (ix3 i q ⟨2816 + n.val, by have := n.isLt; omega⟩) := by
  unfold Cert.FfnIdeal.Body.silu
  pointwise [product]

/-- What is normalised, entry by entry. -/
theorem fed_at (x : FVec Ideal S8x8192x1024 .f32) (wu : FVec Ideal S1024x5632 .f32) (cw : FVec Ideal S3x5632 .f32) (cb : FVec Ideal S5632 .f32)
    (wd : FVec Ideal S2816x1024 .f32) (i : Fin 8) (q : Fin 8192) (l : Fin 1024) :
    fed x wu cw cb wd (ix3 i q l) = Ideal.ofBits .f32 0x3F9837F0#32 * x (ix3 i q l)
      + ∑ n : Fin 2816, product (convolved x wu cw cb) (ix3 i q n) * wd (ix2 n l) := by
  pointwise [fed]

end Cert.FfnRefIdeal.Pure

namespace Cert.FfnIdeal.Pure
open Cert.FfnIdeal Cert.FfnIdeal.Gen

variable (m : (ℓ : Loc nD τ sig) → Buf (Elt Ideal) ℓ)

/-- The windows' block indices: the rows' window moves with the grid point, the weights' stay. -/
theorem idx : ∀ t : Fin cfg0.N, win0_0.index t = ![t.val / 16, t.val % 16, 0] ∧ win0_1.index t = ![0, 0, 0] ∧ win0_2.index t = ![0, 0, 0]
    ∧ win0_3.index t = ![0, 0, 0] ∧ win0_4.index t = ![0, 0] ∧ win0_5.index t = ![0, 0] ∧ win0_6.index t = ![0, 0]
    ∧ win0_7.index t = ![t.val / 16, t.val % 16, 0] :=
  (by decide +kernel : ∀ t : Fin grid0.N, _)

/-- The batch and the row of the array at which row `r` of point `t`'s block lies. -/
def batch (t : Fin cfg0.N) : Fin 8 := ⟨t.val / 16, by have h : t.val < 128 := t.isLt; omega⟩
@[inherit_doc batch]
def place (t : Fin cfg0.N) (r : Fin 512) : Fin 8192 := ⟨t.val % 16 * 512 + r.val, by have := r.isLt; omega⟩

/-- The column of the full weight at which column `j` of chunk `d` lies: the first half of a chunk comes from the gate's
    columns, the second from the value's. -/
def col (d : Fin 11) (j : Fin 512) : Fin 5632 :=
  ⟨if j.val < 256 then d.val * 256 + j.val else 2560 + d.val * 256 + j.val, by have := d.isLt; have := j.isLt; split <;> omega⟩

/-- A choice between the two halves is a read at `col`. -/
theorem col_read (f : Fin 5632 → EReal) (d : Fin 11) (j : Fin 512) (h1 : j.val < 256 → d.val * 256 + j.val < 5632)
    (h2 : ¬ j.val < 256 → 2816 + (d.val * 256 + (j.val - 256)) < 5632) :
    (if h : j.val < 256 then f ⟨d.val * 256 + j.val, h1 h⟩ else f ⟨2816 + (d.val * 256 + (j.val - 256)), h2 h⟩) = f (col d j) := by
  split
  · next h => exact congrArg f (Fin.ext (by simp [col, h]))
  · next h => exact congrArg f (Fin.ext (by simp only [col, if_neg h]; omega))

/-- The up projection's weight in chunks. -/
def chunked (wu : FVec Ideal S1024x5632 .f32) : FVec Ideal S11x1024x512 .bf16 :=
  truncf .bf16 (transpose S11x1024x512 [1, 0, 2] (concatenate S1024x11x512 2
    [⟨S1024x11x256, shapeCast S1024x11x256 (extractStridedSlice S1024x2816 ![0, 0] wu slices_S1024x5632_S1024x2816_0_0) shapeCasts_S1024x2816_S1024x11x256⟩,
      ⟨S1024x11x256, shapeCast S1024x11x256 (extractStridedSlice S1024x2816 ![0, 2816] wu slices_S1024x5632_S1024x2816_0_2816) shapeCasts_S1024x2816_S1024x11x256⟩]
    concatenates_S1024x11x256_S1024x11x256_S1024x11x512_d2) transposes_S1024x11x512_S11x1024x512_1_0_2) bitsLt_bf16_f32

theorem chunked_eq (c : Dev nD) : V m c main_v6 = chunked (m ((c.tc : Thread nD τ).loc main_arg1)) := by
  entry_read
  rfl

theorem chunked_at (wu : FVec Ideal S1024x5632 .f32) (d : Fin 11) (k : Fin 1024) (j : Fin 512) :
    chunked wu (ix3 d k j) = wu (ix2 k (col d j)) := by
  pointwise [chunked]
  exact col_read (fun n => wu (ix2 k n)) d j _ _

/-- The convolution's taps in chunks, with five rows of zeros below. -/
def taps (cw : FVec Ideal S3x5632 .f32) : FVec Ideal S11x8x512 .f32 :=
  pad S11x8x512 ![0, 0, 0] ![0, 5, 0] ![0, 0, 0] (transpose S11x3x512 [1, 0, 2] (concatenate S3x11x512 2
    [⟨S3x11x256, shapeCast S3x11x256 (extractStridedSlice S3x2816 ![0, 0] cw slices_S3x5632_S3x2816_0_0) shapeCasts_S3x2816_S3x11x256⟩,
      ⟨S3x11x256, shapeCast S3x11x256 (extractStridedSlice S3x2816 ![0, 2816] cw slices_S3x5632_S3x2816_0_2816) shapeCasts_S3x2816_S3x11x256⟩]
    concatenates_S3x11x256_S3x11x256_S3x11x512_d2) transposes_S3x11x512_S11x3x512_1_0_2)
    (sitofp (F := Ideal) .f32 (constantI S_ 32 0#32)) pads_S11x3x512_S11x8x512_000_050_000 h_S_

theorem taps_eq (c : Dev nD) : V m c main_v13 = taps (m ((c.tc : Thread nD τ).loc main_arg2)) := by
  entry_read
  rfl

theorem taps_at (cw : FVec Ideal S3x5632 .f32) (d : Fin 11) (k : Fin 3) (j : Fin 512) :
    taps cw (ix3 d ⟨k.val, by have := k.isLt; omega⟩ j) = cw (ix2 k (col d j)) := by
  pointwise [taps]
  exact col_read (fun n => cw (ix2 k n)) d j _ _

/-- The convolution's shift in chunks. -/
def shifts (cb : FVec Ideal S5632 .f32) : FVec Ideal S11x1x512 .f32 :=
  let b : FVec Ideal S1x5632 .f32 := broadcastInDim S1x5632 ![1] bcast_S5632_S1x5632_1 cb
  transpose S11x1x512 [1, 0, 2] (concatenate S1x11x512 2
    [⟨S1x11x256, shapeCast S1x11x256 (extractStridedSlice S1x2816 ![0, 0] b slices_S1x5632_S1x2816_0_0) shapeCasts_S1x2816_S1x11x256⟩,
      ⟨S1x11x256, shapeCast S1x11x256 (extractStridedSlice S1x2816 ![0, 2816] b slices_S1x5632_S1x2816_0_2816) shapeCasts_S1x2816_S1x11x256⟩]
    concatenates_S1x11x256_S1x11x256_S1x11x512_d2) transposes_S1x11x512_S11x1x512_1_0_2

theorem shifts_eq (c : Dev nD) : V m c main_v20 = shifts (m ((c.tc : Thread nD τ).loc main_arg3)) := by
  entry_read
  rfl

theorem shifts_at (cb : FVec Ideal S5632 .f32) (d : Fin 11) (j : Fin 512) : shifts cb (ix3 d 0 j) = cb (ix1 (col d j)) := by
  pointwise [shifts]
  exact col_read (fun n => cb (ix1 n)) d j _ _

/-- The blocks the body reads, at the arguments. -/
theorem row (c : Dev nD) (t : Fin cfg0.N) (r : Fin 512) (k : Fin 1024) :
    iblk m c 0 t (ix3 0 r k : S1x512x1024.Idx) = m ((c.tc : Thread nD τ).loc main_arg0) (ix3 (batch t) (place t r) k) := by
  blk_point [iblk, V, idx t, batch, place]

theorem weight (c : Dev nD) (t : Fin cfg0.N) (d : Fin 11) (k : Fin 1024) (j : Fin 512) :
    iblk m c 1 t (ix3 d k j : S11x1024x512.Idx) = m ((c.tc : Thread nD τ).loc main_arg1) (ix2 k (col d j)) := by
  refine Eq.trans ?_ ((congrFun (chunked_eq m c) (ix3 d k j)).trans (chunked_at _ d k j))
  blk_point [iblk, idx t]

theorem tap (c : Dev nD) (t : Fin cfg0.N) (d : Fin 11) (k : Fin 3) (j : Fin 512) :
    iblk m c 2 t (ix3 d ⟨k.val, by have := k.isLt; omega⟩ j : S11x8x512.Idx) = m ((c.tc : Thread nD τ).loc main_arg2) (ix2 k (col d j)) := by
  refine Eq.trans ?_ ((congrFun (taps_eq m c) (ix3 d ⟨k.val, by have := k.isLt; omega⟩ j)).trans (taps_at _ d k j))
  blk_point [iblk, idx t]

theorem shift (c : Dev nD) (t : Fin cfg0.N) (d : Fin 11) (j : Fin 512) :
    iblk m c 3 t (ix3 d 0 j : S11x1x512.Idx) = m ((c.tc : Thread nD τ).loc main_arg3) (ix1 (col d j)) := by
  refine Eq.trans ?_ ((congrFun (shifts_eq m c) (ix3 d 0 j)).trans (shifts_at _ d j))
  blk_point [iblk, idx t]

theorem down (c : Dev nD) (t : Fin cfg0.N) (n : Fin 2816) (l : Fin 1024) :
    iblk m c 4 t (ix2 n l : S2816x1024.Idx) = m ((c.tc : Thread nD τ).loc main_arg4) (ix2 n l) := by
  blk_simp [iblk, idx t]
  entry_read
  pointwise
  blk_point [idx t]

/-- A vector written as a row. -/
theorem row_at (g : FVec Ideal S1024 .f32) (l : Fin 1024) : shapeCast S1x1024 g shapeCasts_S1024_S1x1024 (ix2 0 l) = g (ix1 l) := by
  pointwise

theorem normGain (c : Dev nD) (t : Fin cfg0.N) (l : Fin 1024) :
    iblk m c 5 t (ix2 0 l : S1x1024.Idx) = m ((c.tc : Thread nD τ).loc main_arg5) (ix1 l) := by
  have e : V m c main_v22 = shapeCast S1x1024 (m ((c.tc : Thread nD τ).loc main_arg5) : FVec Ideal S1024 .f32) shapeCasts_S1024_S1x1024 := by
    entry_read
    rfl
  refine Eq.trans ?_ ((congrFun e (ix2 0 l)).trans (row_at _ l))
  blk_point [iblk, idx t]

theorem normShift (c : Dev nD) (t : Fin cfg0.N) (l : Fin 1024) :
    iblk m c 6 t (ix2 0 l : S1x1024.Idx) = m ((c.tc : Thread nD τ).loc main_arg6) (ix1 l) := by
  have e : V m c main_v23 = shapeCast S1x1024 (m ((c.tc : Thread nD τ).loc main_arg6) : FVec Ideal S1024 .f32) shapeCasts_S1024_S1x1024 := by
    entry_read
    rfl
  refine Eq.trans ?_ ((congrFun e (ix2 0 l)).trans (row_at _ l))
  blk_point [iblk, idx t]

open Cert.FfnRefIdeal.Pure (padded convolved product fed padded_high padded_low convolved_at product_at fed_at)
open Cert.MergeRefIdeal.Pure (normed normed_at)
open Cert.FfnIdeal.Body

/-- The call's argument arrays. -/
abbrev a0 (c : Dev nD) : FVec Ideal S8x8192x1024 .f32 := m ((c.tc : Thread nD τ).loc main_arg0)
@[inherit_doc a0]
abbrev a1 (c : Dev nD) : FVec Ideal S1024x5632 .f32 := m ((c.tc : Thread nD τ).loc main_arg1)
@[inherit_doc a0]
abbrev a2 (c : Dev nD) : FVec Ideal S3x5632 .f32 := m ((c.tc : Thread nD τ).loc main_arg2)
@[inherit_doc a0]
abbrev a3 (c : Dev nD) : FVec Ideal S5632 .f32 := m ((c.tc : Thread nD τ).loc main_arg3)
@[inherit_doc a0]
abbrev a4 (c : Dev nD) : FVec Ideal S2816x1024 .f32 := m ((c.tc : Thread nD τ).loc main_arg4)
@[inherit_doc a0]
abbrev a5 (c : Dev nD) : FVec Ideal S1024 .f32 := m ((c.tc : Thread nD τ).loc main_arg5)
@[inherit_doc a0]
abbrev a6 (c : Dev nD) : FVec Ideal S1024 .f32 := m ((c.tc : Thread nD τ).loc main_arg6)

/-- A row of a point's up projection, at the arguments. -/
theorem up_row (c : Dev nD) (t : Fin cfg0.N) (d : Fin 11) (r : Fin 512) (j : Fin 512) :
    up (iblk m c 0 t) (iblk m c 1 t) d r j
      = ∑ k : Fin 1024, a0 m c (ix3 (batch t) (place t r) k) * a1 m c (ix2 k (col d j)) := by
  unfold up
  exact Finset.sum_congr rfl fun k _ => congrArg₂ (fun u v : EReal => u * v) (row m c t r k) (weight m c t d k j)

/-- What the rows before the block must be for the block's rows to be the reference's padded projection: rows 6 and 7
    are the two padded rows before the block's first. -/
def Before (c : Dev nD) (t : Fin cfg0.N) (H : Fin 11 → Fin 8 → Fin 512 → EReal) : Prop :=
  ∀ (d : Fin 11) (p : Fin 8) (j : Fin 512) (h : 6 ≤ p.val), H d p j
    = padded (a0 m c) (a1 m c)
        (ix3 (batch t) ⟨t.val % 16 * 512 + (p.val - 6), by have := p.isLt; omega⟩ (col d j))

/-- From the sixth on, the rows the convolution reads are consecutive rows of the reference's padded projection. -/
theorem rows_padded (c : Dev nD) (t : Fin cfg0.N) (H : Fin 11 → Fin 8 → Fin 512 → EReal) (hH : Before m c t H) (d : Fin 11) (p : Fin 520)
    (j : Fin 512) (h : 6 ≤ p.val) :
    rows (iblk m c 0 t) (iblk m c 1 t) H d p j
      = padded (a0 m c) (a1 m c)
        (ix3 (batch t) ⟨t.val % 16 * 512 + (p.val - 6), by have := p.isLt; omega⟩ (col d j)) := by
  unfold rows
  split
  · exact hH d _ j h
  · next h8 =>
    refine (up_row m c t d _ j).trans (padded_high _ _ _ _ _ ?_ _).symm
    simp only [place]
    omega

/-- The convolution at a column of a chunk is the reference's. -/
theorem conv_eq (c : Dev nD) (t : Fin cfg0.N) (H : Fin 11 → Fin 8 → Fin 512 → EReal) (hH : Before m c t H) (d : Fin 11) (r : Fin 512)
    (j : Fin 512) (p0 p1 p2 : Fin 520) (h0 : p0.val = 6 + r.val) (h1 : p1.val = 7 + r.val) (h2 : p2.val = 8 + r.val) :
    conv (iblk m c 2 t) (iblk m c 3 t) d j (rows (iblk m c 0 t) (iblk m c 1 t) H d p0 j) (rows (iblk m c 0 t) (iblk m c 1 t) H d p1 j)
        (rows (iblk m c 0 t) (iblk m c 1 t) H d p2 j)
      = convolved (a0 m c) (a1 m c) (a2 m c) (a3 m c) (ix3 (batch t) (place t r) (col d j)) := by
  rw [rows_padded m c t H hH d p0 j (by omega), rows_padded m c t H hH d p1 j (by omega), rows_padded m c t H hH d p2 j (by omega), convolved_at]
  unfold conv
  rw [shift m c t d j, show iblk m c 2 t (ix3 d 0 j : S11x8x512.Idx) = _ from tap m c t d 0 j,
    show iblk m c 2 t (ix3 d 1 j : S11x8x512.Idx) = _ from tap m c t d 1 j, show iblk m c 2 t (ix3 d 2 j : S11x8x512.Idx) = _ from tap m c t d 2 j]
  have e0 : (⟨t.val % 16 * 512 + (p0.val - 6), by have := p0.isLt; omega⟩ : Fin 8194) = ⟨(place t r).val, by have := (place t r).isLt; omega⟩ :=
    Fin.ext (by simp only [place]; omega)
  have e1 : (⟨t.val % 16 * 512 + (p1.val - 6), by have := p1.isLt; omega⟩ : Fin 8194) = ⟨1 + (place t r).val, by have := (place t r).isLt; omega⟩ :=
    Fin.ext (by simp only [place]; omega)
  have e2 : (⟨t.val % 16 * 512 + (p2.val - 6), by have := p2.isLt; omega⟩ : Fin 8194) = ⟨2 + (place t r).val, by have := (place t r).isLt; omega⟩ :=
    Fin.ext (by simp only [place]; omega)
  rw [e0, e1, e2]

/-- The gated product at a column of a chunk is the reference's at the column of the whole. -/
theorem act_eq (c : Dev nD) (t : Fin cfg0.N) (H : Fin 11 → Fin 8 → Fin 512 → EReal) (hH : Before m c t H) (d : Fin 11) (r : Fin 512)
    (j : Fin 256) (h : d.val * 256 + j.val < 2816) :
    act (iblk m c 2 t) (iblk m c 3 t) (rows (iblk m c 0 t) (iblk m c 1 t) H) d r j
      = product (convolved (a0 m c) (a1 m c) (a2 m c) (a3 m c)) (ix3 (batch t) (place t r) ⟨d.val * 256 + j.val, h⟩) := by
  have hj := j.isLt
  have e1 : col d ⟨j.val, by omega⟩ = ⟨d.val * 256 + j.val, by omega⟩ := Fin.ext (by simp only [col, if_pos hj])
  have e2 : col d ⟨256 + j.val, by omega⟩ = ⟨2816 + (d.val * 256 + j.val), by omega⟩ :=
    Fin.ext (by simp only [col, if_neg (show ¬ 256 + j.val < 256 by omega)]; omega)
  unfold act
  rw [product_at, conv_eq m c t H hH d r _ _ _ _ rfl rfl rfl, conv_eq m c t H hH d r _ _ _ _ rfl rfl rfl, e1, e2]

/-- A sum over the columns, chunk by chunk. -/
theorem sum_chunks (f : Fin 2816 → EReal) :
    ∑ n : Fin 2816, f n = ∑ d : Fin 11, ∑ j : Fin 256, f ⟨d.val * 256 + j.val, by have := d.isLt; have := j.isLt; omega⟩ :=
  (Fin.sum_mul_add_fin 11 256 f).symm

/-- What is normalised at a grid point is the reference's row at the place the block has in the array. -/
theorem line_eq (c : Dev nD) (t : Fin cfg0.N) (H : Fin 11 → Fin 8 → Fin 512 → EReal) (hH : Before m c t H) (r : Fin 512) (l : Fin 1024) :
    line (iblk m c 0 t) (iblk m c 4 t) (act (iblk m c 2 t) (iblk m c 3 t) (rows (iblk m c 0 t) (iblk m c 1 t) H)) r l
      = fed (a0 m c) (a1 m c) (a2 m c) (a3 m c) (a4 m c) (ix3 (batch t) (place t r) l) := by
  rw [fed_at]
  unfold line
  rw [row m c t r l, sum_chunks]
  refine congrArg _ (Finset.sum_congr rfl fun d _ => Finset.sum_congr rfl fun j _ => ?_)
  exact congrArg₂ (fun u v : EReal => u * v) (act_eq m c t H hH d r j _) (down m c t _ l)

/-- The last rows of the point before, in the same batch, are what this point finds kept. -/
theorem kept (c : Dev nD) (s : Fin cfg0.N) (d : Fin 11) (p : Fin 8) (j : Fin 512) :
    (outsAt0 m c s.val s.isLt).2 (ix3 d p j : S11x8x512.Idx)
      = up (iblk m c 0 s) (iblk m c 1 s) d ⟨504 + p.val, by have := p.isLt; omega⟩ j := by
  by_cases h : s.val % 16 = 0
  · rw [outsAt0_A m c s h]
    dsimp only
    exact carried_A m c s _ d p j
  · rw [outsAt0_B m c s h]
    dsimp only
    exact carried_B m c s _ _ (fun d p j => _) (fun d p j => rfl) d p j

/-- At a batch's first point nothing is kept: the rows before are zeros, as the reference's padding. -/
theorem before_first (c : Dev nD) (t : Fin cfg0.N) (h : t.val % 16 = 0) : Before m c t (fun _ _ _ => 0) := by
  intro d p j hp
  refine (padded_low _ _ _ _ ?_ _).symm
  have := p.isLt
  simp only [h]
  omega

/-- At a later point the rows before are the last rows of the point before. -/
theorem before_next (c : Dev nD) (t : Fin cfg0.N) (h : ¬ t.val % 16 = 0) :
    Before m c t (fun d p j => (outsAt0 m c (t.val - 1) (Nat.lt_of_le_of_lt (Nat.sub_le _ _) t.isLt)).2 (ix3 d p j : S11x8x512.Idx)) := by
  intro d p j hp
  have ht : t.val < 128 := t.isLt
  have hp8 := p.isLt
  refine (kept m c ⟨t.val - 1, Nat.lt_of_le_of_lt (Nat.sub_le _ _) t.isLt⟩ d p j).trans ((up_row m c _ d _ j).trans ?_)
  have hb : batch ⟨t.val - 1, Nat.lt_of_le_of_lt (Nat.sub_le _ _) t.isLt⟩ = batch t := Fin.ext (by simp only [batch]; omega)
  rw [hb]
  refine (padded_high _ _ _ _ _ ?_ _).symm
  simp only [place]
  omega

/-- A normalised row of a block is the reference's result at the block's place. -/
theorem stored (c : Dev nD) (t : Fin cfg0.N) (H : Fin 11 → Fin 8 → Fin 512 → EReal) (hH : Before m c t H) (r : Fin 512) (l : Fin 1024) :
    RowNorm.norm (line (iblk m c 0 t) (iblk m c 4 t) (act (iblk m c 2 t) (iblk m c 3 t) (rows (iblk m c 0 t) (iblk m c 1 t) H)) r)
        (iblk m c 5 t (ix2 0 l : S1x1024.Idx)) (iblk m c 6 t (ix2 0 l : S1x1024.Idx)) l
      = normed (fed (a0 m c) (a1 m c) (a2 m c) (a3 m c) (a4 m c)) (a5 m c) (a6 m c) (ix3 (batch t) (place t r) l) := by
  rw [normed_at, normGain, normShift, funext fun k => line_eq m c t H hH r k]

/-- The result array after the run. -/
theorem final (c : Dev nD) : (dats m 0 c).arrAt 7 (cfgs 0).N
    = normed (fed (a0 m c) (a1 m c) (a2 m c) (a3 m c) (a4 m c))
        (a5 m c) (a6 m c) := by
  refine (dats m 0 c).arrAt_eq_of_covers 7 _ (by decide +kernel) fun t _ y => ?_
  blk_simp
  rw [after0_7]
  have hy : y = (ix3 0 (y 1) (y 2) : S1x512x1024.Idx) := by
    refine (eq_ix3 y).trans ?_
    idx_ext
  have he : ((View.whole main_v24).slice (win0_7.rect t)).emb y = (ix3 (batch t) (place t (y 1)) (y 2) : S8x8192x1024.Idx) := by
    blk_ext [idx t, batch, place]
  refine (congrArg _ hy).trans (Eq.trans ?_ (congrArg _ he).symm)
  by_cases h : t.val % 16 = 0
  · rw [outsAt0_A m c t h]
    dsimp only
    exact (point_A m c t ((hcond0_0 t).mpr h) (y 1) (y 2)).trans (stored m c t _ (before_first m c t h) (y 1) (y 2))
  · rw [outsAt0_B m c t h]
    dsimp only
    exact (point_B m c t (fun h' => h ((hcond0_0 t).mp h')) _ _ (fun d p j => rfl) (y 1) (y 2)).trans
      (stored m c t _ (before_next m c t h) (y 1) (y 2))

end Cert.FfnIdeal.Pure

end
-- ==== Proof.FfnClaim.lean ====
module

public import proofs.«01_k».proof.Defs
public import proofs.«01_k».proof.Proof.Gen.Ffn.Frame
public import proofs.«01_k».proof.Proof.FfnValue

/-! The claims on the feed-forward call: the two frames are the generated ones, and the equality of the results is
`FfnValue`'s reading of both. -/

@[expose] public section

noncomputable section

namespace Cert.Proof

open Idealize.ShloMosaic Idealize.SL.Sem

theorem ffn_frame : Cert.quiescent_Ffn := fun m g _ => Cert.Ffn.Gen.frame m g

theorem ffn_ideal_frame : Cert.quiescent_FfnIdeal := fun m g _ => Cert.FfnIdeal.Gen.frame m g

theorem ffn_reference_frame : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run m g)

theorem ffn_value : Cert.algebraic_FfnIdeal_FfnRefIdeal := by
  pair_intro
  · run_from Cert.FfnIdeal.Gen.run_main m g
    · exact Cert.FfnIdeal.Gen.V_main_arg1 m c
    · exact Cert.FfnIdeal.Gen.V_main_arg2 m c
    · exact Cert.FfnIdeal.Gen.V_main_arg3 m c
    · exact Cert.FfnIdeal.Gen.V_main_arg4 m c
    · exact Cert.FfnIdeal.Gen.V_main_arg5 m c
    · exact Cert.FfnIdeal.Gen.V_main_arg6 m c
  · run_from Cert.FfnRefIdeal.Value.run m' g'
    obtain ⟨h0, h1, h2, h3, h4, h5, h6⟩ := hagree c
    refine (Cert.FfnRefIdeal.Pure.res_eq m' c).trans ?_
    rw [h0, h1, h2, h3, h4, h5, h6]
    exact (Cert.FfnIdeal.Pure.final m c).symm

end Cert.Proof

end
-- ==== Proof.ProjRef.lean ====
/- The input projection's reference, entry by entry, at the ideal instance: each result is a few columns of the hidden
   array `x @ w_in`, some of them turned by the rotary angles. -/
module

public import proofs.«01_k».proof.Proof.Gen.ProjRefIdeal.Run
public import Idealize.ShloMosaic.Lib.Pipeline.ValueKit
public import Idealize.ShloMosaic.Lib.KernelVsHost
public import Idealize.ShloMosaic.Lib.Claim

@[expose] public section

set_option maxRecDepth 16384
noncomputable section

open Idealize.ShloMosaic Idealize.ShloMosaic.TcCoe Idealize.SL.Sem
open scoped BigOperators

namespace Cert.ProjRefIdeal.Pure
open Cert.ProjRefIdeal Cert.ProjRefIdeal.Gen

/-- The hidden array. -/
@[irreducible] def hid (x : FVec Ideal S8x8192x1024 .f32) (w : FVec Ideal S1024x4536 .f32) : FVec Ideal S8x8192x4536 .f32 :=
  Host.dotGeneral (F := Ideal) dot_S8x8192x1024_S1024x4536_S8x8192x4536_2_0_01_1_n_n none x w

/-- Column `n` of a row of the hidden array, at any natural number `n`. -/
@[irreducible] def col (x : FVec Ideal S8x8192x1024 .f32) (w : FVec Ideal S1024x4536 .f32) (i : Fin 8) (q : Fin 8192) (n : ℕ) : EReal :=
  if h : n < 4536 then ∑ k : Fin 1024, x (ix3 i q k) * w (ix2 k ⟨n, h⟩) else 0

/-- Entry `l` of a row of a table of cosines or sines, at any natural number `l`. -/
@[irreducible] def tab {e : ℕ} (s : FVec Ideal ⟨2, ![8192, e]⟩ .f32) (q : Fin 8192) (l : ℕ) : EReal :=
  if h : l < e then s (ix2 q ⟨l, h⟩) else 0

/-- A row turned by the rotary angles: in every run of `p` lanes the first `e` and the next `e` are turned against each
    other, and the others stay. -/
@[irreducible] def turned (e p : ℕ) (f C S : ℕ → EReal) (n : ℕ) : EReal :=
  if n % p < e then f n * C (n % p) - f (n + e) * S (n % p)
  else if n % p < 2 * e then f n * C (n % p - e) + f (n - e) * S (n % p - e) else f n

theorem hid_at (x : FVec Ideal S8x8192x1024 .f32) (w : FVec Ideal S1024x4536 .f32) (i : Fin 8) (q : Fin 8192) (n : Fin 4536) :
    hid x w (ix3 i q n) = col x w i q n.val := by
  unfold col
  rw [dif_pos n.isLt]
  pointwise [hid]

theorem tab_at {e : ℕ} (s : FVec Ideal ⟨2, ![8192, e]⟩ .f32) (q : Fin 8192) (l : Fin e) : s (ix2 q l) = tab s q l.val := by
  unfold tab
  rw [dif_pos l.isLt]

/-- The result read by the gated linear attention. -/
def gla (x : FVec Ideal S8x8192x1024 .f32) (w : FVec Ideal S1024x4536 .f32) : FVec Ideal S8x8192x1536 .bf16 :=
  truncf .bf16 ((concatenate S8x8192x1536 2 [⟨S8x8192x256, ((mulf (extractStridedSlice S8x8192x256 ![0, 0, 0] (hid x w) slices_S8x8192x4536_S8x8192x256_0_0_0) (broadcastInDim S8x8192x256 ![] bcast_S_S8x8192x256 (constant S_ .f32 0x3E000000#32))))⟩,
      ⟨S8x8192x256, ((extractStridedSlice S8x8192x256 ![0, 0, 256] (hid x w) slices_S8x8192x4536_S8x8192x256_0_0_256))⟩,
      ⟨S8x8192x512, ((extractStridedSlice S8x8192x512 ![0, 0, 512] (hid x w) slices_S8x8192x4536_S8x8192x512_0_0_512))⟩,
      ⟨S8x8192x512, ((extractStridedSlice S8x8192x512 ![0, 0, 1040] (hid x w) slices_S8x8192x4536_S8x8192x512_0_0_1040))⟩]
    concatenates_S8x8192x256_S8x8192x256_S8x8192x512_S8x8192x512_S8x8192x1536_d2)) bitsLt_bf16_f32

/-- The decay's logits. -/
def logits (x : FVec Ideal S8x8192x1024 .f32) (w : FVec Ideal S1024x4536 .f32) (wa : FVec Ideal S16x256 .f32) (ba : FVec Ideal S256 .f32) : FVec Ideal S8x8192x256 .f32 :=
  addf (Host.dotGeneral (F := Ideal) dot_S8x8192x16_S16x256_S8x8192x256_2_0_01_1_n_n none (extractStridedSlice S8x8192x16 ![0, 0, 1024] (hid x w) slices_S8x8192x4536_S8x8192x16_0_0_1024) wa)
    (broadcastInDim S8x8192x256 ![0, 1, 2] bcast_S1x1x256_S8x8192x256_0_1_2 (broadcastInDim S1x1x256 ![2] bcast_S256_S1x1x256_2 ba))

/-- The decay: the logarithm of the logits' logistic, divided by 16. -/
def gate (Z : FVec Ideal S8x8192x256 .f32) : FVec Ideal S8x8192x256 .f32 :=
  let O : FVec Ideal S8x8192x256 .f32 := broadcastInDim S8x8192x256 ![] bcast_S_S8x8192x256 (constant S_ .f32 0x00000000#32)
  Host.divf (Host.negf (select (cmpf .une (subf (Host.negf Z) O) (subf (Host.negf Z) O)) (addf (Host.negf Z) O)
      (addf (maximumf (Host.negf Z) O) (Host.log1p (Host.exp (Host.negf (Host.absf (subf (Host.negf Z) O))))))))
    (broadcastInDim S8x8192x256 ![] bcast_S_S8x8192x256 (constant S_ .f32 0x41800000#32))

/-- The tables, spread over the heads. -/
def spread8 (s : FVec Ideal S8192x8 .f32) : FVec Ideal S8x8192x8x8 .f32 :=
  broadcastInDim S8x8192x8x8 ![0, 1, 2, 3] bcast_S1x8192x1x8_S8x8192x8x8_0_1_2_3 (broadcastInDim S1x8192x1x8 ![1, 2, 3] bcast_S8192x1x8_S1x8192x1x8_1_2_3 (broadcastInDim S8192x1x8 ![0, 2] bcast_S8192x8_S8192x1x8_0_2 s))

@[inherit_doc spread8]
def spread1 (s : FVec Ideal S8192x8 .f32) : FVec Ideal S8x8192x1x8 .f32 :=
  broadcastInDim S8x8192x1x8 ![0, 1, 2, 3] bcast_S1x8192x1x8_S8x8192x1x8_0_1_2_3 (broadcastInDim S1x8192x1x8 ![1, 2, 3] bcast_S8192x1x8_S1x8192x1x8_1_2_3 (broadcastInDim S8192x1x8 ![0, 2] bcast_S8192x8_S8192x1x8_0_2 s))

@[inherit_doc spread8]
def ispread8 (s : FVec Ideal S8192x4 .f32) : FVec Ideal S8x8192x8x4 .f32 :=
  broadcastInDim S8x8192x8x4 ![0, 1, 2, 3] bcast_S1x8192x1x4_S8x8192x8x4_0_1_2_3 (broadcastInDim S1x8192x1x4 ![1, 2, 3] bcast_S8192x1x4_S1x8192x1x4_1_2_3 (broadcastInDim S8192x1x4 ![0, 2] bcast_S8192x4_S8192x1x4_0_2 s))

@[inherit_doc spread8]
def ispread1 (s : FVec Ideal S8192x4 .f32) : FVec Ideal S8x8192x1x4 .f32 :=
  broadcastInDim S8x8192x1x4 ![0, 1, 2, 3] bcast_S1x8192x1x4_S8x8192x1x4_0_1_2_3 (broadcastInDim S1x8192x1x4 ![1, 2, 3] bcast_S8192x1x4_S1x8192x1x4_1_2_3 (broadcastInDim S8192x1x4 ![0, 2] bcast_S8192x4_S8192x1x4_0_2 s))

/-- Heads of the attention's queries, turned. -/
def turn8 (d : FVec Ideal S8x8192x8x64 .f32) (cos sin : FVec Ideal S8192x8 .f32) : FVec Ideal S8x8192x8x64 .f32 :=
  concatenate S8x8192x8x64 3
    [⟨S8x8192x8x8, ((subf (mulf (extractStridedSlice S8x8192x8x8 ![0, 0, 0, 0] d slices_S8x8192x8x64_S8x8192x8x8_0_0_0_0) (spread8 cos)) (mulf (extractStridedSlice S8x8192x8x8 ![0, 0, 0, 8] d slices_S8x8192x8x64_S8x8192x8x8_0_0_0_8) (spread8 sin))))⟩,
      ⟨S8x8192x8x8, ((addf (mulf (extractStridedSlice S8x8192x8x8 ![0, 0, 0, 8] d slices_S8x8192x8x64_S8x8192x8x8_0_0_0_8) (spread8 cos)) (mulf (extractStridedSlice S8x8192x8x8 ![0, 0, 0, 0] d slices_S8x8192x8x64_S8x8192x8x8_0_0_0_0) (spread8 sin))))⟩,
      ⟨S8x8192x8x48, ((extractStridedSlice S8x8192x8x48 ![0, 0, 0, 16] d slices_S8x8192x8x64_S8x8192x8x48_0_0_0_16))⟩]
    concatenates_S8x8192x8x8_S8x8192x8x8_S8x8192x8x48_S8x8192x8x64_d3

@[inherit_doc turn8]
def turn1 (d : FVec Ideal S8x8192x1x64 .f32) (cos sin : FVec Ideal S8192x8 .f32) : FVec Ideal S8x8192x1x64 .f32 :=
  concatenate S8x8192x1x64 3
    [⟨S8x8192x1x8, ((subf (mulf (extractStridedSlice S8x8192x1x8 ![0, 0, 0, 0] d slices_S8x8192x1x64_S8x8192x1x8_0_0_0_0) (spread1 cos)) (mulf (extractStridedSlice S8x8192x1x8 ![0, 0, 0, 8] d slices_S8x8192x1x64_S8x8192x1x8_0_0_0_8) (spread1 sin))))⟩,
      ⟨S8x8192x1x8, ((addf (mulf (extractStridedSlice S8x8192x1x8 ![0, 0, 0, 8] d slices_S8x8192x1x64_S8x8192x1x8_0_0_0_8) (spread1 cos)) (mulf (extractStridedSlice S8x8192x1x8 ![0, 0, 0, 0] d slices_S8x8192x1x64_S8x8192x1x8_0_0_0_0) (spread1 sin))))⟩,
      ⟨S8x8192x1x48, ((extractStridedSlice S8x8192x1x48 ![0, 0, 0, 16] d slices_S8x8192x1x64_S8x8192x1x48_0_0_0_16))⟩]
    concatenates_S8x8192x1x8_S8x8192x1x8_S8x8192x1x48_S8x8192x1x64_d3

@[inherit_doc turn8]
def iturn8 (d : FVec Ideal S8x8192x8x32 .f32) (cos sin : FVec Ideal S8192x4 .f32) : FVec Ideal S8x8192x8x32 .f32 :=
  concatenate S8x8192x8x32 3
    [⟨S8x8192x8x4, ((subf (mulf (extractStridedSlice S8x8192x8x4 ![0, 0, 0, 0] d slices_S8x8192x8x32_S8x8192x8x4_0_0_0_0) (ispread8 cos)) (mulf (extractStridedSlice S8x8192x8x4 ![0, 0, 0, 4] d slices_S8x8192x8x32_S8x8192x8x4_0_0_0_4) (ispread8 sin))))⟩,
      ⟨S8x8192x8x4, ((addf (mulf (extractStridedSlice S8x8192x8x4 ![0, 0, 0, 4] d slices_S8x8192x8x32_S8x8192x8x4_0_0_0_4) (ispread8 cos)) (mulf (extractStridedSlice S8x8192x8x4 ![0, 0, 0, 0] d slices_S8x8192x8x32_S8x8192x8x4_0_0_0_0) (ispread8 sin))))⟩,
      ⟨S8x8192x8x24, ((extractStridedSlice S8x8192x8x24 ![0, 0, 0, 8] d slices_S8x8192x8x32_S8x8192x8x24_0_0_0_8))⟩]
    concatenates_S8x8192x8x4_S8x8192x8x4_S8x8192x8x24_S8x8192x8x32_d3

@[inherit_doc turn8]
def iturn1 (d : FVec Ideal S8x8192x1x32 .f32) (cos sin : FVec Ideal S8192x4 .f32) : FVec Ideal S8x8192x1x32 .f32 :=
  concatenate S8x8192x1x32 3
    [⟨S8x8192x1x4, ((subf (mulf (extractStridedSlice S8x8192x1x4 ![0, 0, 0, 0] d slices_S8x8192x1x32_S8x8192x1x4_0_0_0_0) (ispread1 cos)) (mulf (extractStridedSlice S8x8192x1x4 ![0, 0, 0, 4] d slices_S8x8192x1x32_S8x8192x1x4_0_0_0_4) (ispread1 sin))))⟩,
      ⟨S8x8192x1x4, ((addf (mulf (extractStridedSlice S8x8192x1x4 ![0, 0, 0, 4] d slices_S8x8192x1x32_S8x8192x1x4_0_0_0_4) (ispread1 cos)) (mulf (extractStridedSlice S8x8192x1x4 ![0, 0, 0, 0] d slices_S8x8192x1x32_S8x8192x1x4_0_0_0_0) (ispread1 sin))))⟩,
      ⟨S8x8192x1x24, ((extractStridedSlice S8x8192x1x24 ![0, 0, 0, 8] d slices_S8x8192x1x32_S8x8192x1x24_0_0_0_8))⟩]
    concatenates_S8x8192x1x4_S8x8192x1x4_S8x8192x1x24_S8x8192x1x32_d3

/-- The attention's queries. -/
def dq (x : FVec Ideal S8x8192x1024 .f32) (w : FVec Ideal S1024x4536 .f32) (cos sin : FVec Ideal S8192x8 .f32) : FVec Ideal S8x8192x512 .bf16 :=
  truncf .bf16 (mulf (shapeCast _ (turn8 (shapeCast _ (extractStridedSlice S8x8192x512 ![0, 0, 1552] (hid x w) slices_S8x8192x4536_S8x8192x512_0_0_1552) shapeCasts_S8x8192x512_S8x8192x8x64) cos sin) shapeCasts_S8x8192x8x64_S8x8192x512)
    (broadcastInDim S8x8192x512 ![] bcast_S_S8x8192x512 (constant S_ .f32 0x3E38AA3B#32))) bitsLt_bf16_f32

/-- The attention's one key and value, side by side. -/
def kv (x : FVec Ideal S8x8192x1024 .f32) (w : FVec Ideal S1024x4536 .f32) (cos sin : FVec Ideal S8192x8 .f32) : FVec Ideal S8x8192x128 .f32 :=
  concatenate S8x8192x128 2 [⟨S8x8192x64, (shapeCast _ (turn1 (shapeCast _ (extractStridedSlice S8x8192x64 ![0, 0, 2064] (hid x w) slices_S8x8192x4536_S8x8192x64_0_0_2064) shapeCasts_S8x8192x64_S8x8192x1x64) cos sin) shapeCasts_S8x8192x1x64_S8x8192x64)⟩,
    ⟨S8x8192x64, (extractStridedSlice S8x8192x64 ![0, 0, 2128] (hid x w) slices_S8x8192x4536_S8x8192x64_0_0_2128)⟩] concatenates_S8x8192x64_S8x8192x64_S8x8192x128_d2

/-- The same as handed over, and in transposed tiles of 512 rows. -/
def dkv (x : FVec Ideal S8x8192x1024 .f32) (w : FVec Ideal S1024x4536 .f32) (cos sin : FVec Ideal S8192x8 .f32) : FVec Ideal S8x8192x128 .bf16 :=
  truncf .bf16 (kv x w cos sin) bitsLt_bf16_f32

@[inherit_doc dkv]
def dkvt (x : FVec Ideal S8x8192x1024 .f32) (w : FVec Ideal S1024x4536 .f32) (cos sin : FVec Ideal S8192x8 .f32) : FVec Ideal S8x16x128x512 .bf16 :=
  truncf .bf16 (transpose S8x16x128x512 [0, 1, 3, 2] (shapeCast _ (kv x w cos sin) shapeCasts_S8x8192x128_S8x16x512x128) transposes_S8x16x512x128_S8x16x128x512_0_1_3_2) bitsLt_bf16_f32

/-- The indexer's queries. -/
def iq (x : FVec Ideal S8x8192x1024 .f32) (w : FVec Ideal S1024x4536 .f32) (cos sin : FVec Ideal S8192x4 .f32) : FVec Ideal S8x8192x256 .bf16 :=
  truncf .bf16 (shapeCast _ (iturn8 (shapeCast _ (extractStridedSlice S8x8192x256 ![0, 0, 2192] (hid x w) slices_S8x8192x4536_S8x8192x256_0_0_2192) shapeCasts_S8x8192x256_S8x8192x8x32) cos sin) shapeCasts_S8x8192x8x32_S8x8192x256) bitsLt_bf16_f32

/-- The indexer's one key, on 128 lanes. -/
def ik (x : FVec Ideal S8x8192x1024 .f32) (w : FVec Ideal S1024x4536 .f32) (cos sin : FVec Ideal S8192x4 .f32) : FVec Ideal S8x8192x128 .bf16 :=
  truncf .bf16 (pad S8x8192x128 ![0, 0, 0] ![0, 0, 96] ![0, 0, 0] (shapeCast _ (iturn1 (shapeCast _ (extractStridedSlice S8x8192x32 ![0, 0, 2448] (hid x w) slices_S8x8192x4536_S8x8192x32_0_0_2448) shapeCasts_S8x8192x32_S8x8192x1x32) cos sin) shapeCasts_S8x8192x1x32_S8x8192x32)
    (sitofp (F := Ideal) .f32 (constantI S_ 32 0#32)) pads_S8x8192x32_S8x8192x128_000_000_0960 h_S_) bitsLt_bf16_f32

/-- The indexer's head weights, scaled, on 128 lanes. -/
def iw (x : FVec Ideal S8x8192x1024 .f32) (w : FVec Ideal S1024x4536 .f32) : FVec Ideal S8x8192x128 .f32 :=
  pad S8x8192x128 ![0, 0, 0] ![0, 0, 120] ![0, 0, 0] (mulf (extractStridedSlice S8x8192x8 ![0, 0, 2480] (hid x w) slices_S8x8192x4536_S8x8192x8_0_0_2480) (broadcastInDim S8x8192x8 ![] bcast_S_S8x8192x8 (constant S_ .f32 0x3D800000#32)))
    (sitofp (F := Ideal) .f32 (constantI S_ 32 0#32)) pads_S8x8192x8_S8x8192x128_000_000_01200 h_S_

/-- The three runs of lanes, as a concatenation reads them. -/
theorem turned_ladder64 (f C S : ℕ → EReal) (l : ℕ) (hl : l < 64) :
    (if l < 8 then f l * C l - f (8 + l) * S l
      else if l - 8 < 8 then f (8 + (l - 8)) * C (l - 8) + f (l - 8) * S (l - 8) else f (16 + (l - 8 - 8)))
      = turned 8 64 f C S l := by
  unfold turned
  rw [Nat.mod_eq_of_lt hl]
  by_cases h1 : l < 8
  · rw [if_pos h1, if_pos h1, Nat.add_comm 8 l]
  · by_cases h2 : l < 16
    · rw [if_neg h1, if_neg h1, if_pos (by omega), if_pos (by omega), show 8 + (l - 8) = l by omega]
    · rw [if_neg h1, if_neg h1, if_neg (by omega), if_neg (by omega), show 16 + (l - 8 - 8) = l by omega]

/-- The turn of a head is the turn of the row at the head's lanes. -/
theorem turned_head64 (f C S : ℕ → EReal) (n : ℕ) :
    turned 8 64 (fun l => f (n / 64 * 64 + l)) C S (n % 64) = turned 8 64 f C S n := by
  unfold turned
  rw [Nat.mod_mod]
  have h0 : n / 64 * 64 + n % 64 = n := by omega
  by_cases h1 : n % 64 < 8
  · rw [if_pos h1, if_pos h1]
    dsimp only
    rw [h0, show n / 64 * 64 + (n % 64 + 8) = n + 8 by omega]
  · by_cases h2 : n % 64 < 16
    · rw [if_neg h1, if_neg h1, if_pos h2, if_pos h2]
      dsimp only
      rw [h0, show n / 64 * 64 + (n % 64 - 8) = n - 8 by omega]
    · rw [if_neg h1, if_neg h1, if_neg h2, if_neg h2]
      dsimp only
      rw [h0]

/-- The three runs of lanes, as a concatenation reads them. -/
theorem turned_ladder32 (f C S : ℕ → EReal) (l : ℕ) (hl : l < 32) :
    (if l < 4 then f l * C l - f (4 + l) * S l
      else if l - 4 < 4 then f (4 + (l - 4)) * C (l - 4) + f (l - 4) * S (l - 4) else f (8 + (l - 4 - 4)))
      = turned 4 32 f C S l := by
  unfold turned
  rw [Nat.mod_eq_of_lt hl]
  by_cases h1 : l < 4
  · rw [if_pos h1, if_pos h1, Nat.add_comm 4 l]
  · by_cases h2 : l < 8
    · rw [if_neg h1, if_neg h1, if_pos (by omega), if_pos (by omega), show 4 + (l - 4) = l by omega]
    · rw [if_neg h1, if_neg h1, if_neg (by omega), if_neg (by omega), show 8 + (l - 4 - 4) = l by omega]

/-- The turn of a head is the turn of the row at the head's lanes. -/
theorem turned_head32 (f C S : ℕ → EReal) (n : ℕ) :
    turned 4 32 (fun l => f (n / 32 * 32 + l)) C S (n % 32) = turned 4 32 f C S n := by
  unfold turned
  rw [Nat.mod_mod]
  have h0 : n / 32 * 32 + n % 32 = n := by omega
  by_cases h1 : n % 32 < 4
  · rw [if_pos h1, if_pos h1]
    dsimp only
    rw [h0, show n / 32 * 32 + (n % 32 + 4) = n + 4 by omega]
  · by_cases h2 : n % 32 < 8
    · rw [if_neg h1, if_neg h1, if_pos h2, if_pos h2]
      dsimp only
      rw [h0, show n / 32 * 32 + (n % 32 - 4) = n - 4 by omega]
    · rw [if_neg h1, if_neg h1, if_neg h2, if_neg h2]
      dsimp only
      rw [h0]

/-- The scaled queries, the keys and values, and the output gate. -/
theorem gla_at (x : FVec Ideal S8x8192x1024 .f32) (w : FVec Ideal S1024x4536 .f32) (i : Fin 8) (q : Fin 8192) (n : Fin 1536) :
    gla x w (ix3 i q n) = if n.val < 256 then col x w i q n.val * Ideal.ofBits .f32 0x3E000000#32
      else if n.val < 1024 then col x w i q n.val else col x w i q (n.val + 16) := by
  pointwise [gla]
  simp only [hid_at]
  repeat' split
  all_goals first | (exfalso; omega) | exact congrArg (fun u => col x w i q u * _) (by omega) | exact congrArg (col x w i q) (by omega)

theorem logits_at (x : FVec Ideal S8x8192x1024 .f32) (w : FVec Ideal S1024x4536 .f32) (wa : FVec Ideal S16x256 .f32) (ba : FVec Ideal S256 .f32) (i : Fin 8) (q : Fin 8192) (n : Fin 256) :
    logits x w wa ba (ix3 i q n) = (∑ s : Fin 16, col x w i q (1024 + s.val) * wa (ix2 s n)) + ba (ix1 n) := by
  pointwise [logits]
  simp only [hid_at]

/-- The logarithm of the logistic over 16, as the kernel writes it: the smaller of the logit and 0, less
    `log (1 + exp (-|z|))`, times a sixteenth. -/
def decay (z : EReal) : EReal :=
  (min z 0 - Ideal.log1p (Ideal.exp (0 - max z (-z)))) * Ideal.ofBits .f32 0x3D800000#32

/-- `log (1 + exp (-|z|))` is a real number. -/
theorem softplus_real (z : EReal) : ∃ s : ℝ, Ideal.log1p (Ideal.exp (-(max z (-z)))) = (s : EReal) := by
  have h0 : Ideal.log1p (Ideal.exp (⊥ : EReal)) = ((Real.log 1 : ℝ) : EReal) := by
    show Ideal.log (1 + 0) = _
    rw [add_zero]
    show (if (1 : ℝ) ≤ 0 then (⊥ : EReal) else ((Real.log 1 : ℝ) : EReal)) = _
    rw [if_neg (by norm_num)]
  induction z with
  | bot => exact ⟨Real.log 1, by simpa using h0⟩
  | top => exact ⟨Real.log 1, by simpa using h0⟩
  | coe a =>
    have e1 : -(max (a : EReal) (-(a : EReal))) = ((-(max a (-a)) : ℝ) : EReal) := by
      rw [EReal.coe_neg, EReal.coe_strictMono.monotone.map_max, EReal.coe_neg]
    refine ⟨Real.log (1 + Real.exp (-(max a (-a)))), ?_⟩
    rw [e1]
    show Ideal.log (1 + ((Real.exp (-(max a (-a))) : ℝ) : EReal)) = _
    rw [← EReal.coe_one, ← EReal.coe_add]
    show (if (1 + Real.exp (-(max a (-a))) : ℝ) ≤ 0 then (⊥ : EReal) else _) = _
    rw [if_neg (by have := Real.exp_pos (-(max a (-a))); linarith)]

theorem sixteen : Ideal.ofBits .f32 0x41800000#32 = ((16 : ℝ) : EReal) := by
  simp [Ideal.ofBits, Ideal.ieee, -EReal.coe_mul]; norm_num

theorem sixteenth : Ideal.ofBits .f32 0x3D800000#32 = (((1 : ℝ) / 16 : ℝ) : EReal) := by
  simp [Ideal.ofBits, Ideal.ieee, -EReal.coe_mul]; norm_num

/-- The host's form of the same. -/
theorem gate_at (Z : FVec Ideal S8x8192x256 .f32) (j : S8x8192x256.Idx) : gate Z j = decay (Z j) := by
  have h16 : ((16 : ℝ) : EReal) ≠ 0 := by
    rw [← EReal.coe_zero]
    exact fun h => absurd (EReal.coe_eq_coe_iff.mp h) (by norm_num)
  pointwise [gate]
  unfold decay
  rw [if_neg (fun h => h rfl), sixteen, sixteenth]
  obtain ⟨s, hs⟩ := softplus_real (Z j)
  have ha : (FloatOps.absf (-(Z j)) : Ideal .f32) = max (Z j) (-(Z j)) := by
    show max (-(Z j)) (-(-(Z j))) = _
    rw [neg_neg, max_comm]
  rw [ha, zero_sub, hs]
  unfold Ideal.div
  rw [if_neg h16, ← EReal.coe_inv, show ((16 : ℝ)⁻¹) = 1 / 16 by norm_num]
  refine congrArg (fun u : EReal => u * _) ?_
  rw [EReal.neg_add (Or.inr (EReal.coe_ne_top s)) (Or.inr (EReal.coe_ne_bot s))]
  refine congrArg (fun u : EReal => u - _) ?_
  rcases le_total (Z j) 0 with h | h
  · rw [min_eq_left h, max_eq_left (EReal.neg_nonneg.mpr h), neg_neg]
  · rw [min_eq_right h, max_eq_right (by simpa using EReal.neg_le_neg_iff.mpr h), neg_zero]

theorem turn8_at (d : FVec Ideal S8x8192x8x64 .f32) (cos sin : FVec Ideal S8192x8 .f32) (i : Fin 8) (q : Fin 8192) (h : Fin 8) (f : ℕ → EReal)
    (hf : ∀ l : Fin 64, d (ix4 i q h l) = f l.val) (l : Fin 64) :
    turn8 d cos sin (ix4 i q h l) = turned 8 64 f (tab cos q) (tab sin q) l.val := by
  pointwise [turn8, spread8]
  simp only [show ∀ (a : ℕ) (ha : a < 64), d (ix4 i q h ⟨a, ha⟩) = f a from fun a ha => hf ⟨a, ha⟩, hf, tab_at]
  exact turned_ladder64 f _ _ l.val l.isLt

theorem turn1_at (d : FVec Ideal S8x8192x1x64 .f32) (cos sin : FVec Ideal S8192x8 .f32) (i : Fin 8) (q : Fin 8192) (f : ℕ → EReal)
    (hf : ∀ l : Fin 64, d (ix4 i q 0 l) = f l.val) (l : Fin 64) :
    turn1 d cos sin (ix4 i q 0 l) = turned 8 64 f (tab cos q) (tab sin q) l.val := by
  pointwise [turn1, spread1]
  simp only [show ∀ (a : ℕ) (ha : a < 64), d (ix4 i q 0 ⟨a, ha⟩) = f a from fun a ha => hf ⟨a, ha⟩, hf, tab_at]
  exact turned_ladder64 f _ _ l.val l.isLt

theorem iturn8_at (d : FVec Ideal S8x8192x8x32 .f32) (cos sin : FVec Ideal S8192x4 .f32) (i : Fin 8) (q : Fin 8192) (h : Fin 8) (f : ℕ → EReal)
    (hf : ∀ l : Fin 32, d (ix4 i q h l) = f l.val) (l : Fin 32) :
    iturn8 d cos sin (ix4 i q h l) = turned 4 32 f (tab cos q) (tab sin q) l.val := by
  pointwise [iturn8, ispread8]
  simp only [show ∀ (a : ℕ) (ha : a < 32), d (ix4 i q h ⟨a, ha⟩) = f a from fun a ha => hf ⟨a, ha⟩, hf, tab_at]
  exact turned_ladder32 f _ _ l.val l.isLt

theorem iturn1_at (d : FVec Ideal S8x8192x1x32 .f32) (cos sin : FVec Ideal S8192x4 .f32) (i : Fin 8) (q : Fin 8192) (f : ℕ → EReal)
    (hf : ∀ l : Fin 32, d (ix4 i q 0 l) = f l.val) (l : Fin 32) :
    iturn1 d cos sin (ix4 i q 0 l) = turned 4 32 f (tab cos q) (tab sin q) l.val := by
  pointwise [iturn1, ispread1]
  simp only [show ∀ (a : ℕ) (ha : a < 32), d (ix4 i q 0 ⟨a, ha⟩) = f a from fun a ha => hf ⟨a, ha⟩, hf, tab_at]
  exact turned_ladder32 f _ _ l.val l.isLt

/-- A row of 512 lanes as 8 heads of 64, and back. -/
theorem merge64_at (d : FVec Ideal S8x8192x8x64 .f32) (i : Fin 8) (q : Fin 8192) (n : Fin 512) :
    shapeCast S8x8192x512 d shapeCasts_S8x8192x8x64_S8x8192x512 (ix3 i q n)
      = d (ix4 i q ⟨n.val / 64, by have := n.isLt; omega⟩ ⟨n.val % 64, by omega⟩) := by
  pointwise

@[inherit_doc merge64_at]
theorem split64_at (d : FVec Ideal S8x8192x512 .f32) (i : Fin 8) (q : Fin 8192) (h : Fin 8) (l : Fin 64) :
    shapeCast S8x8192x8x64 d shapeCasts_S8x8192x512_S8x8192x8x64 (ix4 i q h l)
      = d (ix3 i q ⟨h.val * 64 + l.val, by have := h.isLt; have := l.isLt; omega⟩) := by
  pointwise

/-- The scale and the rounding, entry by entry. -/
theorem scaled_at (d : FVec Ideal S8x8192x512 .f32) (j : S8x8192x512.Idx) :
    truncf .bf16 (mulf d (broadcastInDim S8x8192x512 ![] bcast_S_S8x8192x512 (constant S_ .f32 0x3E38AA3B#32))) bitsLt_bf16_f32 j
      = d j * Ideal.ofBits .f32 0x3E38AA3B#32 := by
  pointwise

/-- Columns 1552 and on of the hidden array. -/
theorem cols1552_at (x : FVec Ideal S8x8192x1024 .f32) (w : FVec Ideal S1024x4536 .f32) (i : Fin 8) (q : Fin 8192) (n : Fin 512) :
    extractStridedSlice S8x8192x512 ![0, 0, 1552] (hid x w) slices_S8x8192x4536_S8x8192x512_0_0_1552 (ix3 i q n) = col x w i q (1552 + n.val) := by
  pointwise
  rw [hid_at]

theorem dq_at (x : FVec Ideal S8x8192x1024 .f32) (w : FVec Ideal S1024x4536 .f32) (cos sin : FVec Ideal S8192x8 .f32) (i : Fin 8) (q : Fin 8192) (n : Fin 512) :
    dq x w cos sin (ix3 i q n) = turned 8 64 (fun n => col x w i q (1552 + n)) (tab cos q) (tab sin q) n.val * Ideal.ofBits .f32 0x3E38AA3B#32 := by
  unfold dq
  refine (scaled_at _ _).trans (congrArg (fun u : EReal => u * Ideal.ofBits .f32 0x3E38AA3B#32) ((merge64_at _ i q n).trans ?_))
  refine Eq.trans ?_ (turned_head64 (fun n => col x w i q (1552 + n)) (tab cos q) (tab sin q) n.val)
  exact turn8_at _ cos sin i q _ (fun l => col x w i q (1552 + (n.val / 64 * 64 + l))) (fun l => by rw [split64_at, cols1552_at]) _

theorem kv_at (x : FVec Ideal S8x8192x1024 .f32) (w : FVec Ideal S1024x4536 .f32) (cos sin : FVec Ideal S8192x8 .f32) (i : Fin 8) (q : Fin 8192) (n : Fin 128) :
    kv x w cos sin (ix3 i q n) = if n.val < 64 then turned 8 64 (fun n => col x w i q (2064 + n)) (tab cos q) (tab sin q) n.val
      else col x w i q (2064 + n.val) := by
  pointwise [kv]
  by_cases h : n.val < 64
  · rw [dif_pos h, if_pos h]
    refine turn1_at _ cos sin i q (fun n => col x w i q (2064 + n)) (fun l => ?_) _
    pointwise
    rw [hid_at]
  · rw [dif_neg h, if_neg h, hid_at]
    exact congrArg (col x w i q) (by dsimp only; omega)

/-- The handing over and the tiling, of any array. -/
theorem handed_at (d : FVec Ideal S8x8192x128 .f32) (j : S8x8192x128.Idx) : truncf .bf16 d bitsLt_bf16_f32 j = d j := by
  pointwise

@[inherit_doc handed_at]
theorem tiled_at (d : FVec Ideal S8x8192x128 .f32) (i : Fin 8) (b : Fin 16) (n : Fin 128) (r : Fin 512) :
    truncf .bf16 (transpose S8x16x128x512 [0, 1, 3, 2] (shapeCast _ d shapeCasts_S8x8192x128_S8x16x512x128) transposes_S8x16x512x128_S8x16x128x512_0_1_3_2) bitsLt_bf16_f32 (ix4 i b n r)
      = d (ix3 i ⟨b.val * 512 + r.val, by have := b.isLt; have := r.isLt; omega⟩ n) := by
  pointwise

theorem dkv_at (x : FVec Ideal S8x8192x1024 .f32) (w : FVec Ideal S1024x4536 .f32) (cos sin : FVec Ideal S8192x8 .f32) (i : Fin 8) (q : Fin 8192) (n : Fin 128) :
    dkv x w cos sin (ix3 i q n) = kv x w cos sin (ix3 i q n) := by
  unfold dkv
  exact handed_at _ _

theorem dkvt_at (x : FVec Ideal S8x8192x1024 .f32) (w : FVec Ideal S1024x4536 .f32) (cos sin : FVec Ideal S8192x8 .f32) (i : Fin 8) (b : Fin 16) (n : Fin 128) (r : Fin 512) :
    dkvt x w cos sin (ix4 i b n r) = kv x w cos sin (ix3 i ⟨b.val * 512 + r.val, by have := b.isLt; have := r.isLt; omega⟩ n) := by
  unfold dkvt
  exact tiled_at _ _ _ _ _

/-- A row of 256 lanes as 8 heads of 32, and back. -/
theorem merge32_at (d : FVec Ideal S8x8192x8x32 .f32) (i : Fin 8) (q : Fin 8192) (n : Fin 256) :
    shapeCast S8x8192x256 d shapeCasts_S8x8192x8x32_S8x8192x256 (ix3 i q n)
      = d (ix4 i q ⟨n.val / 32, by have := n.isLt; omega⟩ ⟨n.val % 32, by omega⟩) := by
  pointwise

@[inherit_doc merge32_at]
theorem split32_at (d : FVec Ideal S8x8192x256 .f32) (i : Fin 8) (q : Fin 8192) (h : Fin 8) (l : Fin 32) :
    shapeCast S8x8192x8x32 d shapeCasts_S8x8192x256_S8x8192x8x32 (ix4 i q h l)
      = d (ix3 i q ⟨h.val * 32 + l.val, by have := h.isLt; have := l.isLt; omega⟩) := by
  pointwise

/-- A rounding keeps an entry. -/
theorem rounded_at (d : FVec Ideal S8x8192x256 .f32) (j : S8x8192x256.Idx) : truncf .bf16 d bitsLt_bf16_f32 j = d j := by
  pointwise

/-- Columns 2192 and on of the hidden array. -/
theorem cols2192_at (x : FVec Ideal S8x8192x1024 .f32) (w : FVec Ideal S1024x4536 .f32) (i : Fin 8) (q : Fin 8192) (n : Fin 256) :
    extractStridedSlice S8x8192x256 ![0, 0, 2192] (hid x w) slices_S8x8192x4536_S8x8192x256_0_0_2192 (ix3 i q n) = col x w i q (2192 + n.val) := by
  pointwise
  rw [hid_at]

theorem iq_at (x : FVec Ideal S8x8192x1024 .f32) (w : FVec Ideal S1024x4536 .f32) (cos sin : FVec Ideal S8192x4 .f32) (i : Fin 8) (q : Fin 8192) (n : Fin 256) :
    iq x w cos sin (ix3 i q n) = turned 4 32 (fun n => col x w i q (2192 + n)) (tab cos q) (tab sin q) n.val := by
  unfold iq
  refine (rounded_at _ _).trans ((merge32_at _ i q n).trans ?_)
  refine Eq.trans ?_ (turned_head32 (fun n => col x w i q (2192 + n)) (tab cos q) (tab sin q) n.val)
  exact iturn8_at _ cos sin i q _ (fun l => col x w i q (2192 + (n.val / 32 * 32 + l))) (fun l => by rw [split32_at, cols2192_at]) _

theorem ik_at (x : FVec Ideal S8x8192x1024 .f32) (w : FVec Ideal S1024x4536 .f32) (cos sin : FVec Ideal S8192x4 .f32) (i : Fin 8) (q : Fin 8192) (n : Fin 128) :
    ik x w cos sin (ix3 i q n) = if n.val < 32 then turned 4 32 (fun n => col x w i q (2448 + n)) (tab cos q) (tab sin q) n.val else 0 := by
  pointwise [ik]
  by_cases h : n.val < 32
  · rw [dif_pos (by simpa using h), if_pos h]
    refine iturn1_at _ cos sin i q (fun n => col x w i q (2448 + n)) (fun l => ?_) _
    pointwise
    rw [hid_at]
  · rw [dif_neg (by simpa using h), if_neg h]
    exact sitofp_zero

theorem iw_at (x : FVec Ideal S8x8192x1024 .f32) (w : FVec Ideal S1024x4536 .f32) (i : Fin 8) (q : Fin 8192) (n : Fin 128) :
    iw x w (ix3 i q n) = if n.val < 8 then col x w i q (2480 + n.val) * Ideal.ofBits .f32 0x3D800000#32 else 0 := by
  pointwise [iw]
  by_cases h : n.val < 8
  · rw [dif_pos (by simpa using h), if_pos h, hid_at]
  · rw [dif_neg (by simpa using h), if_neg h]
    exact sitofp_zero

end Cert.ProjRefIdeal.Pure

end
-- ==== Proof.ProjPoint.lean ====
/- The input projection's stored blocks, entry by entry, at the ideal instance: rows of products, some of them turned by
   the rotary angles with two lane rotations and three tables. -/
module

public import proofs.«01_k».proof.Proof.Gen.ProjIdeal.Frame
public import proofs.«01_k».proof.Proof.ProjRef

@[expose] public section

set_option maxRecDepth 16384
noncomputable section

open Idealize.ShloMosaic Idealize.ShloMosaic.TcCoe Idealize.SL.Sem
open scoped BigOperators

namespace Cert.ProjIdeal.Point
open Cert.ProjIdeal Cert.ProjIdeal.Gen
open Cert.ProjRefIdeal.Pure (turned decay)

/-- The tables of a turn: the cosines on both turned runs of lanes and 1 elsewhere; -/
def cosLane (e p : ℕ) (C : ℕ → EReal) (l : ℕ) : EReal := if l % p < e then C (l % p) else if l % p < 2 * e then C (l % p - e) else 1
/-- the negated sines on the first run and 0 elsewhere; -/
def sinFirst (e p : ℕ) (S : ℕ → EReal) (l : ℕ) : EReal := if l % p < e then -(S (l % p)) else 0
/-- the sines on the second run and 0 elsewhere. -/
def sinSecond (e p : ℕ) (S : ℕ → EReal) (l : ℕ) : EReal := if l % p < e then 0 else if l % p < 2 * e then S (l % p - e) else 0

/-- 128 lanes turned with the three tables, in runs of 64. -/
def rot64 (f c a b : FVec Ideal S512x128 .f32) : FVec Ideal S512x128 .f32 :=
  addf (addf (mulf f c) (mulf (dynamicRotate 1 120#32 none f rotates_S512x128_d1) a)) (mulf (dynamicRotate 1 8#32 none f rotates_S512x128_d1) b)
/-- 128 lanes turned with the three tables, in runs of 32. -/
def rot32 (f c a b : FVec Ideal S512x128 .f32) : FVec Ideal S512x128 .f32 :=
  addf (addf (mulf f c) (mulf (dynamicRotate 1 124#32 none f rotates_S512x128_d1) a)) (mulf (dynamicRotate 1 4#32 none f rotates_S512x128_d1) b)

theorem rot64_at (f c a b : FVec Ideal S512x128 .f32) (r : Fin 512) (l : Fin 128) :
    rot64 f c a b (ix2 r l) = f (ix2 r l) * c (ix2 r l) + f (ix2 r ⟨(l.val + 128 - 120) % 128, by omega⟩) * a (ix2 r l)
      + f (ix2 r ⟨(l.val + 128 - 8) % 128, by omega⟩) * b (ix2 r l) := by
  pointwise [rot64]

theorem rot32_at (f c a b : FVec Ideal S512x128 .f32) (r : Fin 512) (l : Fin 128) :
    rot32 f c a b (ix2 r l) = f (ix2 r l) * c (ix2 r l) + f (ix2 r ⟨(l.val + 128 - 124) % 128, by omega⟩) * a (ix2 r l)
      + f (ix2 r ⟨(l.val + 128 - 4) % 128, by omega⟩) * b (ix2 r l) := by
  pointwise [rot32]

/-- With the three tables, the rotated lanes are the turned row. -/
theorem rot64_turned (f c a b : FVec Ideal S512x128 .f32) (F C S : ℕ → EReal) (r : Fin 512) (hf : ∀ l : Fin 128, f (ix2 r l) = F l.val)
    (hc : ∀ l : Fin 128, c (ix2 r l) = cosLane 8 64 C l.val) (ha : ∀ l : Fin 128, a (ix2 r l) = sinFirst 8 64 S l.val)
    (hb : ∀ l : Fin 128, b (ix2 r l) = sinSecond 8 64 S l.val) (l : Fin 128) : rot64 f c a b (ix2 r l) = turned 8 64 F C S l.val := by
  rw [rot64_at, hf, hf, hf, hc, ha, hb]
  unfold turned cosLane sinFirst sinSecond
  dsimp only
  have hl := l.isLt
  by_cases h1 : l.val % 64 < 8
  · rw [if_pos h1, if_pos h1, if_pos h1, if_pos h1, mul_zero, add_zero, mul_neg, ← sub_eq_add_neg, show (l.val + 128 - 120) % 128 = l.val + 8 by omega]
  · by_cases h2 : l.val % 64 < 16
    · rw [if_neg h1, if_neg h1, if_neg h1, if_neg h1, if_pos h2, if_pos h2, if_pos h2, mul_zero, add_zero, show (l.val + 128 - 8) % 128 = l.val - 8 by omega]
    · rw [if_neg h1, if_neg h1, if_neg h1, if_neg h1, if_neg h2, if_neg h2, if_neg h2, mul_zero, mul_zero, add_zero, add_zero, mul_one]

@[inherit_doc rot64_turned]
theorem rot32_turned (f c a b : FVec Ideal S512x128 .f32) (F C S : ℕ → EReal) (r : Fin 512) (hf : ∀ l : Fin 128, f (ix2 r l) = F l.val)
    (hc : ∀ l : Fin 128, c (ix2 r l) = cosLane 4 32 C l.val) (ha : ∀ l : Fin 128, a (ix2 r l) = sinFirst 4 32 S l.val)
    (hb : ∀ l : Fin 128, b (ix2 r l) = sinSecond 4 32 S l.val) (l : Fin 128) : rot32 f c a b (ix2 r l) = turned 4 32 F C S l.val := by
  rw [rot32_at, hf, hf, hf, hc, ha, hb]
  unfold turned cosLane sinFirst sinSecond
  dsimp only
  have hl := l.isLt
  by_cases h1 : l.val % 32 < 4
  · rw [if_pos h1, if_pos h1, if_pos h1, if_pos h1, mul_zero, add_zero, mul_neg, ← sub_eq_add_neg, show (l.val + 128 - 124) % 128 = l.val + 4 by omega]
  · by_cases h2 : l.val % 32 < 8
    · rw [if_neg h1, if_neg h1, if_neg h1, if_neg h1, if_pos h2, if_pos h2, if_pos h2, mul_zero, add_zero, show (l.val + 128 - 4) % 128 = l.val - 4 by omega]
    · rw [if_neg h1, if_neg h1, if_neg h1, if_neg h1, if_neg h2, if_neg h2, if_neg h2, mul_zero, mul_zero, add_zero, add_zero, mul_one]

/-- A turn of the lanes from a multiple of the run's length on is the whole row's turn there. -/
theorem turned_from64 (G C S : ℕ → EReal) (o l : ℕ) (ho : o % 64 = 0) : turned 8 64 (fun l => G (o + l)) C S l = turned 8 64 G C S (o + l) := by
  unfold turned
  dsimp only
  rw [show (o + l) % 64 = l % 64 by omega]
  by_cases h1 : l % 64 < 8
  · rw [if_pos h1, if_pos h1, Nat.add_assoc]
  · by_cases h2 : l % 64 < 16
    · rw [if_neg h1, if_neg h1, if_pos h2, if_pos h2, show o + (l - 8) = o + l - 8 by omega]
    · rw [if_neg h1, if_neg h1, if_neg h2, if_neg h2]

@[inherit_doc turned_from64]
theorem turned_from32 (G C S : ℕ → EReal) (o l : ℕ) (ho : o % 32 = 0) : turned 4 32 (fun l => G (o + l)) C S l = turned 4 32 G C S (o + l) := by
  unfold turned
  dsimp only
  rw [show (o + l) % 32 = l % 32 by omega]
  by_cases h1 : l % 32 < 4
  · rw [if_pos h1, if_pos h1, Nat.add_assoc]
  · by_cases h2 : l % 32 < 8
    · rw [if_neg h1, if_neg h1, if_pos h2, if_pos h2, show o + (l - 4) = o + l - 4 by omega]
    · rw [if_neg h1, if_neg h1, if_neg h2, if_neg h2]

/-- The scaled queries, and the columns stored as they are. -/
theorem pay5_at (x : FVec Ideal S1x512x1024 .f32) (w : FVec Ideal S1024x1536 .bf16) (r : Fin 512) (n : Fin 256) :
    k0_pay5 (F := Ideal) x w (ix3 0 r n) = (∑ k : Fin 1024, x (ix3 0 r k) * w (ix2 k ⟨n.val, by have := n.isLt; omega⟩)) * Ideal.ofBits .f32 0x3E000000#32 := by
  pointwise [k0_pay5, k0_pay4, k0_pay3]

@[inherit_doc pay5_at]
theorem pay6_at (x : FVec Ideal S1x512x1024 .f32) (w : FVec Ideal S1024x1536 .bf16) (r : Fin 512) (n : Fin 1280) :
    k0_pay6 (F := Ideal) x w (ix3 0 r n) = ∑ k : Fin 1024, x (ix3 0 r k) * w (ix2 k ⟨256 + n.val, by have := n.isLt; omega⟩) := by
  pointwise [k0_pay6, k0_pay4, k0_pay3]

/-- The decay. -/
theorem pay11_at (x : FVec Ideal S1x512x1024 .f32) (wg : FVec Ideal S1024x128 .bf16) (wa : FVec Ideal S128x256 .bf16) (b : FVec Ideal S1x256 .f32) (r : Fin 512) (n : Fin 256) :
    k0_pay11 (F := Ideal) (k0_pay8 x wg wa b) (k0_pay9 x wg wa b) k0_pay10 (ix3 0 r n)
      = decay ((∑ s : Fin 128, (∑ k : Fin 1024, x (ix3 0 r k) * wg (ix2 k s)) * wa (ix2 s n)) + b (ix2 0 n)) := by
  unfold decay
  pointwise [k0_pay11, k0_pay8, k0_pay9, k0_pay10, k0_pay7, k0_pay3]
  rfl

/-- Four runs of 128 lanes side by side, scaled. -/
def wide (a b c d : FVec Ideal S512x128 .f32) : FVec Ideal S1x512x512 .bf16 :=
  shapeCast S1x512x512 (truncf .bf16 (mulf (concatenate S512x512 1 [⟨S512x128, a⟩, ⟨S512x128, b⟩, ⟨S512x128, c⟩, ⟨S512x128, d⟩] concatenates_S512x128_S512x128_S512x128_S512x128_S512x512_d1)
    (broadcast S512x512 (Scalar.ofBits .f32 0x3E38AA3B#32))) bitsLt_bf16_f32) shapeCasts_S512x512_S1x512x512

theorem wide_at (a b c d : FVec Ideal S512x128 .f32) (T : ℕ → EReal) (r : Fin 512) (ha : ∀ l : Fin 128, a (ix2 r l) = T l.val) (hb : ∀ l : Fin 128, b (ix2 r l) = T (128 + l.val))
    (hc : ∀ l : Fin 128, c (ix2 r l) = T (256 + l.val)) (hd : ∀ l : Fin 128, d (ix2 r l) = T (384 + l.val)) (n : Fin 512) :
    wide a b c d (ix3 0 r n) = T n.val * Ideal.ofBits .f32 0x3E38AA3B#32 := by
  have hn := n.isLt
  pointwise [wide]
  refine congrArg (fun u : EReal => u * _) ?_
  split
  · exact ha _
  · split
    · exact (hb _).trans (congrArg T (by dsimp only; omega))
    · split
      · exact (hc _).trans (congrArg T (by dsimp only; omega))
      · exact (hd _).trans (congrArg T (by dsimp only; omega))

/-- Two runs of 128 lanes side by side. -/
def pair (a b : FVec Ideal S512x128 .f32) : FVec Ideal S1x512x256 .bf16 :=
  shapeCast S1x512x256 (truncf .bf16 (concatenate S512x256 1 [⟨S512x128, a⟩, ⟨S512x128, b⟩] concatenates_S512x128_S512x128_S512x256_d1) bitsLt_bf16_f32) shapeCasts_S512x256_S1x512x256

theorem pair_at (a b : FVec Ideal S512x128 .f32) (T : ℕ → EReal) (r : Fin 512) (ha : ∀ l : Fin 128, a (ix2 r l) = T l.val) (hb : ∀ l : Fin 128, b (ix2 r l) = T (128 + l.val)) (n : Fin 256) :
    pair a b (ix3 0 r n) = T n.val := by
  have hn := n.isLt
  pointwise [pair]
  split
  · exact ha _
  · exact (hb _).trans (congrArg T (by dsimp only; omega))

/-- A row of products against 512, 256 or 128 columns. -/
theorem rows512_at (x : FVec Ideal S1x512x1024 .f32) (w : FVec Ideal S1024x512 .bf16) (r : Fin 512) (n : Fin 512) :
    k0_pay18 (F := Ideal) (k0_pay3 x) w (ix2 r n) = ∑ k : Fin 1024, x (ix3 0 r k) * w (ix2 k n) := by
  pointwise [k0_pay18, k0_pay3]

@[inherit_doc rows512_at]
def rows256 (x : FVec Ideal S1x512x1024 .f32) (w : FVec Ideal S1024x256 .bf16) : FVec Ideal S512x256 .f32 :=
  matmul dot_S512x1024_S1024x256_S512x256_1_0_0_1_n_n none (k0_pay3 x) (shapeCast S1024x256 w shapeCasts_S1024x256_S1024x256) (constant S512x256 .f32 0x00000000#32)

@[inherit_doc rows512_at]
theorem rows256_at (x : FVec Ideal S1x512x1024 .f32) (w : FVec Ideal S1024x256 .bf16) (r : Fin 512) (n : Fin 256) :
    rows256 x w (ix2 r n) = ∑ k : Fin 1024, x (ix3 0 r k) * w (ix2 k n) := by
  pointwise [rows256, k0_pay3]

@[inherit_doc rows512_at]
theorem rows128_at (x : FVec Ideal S1x512x1024 .f32) (w : FVec Ideal S1024x128 .bf16) (r : Fin 512) (n : Fin 128) :
    k0_pay21 (F := Ideal) (k0_pay3 x) w (ix2 r n) = ∑ k : Fin 1024, x (ix3 0 r k) * w (ix2 k n) := by
  pointwise [k0_pay21, k0_pay3]

/-- The payloads in these words. -/
theorem pay20_eq (v2 : FVec Ideal S512x1024 .bf16) (c a b : FVec Ideal S1x512x128 .f32) (w : FVec Ideal S1024x512 .bf16) :
    k0_pay20 (F := Ideal) (k0_pay12 c) (k0_pay13 a) (k0_pay14 b) (k0_pay18 v2 w) (k0_pay19 v2 c a b w)
      = wide (rot64 (extractStridedSlice S512x128 ![0, 0] (k0_pay18 v2 w) slices_S512x512_o0_0_S512x128) (k0_pay12 c) (k0_pay13 a) (k0_pay14 b))
        (rot64 (extractStridedSlice S512x128 ![0, 128] (k0_pay18 v2 w) slices_S512x512_o0_128_S512x128) (k0_pay12 c) (k0_pay13 a) (k0_pay14 b))
        (rot64 (extractStridedSlice S512x128 ![0, 256] (k0_pay18 v2 w) slices_S512x512_o0_256_S512x128) (k0_pay12 c) (k0_pay13 a) (k0_pay14 b))
        (rot64 (extractStridedSlice S512x128 ![0, 384] (k0_pay18 v2 w) slices_S512x512_o0_384_S512x128) (k0_pay12 c) (k0_pay13 a) (k0_pay14 b)) := rfl

@[inherit_doc pay20_eq]
theorem pay27_eq (x : FVec Ideal S1x512x1024 .f32) (c a b : FVec Ideal S512x128 .f32) (w : FVec Ideal S1024x256 .bf16) :
    k0_pay27 (F := Ideal) (k0_pay3 x) c a b w
      = pair (rot32 (extractStridedSlice S512x128 ![0, 0] (rows256 x w) slices_S512x256_o0_0_S512x128) c a b)
        (rot32 (extractStridedSlice S512x128 ![0, 128] (rows256 x w) slices_S512x256_o0_128_S512x128) c a b) := rfl

@[inherit_doc pay20_eq]
theorem pay22_eq (v2 : FVec Ideal S512x1024 .bf16) (c a b : FVec Ideal S512x128 .f32) (w : FVec Ideal S1024x128 .bf16) :
    k0_pay22 (F := Ideal) v2 c a b w = rot64 (k0_pay21 v2 w) c a b := rfl

@[inherit_doc pay20_eq]
theorem pay1_at (x : FVec Ideal S1x512x1024 .f32) (c a b : FVec Ideal S512x128 .f32) (w : FVec Ideal S1024x128 .bf16) (r : Fin 512) (n : Fin 128) :
    k0_pay1 (F := Ideal) (k0_pay3 x) c a b (k0_pay28 w) (constant S512x128 .f32 0x00000000#32) (ix3 0 r n) = rot32 (k0_pay21 (k0_pay3 x) w) c a b (ix2 r n) := by
  have e : k0_pay1 (F := Ideal) (k0_pay3 x) c a b (k0_pay28 w) (constant S512x128 .f32 0x00000000#32)
      = shapeCast S1x512x128 (truncf .bf16 (rot32 (k0_pay21 (k0_pay3 x) w) c a b) bitsLt_bf16_f32) shapeCasts_S512x128_S1x512x128 := rfl
  rw [e]
  pointwise

/-- The tables' blocks, without the unit axis. -/
theorem pay12_at (c : FVec Ideal S1x512x128 .f32) (r : Fin 512) (l : Fin 128) : k0_pay12 (F := Ideal) c (ix2 r l) = c (ix3 0 r l) := by
  pointwise [k0_pay12]

/-- The keys and values: turned keys on the first 64 lanes, the values after them. -/
theorem pay24_at (v u : FVec Ideal S512x128 .f32) (r : Fin 512) (n : Fin 128) :
    k0_pay24 (F := Ideal) v u (iota Kind.tc S512x128 32 [1] iota_S512x128_d1_w32) k0_pay23 (ix2 r n) = if n.val < 64 then u (ix2 r n) else v (ix2 r n) := by
  have hn := n.isLt
  have hc : cmpi .slt (iota Kind.tc S512x128 32 [1] iota_S512x128_d1_w32) k0_pay23 (ix2 r n) = if n.val < 64 then 1#1 else 0#1 := by
    pointwise [k0_pay23]
    revert n
    decide +kernel
  unfold k0_pay24
  refine (congrArg (fun b : BitVec 1 => if b = 1#1 then u (ix2 r n) else v (ix2 r n)) hc).trans ?_
  by_cases h : n.val < 64
  · rw [if_pos h, if_pos h, if_pos rfl]
  · rw [if_neg h, if_neg h, if_neg (by decide)]

@[inherit_doc pay24_at]
theorem pay25_at (v u : FVec Ideal S512x128 .f32) (r : Fin 512) (n : Fin 128) :
    k0_pay25 (F := Ideal) v u (iota Kind.tc S512x128 32 [1] iota_S512x128_d1_w32) k0_pay23 (ix3 0 r n) = if n.val < 64 then u (ix2 r n) else v (ix2 r n) := by
  refine Eq.trans ?_ (pay24_at v u r n)
  generalize hk : k0_pay24 (F := Ideal) v u (iota Kind.tc S512x128 32 [1] iota_S512x128_d1_w32) k0_pay23 = K
  have e : k0_pay25 (F := Ideal) v u (iota Kind.tc S512x128 32 [1] iota_S512x128_d1_w32) k0_pay23
      = shapeCast S1x512x128 (truncf .bf16 K bitsLt_bf16_f32) shapeCasts_S512x128_S1x512x128 := hk ▸ rfl
  rw [e]
  pointwise

@[inherit_doc pay24_at]
theorem pay26_at (v u : FVec Ideal S512x128 .f32) (r : Fin 512) (n : Fin 128) :
    k0_pay26 (F := Ideal) v u (iota Kind.tc S512x128 32 [1] iota_S512x128_d1_w32) k0_pay23 (ix4 0 0 n r) = if n.val < 64 then u (ix2 r n) else v (ix2 r n) := by
  refine Eq.trans ?_ (pay24_at v u r n)
  generalize hk : k0_pay24 (F := Ideal) v u (iota Kind.tc S512x128 32 [1] iota_S512x128_d1_w32) k0_pay23 = K
  have e : k0_pay26 (F := Ideal) v u (iota Kind.tc S512x128 32 [1] iota_S512x128_d1_w32) k0_pay23
      = shapeCast S1x1x128x512 (truncf .bf16 (transpose S128x512 [1, 0] K transposes_S512x128_p1_0_S128x512) bitsLt_bf16_f32) shapeCasts_S128x512_S1x1x128x512 := hk ▸ rfl
  rw [e]
  pointwise

/-- The head weights. -/
theorem pay2_at (x : FVec Ideal S1x512x1024 .f32) (w : FVec Ideal S1024x128 .bf16) (r : Fin 512) (n : Fin 128) :
    k0_pay2 (F := Ideal) (k0_pay3 x) w (ix3 0 r n) = (∑ k : Fin 1024, x (ix3 0 r k) * w (ix2 k n)) * Ideal.ofBits .f32 0x3D800000#32 := by
  pointwise [k0_pay2, k0_pay3]

end Cert.ProjIdeal.Point

end
-- ==== Proof.ProjBlocks.lean ====
/- The input projection's blocks at the call's arguments, at the ideal instance: the weights' columns as the host cuts and
   pads them, and the tables of the rotary angles as the host lays them out. -/
module

public import proofs.«01_k».proof.Proof.ProjPoint

@[expose] public section

set_option maxRecDepth 16384
noncomputable section

open Idealize.ShloMosaic Idealize.ShloMosaic.TcCoe Idealize.SL.Sem
open scoped BigOperators

namespace Cert.ProjIdeal.Pure
open Cert.ProjIdeal Cert.ProjIdeal.Gen Cert.ProjIdeal.Point
open Cert.ProjRefIdeal.Pure (col tab tab_at)

variable (m : (ℓ : Loc nD τ sig) → Buf (Elt Ideal) ℓ)

/-- The windows' block indices: row block and batch move with the grid point, the weights' stay. -/
theorem idx : ∀ t : Fin cfg0.N, win0_0.index t = ![t.val % 8, t.val / 8, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, t.val / 8, 0]
    ∧ win0_11.index t = ![0, t.val / 8, 0] ∧ win0_12.index t = ![0, t.val / 8, 0] ∧ win0_13.index t = ![t.val % 8, t.val / 8, 0]
    ∧ win0_14.index t = ![t.val % 8, t.val / 8, 0] ∧ win0_15.index t = ![t.val % 8, t.val / 8, 0] ∧ win0_16.index t = ![t.val % 8, t.val / 8, 0]
    ∧ win0_17.index t = ![t.val % 8, t.val / 8, 0, 0] ∧ win0_18.index t = ![t.val % 8, t.val / 8, 0] ∧ win0_19.index t = ![t.val % 8, t.val / 8, 0]
    ∧ win0_20.index t = ![t.val % 8, t.val / 8, 0] :=
  (by decide +kernel : ∀ t : Fin grid0.N, _)

/-- The batch, the row block and the row of the array at which row `r` of point `t`'s block lies. -/
def batch (t : Fin cfg0.N) : Fin 8 := ⟨t.val % 8, by omega⟩
@[inherit_doc batch]
def tile (t : Fin cfg0.N) : Fin 16 := ⟨t.val / 8, by have h : t.val < 128 := t.isLt; omega⟩
@[inherit_doc batch]
def place (t : Fin cfg0.N) (r : Fin 512) : Fin 8192 := ⟨t.val / 8 * 512 + r.val, by have h : t.val < 128 := t.isLt; have := r.isLt; omega⟩

/-- Entry `n` of a row of the weight, at any natural number `n`. -/
@[irreducible] def wcol (w : FVec Ideal S1024x4536 .f32) (k : Fin 1024) (n : ℕ) : EReal := if h : n < 4536 then w (ix2 k ⟨n, h⟩) else 0

theorem wcol_at (w : FVec Ideal S1024x4536 .f32) (k : Fin 1024) (n : Fin 4536) : w (ix2 k n) = wcol w k n.val := by
  unfold wcol
  rw [dif_pos n.isLt]

/-- A row's product with a column of the weight is the hidden array's entry. -/
theorem wcol_sum (x : FVec Ideal S8x8192x1024 .f32) (w : FVec Ideal S1024x4536 .f32) (i : Fin 8) (q : Fin 8192) (n : ℕ) :
    ∑ k : Fin 1024, x (ix3 i q k) * wcol w k n = col x w i q n := by
  unfold wcol col
  split
  · rfl
  · exact Finset.sum_eq_zero fun k _ => mul_zero _

/-- The weights, as the host hands them over. -/
def wGla (w : FVec Ideal S1024x4536 .f32) : FVec Ideal S1024x1536 .bf16 :=
  truncf .bf16 (concatenate S1024x1536 1 [⟨S1024x256, extractStridedSlice S1024x256 ![0, 0] w slices_S1024x4536_S1024x256_0_0⟩,
    ⟨S1024x256, extractStridedSlice S1024x256 ![0, 256] w slices_S1024x4536_S1024x256_0_256⟩,
    ⟨S1024x512, extractStridedSlice S1024x512 ![0, 512] w slices_S1024x4536_S1024x512_0_512⟩,
    ⟨S1024x512, extractStridedSlice S1024x512 ![0, 1040] w slices_S1024x4536_S1024x512_0_1040⟩]
    concatenates_S1024x256_S1024x256_S1024x512_S1024x512_S1024x1536_d1) bitsLt_bf16_f32
@[inherit_doc wGla]
def wGate (w : FVec Ideal S1024x4536 .f32) : FVec Ideal S1024x128 .bf16 :=
  truncf .bf16 (pad S1024x128 ![0, 0] ![0, 112] ![0, 0] (extractStridedSlice S1024x16 ![0, 1024] w slices_S1024x4536_S1024x16_0_1024)
    (sitofp (F := Ideal) .f32 (constantI S_ 32 0#32)) pads_S1024x16_S1024x128_000_01120 h_S_) bitsLt_bf16_f32
@[inherit_doc wGla]
def wGate2 (w : FVec Ideal S16x256 .f32) : FVec Ideal S128x256 .bf16 :=
  truncf .bf16 (pad S128x256 ![0, 0] ![112, 0] ![0, 0] w (sitofp (F := Ideal) .f32 (constantI S_ 32 0#32)) pads_S16x256_S128x256_01120_000 h_S_) bitsLt_bf16_f32
@[inherit_doc wGla]
def wDq (w : FVec Ideal S1024x4536 .f32) : FVec Ideal S1024x512 .bf16 :=
  truncf .bf16 (extractStridedSlice S1024x512 ![0, 1552] w slices_S1024x4536_S1024x512_0_1552) bitsLt_bf16_f32
@[inherit_doc wGla]
def wDkv (w : FVec Ideal S1024x4536 .f32) : FVec Ideal S1024x128 .bf16 :=
  truncf .bf16 (concatenate S1024x128 1 [⟨S1024x64, extractStridedSlice S1024x64 ![0, 2064] w slices_S1024x4536_S1024x64_0_2064⟩,
    ⟨S1024x64, extractStridedSlice S1024x64 ![0, 2128] w slices_S1024x4536_S1024x64_0_2128⟩] concatenates_S1024x64_S1024x64_S1024x128_d1) bitsLt_bf16_f32
@[inherit_doc wGla]
def wIq (w : FVec Ideal S1024x4536 .f32) : FVec Ideal S1024x256 .bf16 :=
  truncf .bf16 (extractStridedSlice S1024x256 ![0, 2192] w slices_S1024x4536_S1024x256_0_2192) bitsLt_bf16_f32
@[inherit_doc wGla]
def wIk (w : FVec Ideal S1024x4536 .f32) : FVec Ideal S1024x128 .bf16 :=
  truncf .bf16 (pad S1024x128 ![0, 0] ![0, 96] ![0, 0] (extractStridedSlice S1024x32 ![0, 2448] w slices_S1024x4536_S1024x32_0_2448)
    (sitofp (F := Ideal) .f32 (constantI S_ 32 0#32)) pads_S1024x32_S1024x128_000_0960 h_S_) bitsLt_bf16_f32
@[inherit_doc wGla]
def wIw (w : FVec Ideal S1024x4536 .f32) : FVec Ideal S1024x128 .bf16 :=
  truncf .bf16 (pad S1024x128 ![0, 0] ![0, 120] ![0, 0] (extractStridedSlice S1024x8 ![0, 2480] w slices_S1024x4536_S1024x8_0_2480)
    (sitofp (F := Ideal) .f32 (constantI S_ 32 0#32)) pads_S1024x8_S1024x128_000_01200 h_S_) bitsLt_bf16_f32

theorem wGla_at (w : FVec Ideal S1024x4536 .f32) (k : Fin 1024) (n : Fin 1536) :
    wGla w (ix2 k n) = wcol w k (if n.val < 1024 then n.val else n.val + 16) := by
  pointwise [wGla]
  simp only [wcol_at]
  repeat' split
  all_goals first | (exfalso; omega) | exact congrArg (wcol w k) (by omega)

theorem wGate_at (w : FVec Ideal S1024x4536 .f32) (k : Fin 1024) (s : Fin 128) :
    wGate w (ix2 k s) = if s.val < 16 then wcol w k (1024 + s.val) else 0 := by
  pointwise [wGate]
  by_cases h : s.val < 16
  · rw [dif_pos (by simpa using h), if_pos h]
    exact wcol_at w k ⟨1024 + s.val, by omega⟩
  · rw [dif_neg (by simpa using h), if_neg h]
    exact sitofp_zero

theorem wGate2_at (w : FVec Ideal S16x256 .f32) (s : Fin 128) (n : Fin 256) :
    wGate2 w (ix2 s n) = if h : s.val < 16 then w (ix2 ⟨s.val, h⟩ n) else 0 := by
  pointwise [wGate2]
  by_cases h : s.val < 16
  · rw [dif_pos (by simpa using h), dif_pos h]
  · rw [dif_neg (by simpa using h), dif_neg h]
    exact sitofp_zero

theorem wDq_at (w : FVec Ideal S1024x4536 .f32) (k : Fin 1024) (n : Fin 512) : wDq w (ix2 k n) = wcol w k (1552 + n.val) := by
  pointwise [wDq]
  exact wcol_at w k ⟨1552 + n.val, by omega⟩

theorem wDkv_at (w : FVec Ideal S1024x4536 .f32) (k : Fin 1024) (n : Fin 128) : wDkv w (ix2 k n) = wcol w k (2064 + n.val) := by
  pointwise [wDkv]
  simp only [wcol_at]
  split
  · rfl
  · exact congrArg (wcol w k) (by omega)

theorem wIq_at (w : FVec Ideal S1024x4536 .f32) (k : Fin 1024) (n : Fin 256) : wIq w (ix2 k n) = wcol w k (2192 + n.val) := by
  pointwise [wIq]
  exact wcol_at w k ⟨2192 + n.val, by omega⟩

theorem wIk_at (w : FVec Ideal S1024x4536 .f32) (k : Fin 1024) (n : Fin 128) :
    wIk w (ix2 k n) = if n.val < 32 then wcol w k (2448 + n.val) else 0 := by
  pointwise [wIk]
  by_cases h : n.val < 32
  · rw [dif_pos (by simpa using h), if_pos h]
    exact wcol_at w k ⟨2448 + n.val, by omega⟩
  · rw [dif_neg (by simpa using h), if_neg h]
    exact sitofp_zero

theorem wIw_at (w : FVec Ideal S1024x4536 .f32) (k : Fin 1024) (n : Fin 128) :
    wIw w (ix2 k n) = if n.val < 8 then wcol w k (2480 + n.val) else 0 := by
  pointwise [wIw]
  by_cases h : n.val < 8
  · rw [dif_pos (by simpa using h), if_pos h]
    exact wcol_at w k ⟨2480 + n.val, by omega⟩
  · rw [dif_neg (by simpa using h), if_neg h]
    exact sitofp_zero

/-- Three pieces laid out again and again over the 128 lanes. -/
def lay64 (u v : FVec Ideal S8192x8 .f32) (w : FVec Ideal S8192x48 .f32) : FVec Ideal S8192x128 .f32 :=
  concatenate S8192x128 1 [⟨S8192x8, u⟩, ⟨S8192x8, v⟩, ⟨S8192x48, w⟩, ⟨S8192x8, u⟩, ⟨S8192x8, v⟩, ⟨S8192x48, w⟩]
    concatenates_S8192x8_S8192x8_S8192x48_S8192x8_S8192x8_S8192x48_S8192x128_d1
@[inherit_doc lay64]
def lay32 (u v : FVec Ideal S8192x4 .f32) (w : FVec Ideal S8192x24 .f32) : FVec Ideal S8192x128 .f32 :=
  concatenate S8192x128 1 [⟨S8192x4, u⟩, ⟨S8192x4, v⟩, ⟨S8192x24, w⟩, ⟨S8192x4, u⟩, ⟨S8192x4, v⟩, ⟨S8192x24, w⟩,
      ⟨S8192x4, u⟩, ⟨S8192x4, v⟩, ⟨S8192x24, w⟩, ⟨S8192x4, u⟩, ⟨S8192x4, v⟩, ⟨S8192x24, w⟩]
    concatenates_S8192x4_S8192x4_S8192x24_S8192x4_S8192x4_S8192x24_S8192x4_S8192x4_S8192x24_S8192x4_S8192x4_S8192x24_S8192x128_d1

/-- Either way of a choice gives the value. -/
theorem cases_of {p : Prop} [Decidable p] {x : p → EReal} {y : ¬p → EReal} {z : EReal} (h1 : ∀ h : p, x h = z) (h2 : ∀ h : ¬p, y h = z) :
    (if h : p then x h else y h) = z := by
  split
  · exact h1 _
  · exact h2 _

theorem lay64_at (u v : FVec Ideal S8192x8 .f32) (w : FVec Ideal S8192x48 .f32) (q : Fin 8192) (U V : ℕ → EReal) (W : EReal)
    (hu : ∀ (l : ℕ) (h : l < 8), u (ix2 q ⟨l, h⟩) = U l) (hv : ∀ (l : ℕ) (h : l < 8), v (ix2 q ⟨l, h⟩) = V l) (hw : ∀ (l : ℕ) (h : l < 48), w (ix2 q ⟨l, h⟩) = W) (l : Fin 128) :
    lay64 u v w (ix2 q l) = if l.val % 64 < 8 then U (l.val % 64) else if l.val % 64 < 2 * 8 then V (l.val % 64 - 8) else W := by
  have hl := l.isLt
  pointwise [lay64]
  simp only [hu, hv, hw]
  repeat' split
  all_goals first | (exfalso; omega) | rfl | (refine congrArg U ?_; omega) | (refine congrArg V ?_; omega)

theorem lay32_at (u v : FVec Ideal S8192x4 .f32) (w : FVec Ideal S8192x24 .f32) (q : Fin 8192) (U V : ℕ → EReal) (W : EReal)
    (hu : ∀ (l : ℕ) (h : l < 4), u (ix2 q ⟨l, h⟩) = U l) (hv : ∀ (l : ℕ) (h : l < 4), v (ix2 q ⟨l, h⟩) = V l) (hw : ∀ (l : ℕ) (h : l < 24), w (ix2 q ⟨l, h⟩) = W) (l : Fin 128) :
    lay32 u v w (ix2 q l) = if l.val % 32 < 4 then U (l.val % 32) else if l.val % 32 < 2 * 4 then V (l.val % 32 - 4) else W := by
  have hl := l.isLt
  pointwise [lay32]
  simp only [hu, hv, hw]
  refine cases_of (fun h0 => ?_) fun h0 => ?_
  · rw [if_pos (by omega)]
    exact congrArg U (by omega)
  refine cases_of (fun h1 => ?_) fun h1 => ?_
  · rw [if_neg (by omega), if_pos (by omega)]
    exact congrArg V (by omega)
  refine cases_of (fun h2 => ?_) fun h2 => ?_
  · rw [if_neg (by omega), if_neg (by omega)]
  refine cases_of (fun h3 => ?_) fun h3 => ?_
  · rw [if_pos (by omega)]
    exact congrArg U (by omega)
  refine cases_of (fun h4 => ?_) fun h4 => ?_
  · rw [if_neg (by omega), if_pos (by omega)]
    exact congrArg V (by omega)
  refine cases_of (fun h5 => ?_) fun h5 => ?_
  · rw [if_neg (by omega), if_neg (by omega)]
  refine cases_of (fun h6 => ?_) fun h6 => ?_
  · rw [if_pos (by omega)]
    exact congrArg U (by omega)
  refine cases_of (fun h7 => ?_) fun h7 => ?_
  · rw [if_neg (by omega), if_pos (by omega)]
    exact congrArg V (by omega)
  refine cases_of (fun h8 => ?_) fun h8 => ?_
  · rw [if_neg (by omega), if_neg (by omega)]
  refine cases_of (fun h9 => ?_) fun h9 => ?_
  · rw [if_pos (by omega)]
    exact congrArg U (by omega)
  refine cases_of (fun h10 => ?_) fun h10 => ?_
  · rw [if_neg (by omega), if_pos (by omega)]
    exact congrArg V (by omega)
  rw [if_neg (by omega), if_neg (by omega)]

/-- Two tables one above the other: the attention's, then the indexer's. -/
def both (u v : FVec Ideal S8192x128 .f32) : FVec Ideal S2x8192x128 .f32 :=
  concatenate S2x8192x128 0 [⟨S1x8192x128, broadcastInDim S1x8192x128 ![1, 2] bcast_S8192x128_S1x8192x128_1_2 u⟩,
    ⟨S1x8192x128, broadcastInDim S1x8192x128 ![1, 2] bcast_S8192x128_S1x8192x128_1_2 v⟩] concatenates_S1x8192x128_S1x8192x128_S2x8192x128_d0

theorem both_first (u v : FVec Ideal S8192x128 .f32) (q : Fin 8192) (l : Fin 128) : both u v (ix3 0 q l) = u (ix2 q l) := by
  pointwise [both]

theorem both_second (u v : FVec Ideal S8192x128 .f32) (q : Fin 8192) (l : Fin 128) : both u v (ix3 1 q l) = v (ix2 q l) := by
  pointwise [both]

/-- The tables, as the host hands them over. -/
def tCos (s : FVec Ideal S8192x8 .f32) (z : FVec Ideal S8192x4 .f32) : FVec Ideal S2x8192x128 .f32 :=
  both (lay64 s s (broadcastInDim S8192x48 ![] bcast_S_S8192x48 (constant S_ .f32 0x3F800000#32))) (lay32 z z (broadcastInDim S8192x24 ![] bcast_S_S8192x24 (constant S_ .f32 0x3F800000#32)))
@[inherit_doc tCos]
def tFirst (s : FVec Ideal S8192x8 .f32) (z : FVec Ideal S8192x4 .f32) : FVec Ideal S2x8192x128 .f32 :=
  both (lay64 (Host.negf s) (broadcastInDim S8192x8 ![] bcast_S_S8192x8 (constant S_ .f32 0x00000000#32)) (broadcastInDim S8192x48 ![] bcast_S_S8192x48 (constant S_ .f32 0x00000000#32)))
    (lay32 (Host.negf z) (broadcastInDim S8192x4 ![] bcast_S_S8192x4 (constant S_ .f32 0x00000000#32)) (broadcastInDim S8192x24 ![] bcast_S_S8192x24 (constant S_ .f32 0x00000000#32)))
@[inherit_doc tCos]
def tSecond (s : FVec Ideal S8192x8 .f32) (z : FVec Ideal S8192x4 .f32) : FVec Ideal S2x8192x128 .f32 :=
  both (lay64 (broadcastInDim S8192x8 ![] bcast_S_S8192x8 (constant S_ .f32 0x00000000#32)) s (broadcastInDim S8192x48 ![] bcast_S_S8192x48 (constant S_ .f32 0x00000000#32)))
    (lay32 (broadcastInDim S8192x4 ![] bcast_S_S8192x4 (constant S_ .f32 0x00000000#32)) z (broadcastInDim S8192x24 ![] bcast_S_S8192x24 (constant S_ .f32 0x00000000#32)))

theorem tCos_first (s : FVec Ideal S8192x8 .f32) (z : FVec Ideal S8192x4 .f32) (q : Fin 8192) (l : Fin 128) :
    tCos s z (ix3 0 q l) = cosLane 8 64 (tab s q) l.val := by
  unfold tCos cosLane
  refine (both_first _ _ _ _).trans (lay64_at _ _ _ q (tab s q) (tab s q) 1 (fun l h => tab_at s q ⟨l, h⟩) (fun l h => tab_at s q ⟨l, h⟩) (fun l h => ?_) l)
  pointwise

theorem tCos_second (s : FVec Ideal S8192x8 .f32) (z : FVec Ideal S8192x4 .f32) (q : Fin 8192) (l : Fin 128) :
    tCos s z (ix3 1 q l) = cosLane 4 32 (tab z q) l.val := by
  unfold tCos cosLane
  refine (both_second _ _ _ _).trans (lay32_at _ _ _ q (tab z q) (tab z q) 1 (fun l h => tab_at z q ⟨l, h⟩) (fun l h => tab_at z q ⟨l, h⟩) (fun l h => ?_) l)
  pointwise

theorem tFirst_first (s : FVec Ideal S8192x8 .f32) (z : FVec Ideal S8192x4 .f32) (q : Fin 8192) (l : Fin 128) :
    tFirst s z (ix3 0 q l) = sinFirst 8 64 (tab s q) l.val := by
  unfold tFirst sinFirst
  refine (both_first _ _ _ _).trans ((lay64_at _ _ _ q (fun l => -(tab s q l)) (fun _ => 0) 0 (fun l h => ?_) (fun l h => ?_) (fun l h => ?_) l).trans ?_)
  · pointwise
    exact congrArg (fun u : EReal => -u) (tab_at s q ⟨l, h⟩)
  · pointwise
  · pointwise
  · rw [ite_self]

theorem tFirst_second (s : FVec Ideal S8192x8 .f32) (z : FVec Ideal S8192x4 .f32) (q : Fin 8192) (l : Fin 128) :
    tFirst s z (ix3 1 q l) = sinFirst 4 32 (tab z q) l.val := by
  unfold tFirst sinFirst
  refine (both_second _ _ _ _).trans ((lay32_at _ _ _ q (fun l => -(tab z q l)) (fun _ => 0) 0 (fun l h => ?_) (fun l h => ?_) (fun l h => ?_) l).trans ?_)
  · pointwise
    exact congrArg (fun u : EReal => -u) (tab_at z q ⟨l, h⟩)
  · pointwise
  · pointwise
  · rw [ite_self]

theorem tSecond_first (s : FVec Ideal S8192x8 .f32) (z : FVec Ideal S8192x4 .f32) (q : Fin 8192) (l : Fin 128) :
    tSecond s z (ix3 0 q l) = sinSecond 8 64 (tab s q) l.val := by
  unfold tSecond sinSecond
  refine (both_first _ _ _ _).trans (lay64_at _ _ _ q (fun _ => 0) (tab s q) 0 (fun l h => ?_) (fun l h => tab_at s q ⟨l, h⟩) (fun l h => ?_) l)
  · pointwise
  · pointwise

theorem tSecond_second (s : FVec Ideal S8192x8 .f32) (z : FVec Ideal S8192x4 .f32) (q : Fin 8192) (l : Fin 128) :
    tSecond s z (ix3 1 q l) = sinSecond 4 32 (tab z q) l.val := by
  unfold tSecond sinSecond
  refine (both_second _ _ _ _).trans (lay32_at _ _ _ q (fun _ => 0) (tab z q) 0 (fun l h => ?_) (fun l h => tab_at z q ⟨l, h⟩) (fun l h => ?_) l)
  · pointwise
  · pointwise

/-- The call's argument arrays. -/
abbrev a0 (c : Dev nD) : FVec Ideal S8x8192x1024 .f32 := m ((c.tc : Thread nD τ).loc main_arg0)
@[inherit_doc a0]
abbrev a1 (c : Dev nD) : FVec Ideal S1024x4536 .f32 := m ((c.tc : Thread nD τ).loc main_arg1)
@[inherit_doc a0]
abbrev a2 (c : Dev nD) : FVec Ideal S16x256 .f32 := m ((c.tc : Thread nD τ).loc main_arg2)
@[inherit_doc a0]
abbrev a3 (c : Dev nD) : FVec Ideal S256 .f32 := m ((c.tc : Thread nD τ).loc main_arg3)
@[inherit_doc a0]
abbrev a4 (c : Dev nD) : FVec Ideal S8192x8 .f32 := m ((c.tc : Thread nD τ).loc main_arg4)
@[inherit_doc a0]
abbrev a5 (c : Dev nD) : FVec Ideal S8192x8 .f32 := m ((c.tc : Thread nD τ).loc main_arg5)
@[inherit_doc a0]
abbrev a6 (c : Dev nD) : FVec Ideal S8192x4 .f32 := m ((c.tc : Thread nD τ).loc main_arg6)
@[inherit_doc a0]
abbrev a7 (c : Dev nD) : FVec Ideal S8192x4 .f32 := m ((c.tc : Thread nD τ).loc main_arg7)

theorem wGla_eq (c : Dev nD) : V m c main_v12 = wGla (a1 m c) := by
  entry_read
  rfl

theorem wGate_eq (c : Dev nD) : V m c main_v14 = wGate (a1 m c) := by
  entry_read
  rfl

theorem wGate2_eq (c : Dev nD) : V m c main_v16 = wGate2 (a2 m c) := by
  entry_read
  rfl

theorem bias_eq (c : Dev nD) : V m c main_v17 = shapeCast S1x256 (a3 m c) shapeCasts_S256_S1x256 := by
  entry_read
  rfl

theorem wDq_eq (c : Dev nD) : V m c main_v18 = wDq (a1 m c) := by
  entry_read
  rfl

theorem wDkv_eq (c : Dev nD) : V m c main_v20 = wDkv (a1 m c) := by
  entry_read
  rfl

theorem wIq_eq (c : Dev nD) : V m c main_v21 = wIq (a1 m c) := by
  entry_read
  rfl

theorem wIk_eq (c : Dev nD) : V m c main_v23 = wIk (a1 m c) := by
  entry_read
  rfl

theorem wIw_eq (c : Dev nD) : V m c main_v25 = wIw (a1 m c) := by
  entry_read
  rfl

theorem tCos_eq (c : Dev nD) : V m c main_v46 = tCos (a4 m c) (a6 m c) := by
  entry_read
  rfl

theorem tFirst_eq (c : Dev nD) : V m c main_v49 = tFirst (a5 m c) (a7 m c) := by
  entry_read
  rfl

theorem tSecond_eq (c : Dev nD) : V m c main_v52 = tSecond (a5 m c) (a7 m c) := by
  entry_read
  rfl

end Cert.ProjIdeal.Pure

end
-- ==== Proof.ProjRows.lean ====
/- The input projection's blocks at a grid point, entry by entry, in the arguments. -/
module

public import proofs.«01_k».proof.Proof.ProjBlocks

@[expose] public section

set_option maxRecDepth 16384
noncomputable section

open Idealize.ShloMosaic Idealize.ShloMosaic.TcCoe Idealize.SL.Sem
open scoped BigOperators

namespace Cert.ProjIdeal.Pure
open Cert.ProjIdeal Cert.ProjIdeal.Gen Cert.ProjIdeal.Point
open Cert.ProjRefIdeal.Pure (col tab tab_at)

variable (m : (ℓ : Loc nD τ sig) → Buf (Elt Ideal) ℓ)

/-- The blocks at a point, entry by entry. -/
theorem x_block (c : Dev nD) (t : Fin cfg0.N) (r : Fin 512) (k : Fin 1024) :
    iblk m c 0 t (ix3 0 r k : S1x512x1024.Idx) = a0 m c (ix3 (batch t) (place t r) k) := by
  blk_point [iblk, V, idx t, batch, place]

@[inherit_doc x_block]
theorem wGla_block (c : Dev nD) (t : Fin cfg0.N) (k : Fin 1024) (n : Fin 1536) :
    iblk m c 1 t (ix2 k n : S1024x1536.Idx) = wcol (a1 m c) k (if n.val < 1024 then n.val else n.val + 16) := by
  refine Eq.trans ?_ ((congrFun (wGla_eq m c) (ix2 k n)).trans (wGla_at (a1 m c) k n))
  blk_point [iblk, idx t]

@[inherit_doc x_block]
theorem wGate_block (c : Dev nD) (t : Fin cfg0.N) (k : Fin 1024) (s : Fin 128) :
    iblk m c 2 t (ix2 k s : S1024x128.Idx) = if s.val < 16 then wcol (a1 m c) k (1024 + s.val) else 0 := by
  refine Eq.trans ?_ ((congrFun (wGate_eq m c) (ix2 k s)).trans (wGate_at (a1 m c) k s))
  blk_point [iblk, idx t]

@[inherit_doc x_block]
theorem wGate2_block (c : Dev nD) (t : Fin cfg0.N) (s : Fin 128) (n : Fin 256) :
    iblk m c 3 t (ix2 s n : S128x256.Idx) = if h : s.val < 16 then a2 m c (ix2 ⟨s.val, h⟩ n) else 0 := by
  refine Eq.trans ?_ ((congrFun (wGate2_eq m c) (ix2 s n)).trans (wGate2_at (a2 m c) s n))
  blk_point [iblk, idx t]

theorem bias_at (b : FVec Ideal S256 .f32) (n : Fin 256) : shapeCast S1x256 b shapeCasts_S256_S1x256 (ix2 0 n) = b (ix1 n) := by
  pointwise

@[inherit_doc x_block]
theorem bias_block (c : Dev nD) (t : Fin cfg0.N) (n : Fin 256) : iblk m c 4 t (ix2 0 n : S1x256.Idx) = a3 m c (ix1 n) := by
  refine Eq.trans ?_ ((congrFun (bias_eq m c) (ix2 0 n)).trans (bias_at (a3 m c) n))
  blk_point [iblk, idx t]

@[inherit_doc x_block]
theorem wDq_block (c : Dev nD) (t : Fin cfg0.N) (k : Fin 1024) (n : Fin 512) :
    iblk m c 5 t (ix2 k n : S1024x512.Idx) = wcol (a1 m c) k (1552 + n.val) := by
  refine Eq.trans ?_ ((congrFun (wDq_eq m c) (ix2 k n)).trans (wDq_at (a1 m c) k n))
  blk_point [iblk, idx t]

@[inherit_doc x_block]
theorem wDkv_block (c : Dev nD) (t : Fin cfg0.N) (k : Fin 1024) (n : Fin 128) :
    iblk m c 6 t (ix2 k n : S1024x128.Idx) = wcol (a1 m c) k (2064 + n.val) := by
  refine Eq.trans ?_ ((congrFun (wDkv_eq m c) (ix2 k n)).trans (wDkv_at (a1 m c) k n))
  blk_point [iblk, idx t]

@[inherit_doc x_block]
theorem wIq_block (c : Dev nD) (t : Fin cfg0.N) (k : Fin 1024) (n : Fin 256) :
    iblk m c 7 t (ix2 k n : S1024x256.Idx) = wcol (a1 m c) k (2192 + n.val) := by
  refine Eq.trans ?_ ((congrFun (wIq_eq m c) (ix2 k n)).trans (wIq_at (a1 m c) k n))
  blk_point [iblk, idx t]

@[inherit_doc x_block]
theorem wIk_block (c : Dev nD) (t : Fin cfg0.N) (k : Fin 1024) (n : Fin 128) :
    iblk m c 8 t (ix2 k n : S1024x128.Idx) = if n.val < 32 then wcol (a1 m c) k (2448 + n.val) else 0 := by
  refine Eq.trans ?_ ((congrFun (wIk_eq m c) (ix2 k n)).trans (wIk_at (a1 m c) k n))
  blk_point [iblk, idx t]

@[inherit_doc x_block]
theorem wIw_block (c : Dev nD) (t : Fin cfg0.N) (k : Fin 1024) (n : Fin 128) :
    iblk m c 9 t (ix2 k n : S1024x128.Idx) = if n.val < 8 then wcol (a1 m c) k (2480 + n.val) else 0 := by
  refine Eq.trans ?_ ((congrFun (wIw_eq m c) (ix2 k n)).trans (wIw_at (a1 m c) k n))
  blk_point [iblk, idx t]

/-- The planes of the tables' blocks. -/
abbrev plane0 (T : FVec Ideal S2x512x128 .f32) : FVec Ideal S1x512x128 .f32 :=
  View.ld (Val := Elt Ideal) (S := S2x512x128) (e' := .f32) T (Rect.unit ![0, 0, 0] ![1, 512, 128] inb_S2x512x128_S1x512x128_0_0_0)
@[inherit_doc plane0]
abbrev plane1 (T : FVec Ideal S2x512x128 .f32) : FVec Ideal S1x512x128 .f32 :=
  View.ld (Val := Elt Ideal) (S := S2x512x128) (e' := .f32) T (Rect.unit ![1, 0, 0] ![1, 512, 128] inb_S2x512x128_S1x512x128_1_0_0)

theorem plane0_at (T : FVec Ideal S2x512x128 .f32) (r : Fin 512) (l : Fin 128) : plane0 T (ix3 0 r l) = T (ix3 0 r l) := by
  refine View.ld_unit_apply_of (Val := Elt Ideal) (S := S2x512x128) (e := .f32) T ![0, 0, 0] ![1, 512, 128] inb_S2x512x128_S1x512x128_0_0_0 (ix3 0 r l : S1x512x128.Idx) (ix3 0 r l) fun a => ?_
  fin_cases a
  · rfl
  · exact (Nat.zero_add _).symm
  · exact (Nat.zero_add _).symm

theorem plane1_at (T : FVec Ideal S2x512x128 .f32) (r : Fin 512) (l : Fin 128) : plane1 T (ix3 0 r l) = T (ix3 1 r l) := by
  refine View.ld_unit_apply_of (Val := Elt Ideal) (S := S2x512x128) (e := .f32) T ![1, 0, 0] ![1, 512, 128] inb_S2x512x128_S1x512x128_1_0_0 (ix3 0 r l : S1x512x128.Idx) (ix3 1 r l) fun a => ?_
  fin_cases a
  · rfl
  · exact (Nat.zero_add _).symm
  · exact (Nat.zero_add _).symm

@[inherit_doc x_block]
theorem cos_block (c : Dev nD) (t : Fin cfg0.N) (r : Fin 512) (l : Fin 128) :
    plane0 (iblk m c 10 t) (ix3 0 r l) = cosLane 8 64 (tab (a4 m c) (place t r)) l.val := by
  refine (plane0_at _ r l).trans (Eq.trans ?_ ((congrFun (tCos_eq m c) (ix3 0 (place t r) l)).trans (tCos_first (a4 m c) (a6 m c) (place t r) l)))
  blk_point [iblk, idx t, place]

@[inherit_doc x_block]
theorem cos_block' (c : Dev nD) (t : Fin cfg0.N) (r : Fin 512) (l : Fin 128) :
    plane1 (iblk m c 10 t) (ix3 0 r l) = cosLane 4 32 (tab (a6 m c) (place t r)) l.val := by
  refine (plane1_at _ r l).trans (Eq.trans ?_ ((congrFun (tCos_eq m c) (ix3 1 (place t r) l)).trans (tCos_second (a4 m c) (a6 m c) (place t r) l)))
  blk_point [iblk, idx t, place]

@[inherit_doc x_block]
theorem first_block (c : Dev nD) (t : Fin cfg0.N) (r : Fin 512) (l : Fin 128) :
    plane0 (iblk m c 11 t) (ix3 0 r l) = sinFirst 8 64 (tab (a5 m c) (place t r)) l.val := by
  refine (plane0_at _ r l).trans (Eq.trans ?_ ((congrFun (tFirst_eq m c) (ix3 0 (place t r) l)).trans (tFirst_first (a5 m c) (a7 m c) (place t r) l)))
  blk_point [iblk, idx t, place]

@[inherit_doc x_block]
theorem first_block' (c : Dev nD) (t : Fin cfg0.N) (r : Fin 512) (l : Fin 128) :
    plane1 (iblk m c 11 t) (ix3 0 r l) = sinFirst 4 32 (tab (a7 m c) (place t r)) l.val := by
  refine (plane1_at _ r l).trans (Eq.trans ?_ ((congrFun (tFirst_eq m c) (ix3 1 (place t r) l)).trans (tFirst_second (a5 m c) (a7 m c) (place t r) l)))
  blk_point [iblk, idx t, place]

@[inherit_doc x_block]
theorem second_block (c : Dev nD) (t : Fin cfg0.N) (r : Fin 512) (l : Fin 128) :
    plane0 (iblk m c 12 t) (ix3 0 r l) = sinSecond 8 64 (tab (a5 m c) (place t r)) l.val := by
  refine (plane0_at _ r l).trans (Eq.trans ?_ ((congrFun (tSecond_eq m c) (ix3 0 (place t r) l)).trans (tSecond_first (a5 m c) (a7 m c) (place t r) l)))
  blk_point [iblk, idx t, place]

@[inherit_doc x_block]
theorem second_block' (c : Dev nD) (t : Fin cfg0.N) (r : Fin 512) (l : Fin 128) :
    plane1 (iblk m c 12 t) (ix3 0 r l) = sinSecond 4 32 (tab (a7 m c) (place t r)) l.val := by
  refine (plane1_at _ r l).trans (Eq.trans ?_ ((congrFun (tSecond_eq m c) (ix3 1 (place t r) l)).trans (tSecond_second (a5 m c) (a7 m c) (place t r) l)))
  blk_point [iblk, idx t, place]

end Cert.ProjIdeal.Pure

end
-- ==== Proof.ProjEntries.lean ====
/- The input projection's stored entries, from the blocks' entries: each is the reference's entry. -/
module

public import proofs.«01_k».proof.Proof.ProjBlocks

@[expose] public section

set_option maxRecDepth 16384
noncomputable section

open Idealize.ShloMosaic Idealize.ShloMosaic.TcCoe Idealize.SL.Sem
open scoped BigOperators

namespace Cert.ProjIdeal.Entries
open Cert.ProjIdeal Cert.ProjIdeal.Gen Cert.ProjIdeal.Point Cert.ProjIdeal.Pure
open Cert.ProjRefIdeal.Pure (col tab turned decay gla gla_at gate gate_at logits logits_at dq dq_at kv kv_at iq iq_at ik ik_at iw iw_at)

/-- 128 lanes cut from a row. -/
theorem cut512 (Y : FVec Ideal S512x512 .f32) (o : ℕ) (ho : o + 128 ≤ 512) (h : S512x512.Slices ![0, o] S512x128) (r : Fin 512) (l : Fin 128) :
    extractStridedSlice S512x128 ![0, o] Y h (ix2 r l) = Y (ix2 r ⟨o + l.val, by have := l.isLt; omega⟩) := by
  unfold extractStridedSlice
  refine congrArg Y ?_
  idx_ext

@[inherit_doc cut512]
theorem cut256 (Y : FVec Ideal S512x256 .f32) (o : ℕ) (ho : o + 128 ≤ 256) (h : S512x256.Slices ![0, o] S512x128) (r : Fin 512) (l : Fin 128) :
    extractStridedSlice S512x128 ![0, o] Y h (ix2 r l) = Y (ix2 r ⟨o + l.val, by have := l.isLt; omega⟩) := by
  unfold extractStridedSlice
  refine congrArg Y ?_
  idx_ext

/-- A sum whose terms from the sixteenth on are 0. -/
theorem sum_first (g : Fin 128 → EReal) (h : ∀ s : Fin 128, 16 ≤ s.val → g s = 0) : ∑ s : Fin 128, g s = ∑ s : Fin 16, g ⟨s.val, by have := s.isLt; omega⟩ := by
  refine (Fin.sum_univ_add (a := 16) (b := 112) g).trans ?_
  rw [Finset.sum_eq_zero (s := (Finset.univ : Finset (Fin 112))) fun s _ => h _ (by simp), add_zero]
  rfl

/-- A row of 32 lanes followed by zeros, turned. -/
theorem turned_cut (G C S : ℕ → EReal) (n : ℕ) :
    turned 4 32 (fun l => if l < 32 then G l else 0) C S n = if n < 32 then turned 4 32 G C S n else 0 := by
  unfold turned
  dsimp only
  by_cases hn : n < 32
  · rw [if_pos hn, if_pos hn]
    by_cases h1 : n % 32 < 4
    · rw [if_pos h1, if_pos h1, if_pos (by omega)]
    · by_cases h2 : n % 32 < 2 * 4
      · rw [if_neg h1, if_neg h1, if_pos h2, if_pos h2, if_pos (by omega)]
      · rw [if_neg h1, if_neg h1, if_neg h2, if_neg h2]
  · rw [if_neg hn, if_neg hn]
    by_cases h1 : n % 32 < 4
    · rw [if_pos h1, if_neg (by omega), zero_mul, zero_mul, sub_zero]
    · by_cases h2 : n % 32 < 2 * 4
      · rw [if_neg h1, if_pos h2, if_neg (by omega), zero_mul, zero_mul, add_zero]
      · rw [if_neg h1, if_neg h2]

variable (A : FVec Ideal S8x8192x1024 .f32) (W : FVec Ideal S1024x4536 .f32) (i : Fin 8) (q : Fin 8192) (x : FVec Ideal S1x512x1024 .f32) (r : Fin 512)

/-- A block's row against a column is the hidden array's entry. -/
theorem row_col (hx : ∀ k : Fin 1024, x (ix3 0 r k) = A (ix3 i q k)) (g : Fin 1024 → EReal) (N : ℕ) (hg : ∀ k, g k = wcol W k N) :
    ∑ k : Fin 1024, x (ix3 0 r k) * g k = col A W i q N := by
  refine Eq.trans (Finset.sum_congr rfl fun k _ => ?_) (wcol_sum A W i q N)
  rw [hx, hg]

/-- Against a column of zeros it is 0. -/
theorem row_zero (g : Fin 1024 → EReal) (hg : ∀ k, g k = 0) : ∑ k : Fin 1024, x (ix3 0 r k) * g k = 0 :=
  Finset.sum_eq_zero fun k _ => by rw [hg, mul_zero]

theorem gla_first (hx : ∀ k : Fin 1024, x (ix3 0 r k) = A (ix3 i q k)) (w : FVec Ideal S1024x1536 .bf16)
    (hw : ∀ (k : Fin 1024) (n : Fin 1536), w (ix2 k n) = wcol W k (if n.val < 1024 then n.val else n.val + 16)) (n : Fin 256) :
    k0_pay5 (F := Ideal) x w (ix3 0 r n) = gla A W (ix3 i q ⟨n.val, by have := n.isLt; omega⟩) := by
  have hn := n.isLt
  rw [pay5_at, gla_at, if_pos hn]
  exact congrArg (fun u : EReal => u * _) (row_col A W i q x r hx _ _ fun k => (hw k _).trans (congrArg (wcol W k) (if_pos (by dsimp only; omega))))

theorem gla_rest (hx : ∀ k : Fin 1024, x (ix3 0 r k) = A (ix3 i q k)) (w : FVec Ideal S1024x1536 .bf16)
    (hw : ∀ (k : Fin 1024) (n : Fin 1536), w (ix2 k n) = wcol W k (if n.val < 1024 then n.val else n.val + 16)) (n : Fin 1280) :
    k0_pay6 (F := Ideal) x w (ix3 0 r n) = gla A W (ix3 i q ⟨256 + n.val, by have := n.isLt; omega⟩) := by
  rw [pay6_at, gla_at, if_neg (by dsimp only; omega), row_col A W i q x r hx _ _ fun k => hw k _]
  dsimp only
  split <;> rfl

theorem gate_entry (hx : ∀ k : Fin 1024, x (ix3 0 r k) = A (ix3 i q k)) (wg : FVec Ideal S1024x128 .bf16) (wa : FVec Ideal S128x256 .bf16) (b : FVec Ideal S1x256 .f32)
    (a2 : FVec Ideal S16x256 .f32) (a3 : FVec Ideal S256 .f32) (hg : ∀ (k : Fin 1024) (s : Fin 128), wg (ix2 k s) = if s.val < 16 then wcol W k (1024 + s.val) else 0)
    (ha : ∀ (s : Fin 128) (n : Fin 256), wa (ix2 s n) = if h : s.val < 16 then a2 (ix2 ⟨s.val, h⟩ n) else 0) (hb : ∀ n : Fin 256, b (ix2 0 n) = a3 (ix1 n)) (n : Fin 256) :
    k0_pay11 (F := Ideal) (k0_pay8 x wg wa b) (k0_pay9 x wg wa b) k0_pay10 (ix3 0 r n) = gate (logits A W a2 a3) (ix3 i q n) := by
  rw [pay11_at, gate_at, logits_at, hb]
  refine congrArg (fun u : EReal => decay (u + _)) ?_
  rw [sum_first]
  · refine Finset.sum_congr rfl fun s _ => ?_
    refine congrArg₂ (fun u v : EReal => u * v) (row_col A W i q x r hx _ _ fun k => (hg k _).trans (if_pos s.isLt)) ((ha _ n).trans (dif_pos s.isLt))
  · intro s hs
    rw [ha, dif_neg (by omega), mul_zero]

section turns
variable (C S : FVec Ideal S8192x8 .f32) (c a b : FVec Ideal S1x512x128 .f32)

/-- A block's rows, turned. -/
theorem turn64 (hc : ∀ l : Fin 128, c (ix3 0 r l) = cosLane 8 64 (tab C q) l.val) (ha : ∀ l : Fin 128, a (ix3 0 r l) = sinFirst 8 64 (tab S q) l.val)
    (hb : ∀ l : Fin 128, b (ix3 0 r l) = sinSecond 8 64 (tab S q) l.val) (f : FVec Ideal S512x128 .f32) (F : ℕ → EReal) (hf : ∀ l : Fin 128, f (ix2 r l) = F l.val) (l : Fin 128) :
    rot64 f (k0_pay12 c) (k0_pay13 a) (k0_pay14 b) (ix2 r l) = turned 8 64 F (tab C q) (tab S q) l.val :=
  rot64_turned _ _ _ _ F (tab C q) (tab S q) r hf (fun l => (pay12_at c r l).trans (hc l)) (fun l => (pay12_at a r l).trans (ha l)) (fun l => (pay12_at b r l).trans (hb l)) l

theorem dq_entry (hx : ∀ k : Fin 1024, x (ix3 0 r k) = A (ix3 i q k)) (hc : ∀ l : Fin 128, c (ix3 0 r l) = cosLane 8 64 (tab C q) l.val)
    (ha : ∀ l : Fin 128, a (ix3 0 r l) = sinFirst 8 64 (tab S q) l.val) (hb : ∀ l : Fin 128, b (ix3 0 r l) = sinSecond 8 64 (tab S q) l.val)
    (w : FVec Ideal S1024x512 .bf16) (hw : ∀ (k : Fin 1024) (n : Fin 512), w (ix2 k n) = wcol W k (1552 + n.val)) (n : Fin 512) :
    k0_pay20 (F := Ideal) (k0_pay12 c) (k0_pay13 a) (k0_pay14 b) (k0_pay18 (k0_pay3 x) w) (k0_pay19 (k0_pay3 x) c a b w) (ix3 0 r n) = dq A W C S (ix3 i q n) := by
  rw [pay20_eq, dq_at]
  have hF : ∀ n : Fin 512, k0_pay18 (F := Ideal) (k0_pay3 x) w (ix2 r n) = col A W i q (1552 + n.val) := fun n =>
    (rows512_at x w r n).trans (row_col A W i q x r hx _ _ fun k => hw k n)
  have hT : ∀ (o : ℕ) (ho : o + 128 ≤ 512) (h0 : o % 64 = 0) (h : S512x512.Slices ![0, o] S512x128) (l : Fin 128),
      rot64 (extractStridedSlice S512x128 ![0, o] (k0_pay18 (F := Ideal) (k0_pay3 x) w) h) (k0_pay12 c) (k0_pay13 a) (k0_pay14 b) (ix2 r l)
        = turned 8 64 (fun n => col A W i q (1552 + n)) (tab C q) (tab S q) (o + l.val) := fun o ho h0 h l =>
    (turn64 q r C S c a b hc ha hb _ (fun l => col A W i q (1552 + (o + l))) (fun l => (cut512 _ o ho h r l).trans (hF _)) l).trans
      (turned_from64 (fun n => col A W i q (1552 + n)) (tab C q) (tab S q) o l.val h0)
  exact wide_at _ _ _ _ _ r (fun l => (hT 0 (by omega) (by omega) _ l).trans (congrArg _ (Nat.zero_add _))) (hT 128 (by omega) (by omega) _)
    (hT 256 (by omega) (by omega) _) (hT 384 (by omega) (by omega) _) n

/-- The selected entry of keys and values. -/
theorem kv_entry (hx : ∀ k : Fin 1024, x (ix3 0 r k) = A (ix3 i q k)) (hc : ∀ l : Fin 128, c (ix3 0 r l) = cosLane 8 64 (tab C q) l.val)
    (ha : ∀ l : Fin 128, a (ix3 0 r l) = sinFirst 8 64 (tab S q) l.val) (hb : ∀ l : Fin 128, b (ix3 0 r l) = sinSecond 8 64 (tab S q) l.val)
    (w : FVec Ideal S1024x128 .bf16) (hw : ∀ (k : Fin 1024) (n : Fin 128), w (ix2 k n) = wcol W k (2064 + n.val)) (n : Fin 128) :
    (if n.val < 64 then k0_pay22 (F := Ideal) (k0_pay3 x) (k0_pay12 c) (k0_pay13 a) (k0_pay14 b) w (ix2 r n) else k0_pay21 (F := Ideal) (k0_pay3 x) w (ix2 r n))
      = kv A W C S (ix3 i q n) := by
  have hF : ∀ n : Fin 128, k0_pay21 (F := Ideal) (k0_pay3 x) w (ix2 r n) = col A W i q (2064 + n.val) := fun n =>
    (rows128_at x w r n).trans (row_col A W i q x r hx _ _ fun k => hw k n)
  rw [kv_at, pay22_eq]
  by_cases h : n.val < 64
  · rw [if_pos h, if_pos h]
    exact turn64 q r C S c a b hc ha hb _ (fun n => col A W i q (2064 + n)) hF n
  · rw [if_neg h, if_neg h, hF]

end turns

section turns
variable (C S : FVec Ideal S8192x4 .f32) (c a b : FVec Ideal S1x512x128 .f32)

@[inherit_doc turn64]
theorem turn32 (hc : ∀ l : Fin 128, c (ix3 0 r l) = cosLane 4 32 (tab C q) l.val) (ha : ∀ l : Fin 128, a (ix3 0 r l) = sinFirst 4 32 (tab S q) l.val)
    (hb : ∀ l : Fin 128, b (ix3 0 r l) = sinSecond 4 32 (tab S q) l.val) (f : FVec Ideal S512x128 .f32) (F : ℕ → EReal) (hf : ∀ l : Fin 128, f (ix2 r l) = F l.val) (l : Fin 128) :
    rot32 f (k0_pay15 c) (k0_pay16 a) (k0_pay17 b) (ix2 r l) = turned 4 32 F (tab C q) (tab S q) l.val :=
  rot32_turned _ _ _ _ F (tab C q) (tab S q) r hf (fun l => (pay12_at c r l).trans (hc l)) (fun l => (pay12_at a r l).trans (ha l)) (fun l => (pay12_at b r l).trans (hb l)) l

theorem iq_entry (hx : ∀ k : Fin 1024, x (ix3 0 r k) = A (ix3 i q k)) (hc : ∀ l : Fin 128, c (ix3 0 r l) = cosLane 4 32 (tab C q) l.val)
    (ha : ∀ l : Fin 128, a (ix3 0 r l) = sinFirst 4 32 (tab S q) l.val) (hb : ∀ l : Fin 128, b (ix3 0 r l) = sinSecond 4 32 (tab S q) l.val)
    (w : FVec Ideal S1024x256 .bf16) (hw : ∀ (k : Fin 1024) (n : Fin 256), w (ix2 k n) = wcol W k (2192 + n.val)) (n : Fin 256) :
    k0_pay27 (F := Ideal) (k0_pay3 x) (k0_pay15 c) (k0_pay16 a) (k0_pay17 b) w (ix3 0 r n) = iq A W C S (ix3 i q n) := by
  rw [pay27_eq, iq_at]
  have hF : ∀ n : Fin 256, rows256 x w (ix2 r n) = col A W i q (2192 + n.val) := fun n =>
    (rows256_at x w r n).trans (row_col A W i q x r hx _ _ fun k => hw k n)
  have hT : ∀ (o : ℕ) (ho : o + 128 ≤ 256) (h0 : o % 32 = 0) (h : S512x256.Slices ![0, o] S512x128) (l : Fin 128),
      rot32 (extractStridedSlice S512x128 ![0, o] (rows256 x w) h) (k0_pay15 c) (k0_pay16 a) (k0_pay17 b) (ix2 r l)
        = turned 4 32 (fun n => col A W i q (2192 + n)) (tab C q) (tab S q) (o + l.val) := fun o ho h0 h l =>
    (turn32 q r C S c a b hc ha hb _ (fun l => col A W i q (2192 + (o + l))) (fun l => (cut256 _ o ho h r l).trans (hF _)) l).trans
      (turned_from32 (fun n => col A W i q (2192 + n)) (tab C q) (tab S q) o l.val h0)
  exact pair_at _ _ _ r (fun l => (hT 0 (by omega) (by omega) _ l).trans (congrArg _ (Nat.zero_add _))) (hT 128 (by omega) (by omega) _) n

theorem ik_entry (hx : ∀ k : Fin 1024, x (ix3 0 r k) = A (ix3 i q k)) (hc : ∀ l : Fin 128, c (ix3 0 r l) = cosLane 4 32 (tab C q) l.val)
    (ha : ∀ l : Fin 128, a (ix3 0 r l) = sinFirst 4 32 (tab S q) l.val) (hb : ∀ l : Fin 128, b (ix3 0 r l) = sinSecond 4 32 (tab S q) l.val)
    (w : FVec Ideal S1024x128 .bf16) (hw : ∀ (k : Fin 1024) (n : Fin 128), w (ix2 k n) = if n.val < 32 then wcol W k (2448 + n.val) else 0) (n : Fin 128) :
    k0_pay1 (F := Ideal) (k0_pay3 x) (k0_pay15 c) (k0_pay16 a) (k0_pay17 b) (k0_pay28 w) (constant S512x128 .f32 0x00000000#32) (ix3 0 r n) = ik A W C S (ix3 i q n) := by
  rw [pay1_at, ik_at]
  have hF : ∀ n : Fin 128, k0_pay21 (F := Ideal) (k0_pay3 x) w (ix2 r n) = if n.val < 32 then col A W i q (2448 + n.val) else 0 := by
    intro n
    refine (rows128_at x w r n).trans ?_
    by_cases h : n.val < 32
    · rw [if_pos h]
      exact row_col A W i q x r hx _ _ fun k => (hw k n).trans (if_pos h)
    · rw [if_neg h]
      exact row_zero x r _ fun k => (hw k n).trans (if_neg h)
  exact (turn32 q r C S c a b hc ha hb _ (fun l => if l < 32 then col A W i q (2448 + l) else 0) hF n).trans
    (turned_cut (fun l => col A W i q (2448 + l)) (tab C q) (tab S q) n.val)

end turns

theorem iw_entry (hx : ∀ k : Fin 1024, x (ix3 0 r k) = A (ix3 i q k))
    (w : FVec Ideal S1024x128 .bf16) (hw : ∀ (k : Fin 1024) (n : Fin 128), w (ix2 k n) = if n.val < 8 then wcol W k (2480 + n.val) else 0) (n : Fin 128) :
    k0_pay2 (F := Ideal) (k0_pay3 x) w (ix3 0 r n) = iw A W (ix3 i q n) := by
  rw [pay2_at, iw_at]
  by_cases h : n.val < 8
  · rw [if_pos h]
    exact congrArg (fun u : EReal => u * _) (row_col A W i q x r hx _ _ fun k => (hw k n).trans (if_pos h))
  · rw [if_neg h, row_zero x r _ fun k => (hw k n).trans (if_neg h), zero_mul]

end Cert.ProjIdeal.Entries

end
-- ==== Proof.ProjValue.lean ====
/- The input projection's eight result arrays after the run, at the ideal instance: the reference's. -/
module

public import proofs.«01_k».proof.Proof.ProjRows
public import proofs.«01_k».proof.Proof.ProjEntries
public import proofs.«01_k».proof.Proof.FfnBody

@[expose] public section

set_option maxRecDepth 16384
noncomputable section

open Idealize.ShloMosaic Idealize.ShloMosaic.TcCoe Idealize.SL.Sem
open scoped BigOperators

namespace Cert.ProjIdeal.Pure
open Cert.ProjIdeal Cert.ProjIdeal.Gen Cert.ProjIdeal.Point Cert.ProjIdeal.Entries
open Cert.ProjRefIdeal.Pure (gla gate logits dq kv dkv dkv_at dkvt dkvt_at iq ik iw)

variable (m : (ℓ : Loc nD τ sig) → Buf (Elt Ideal) ℓ)

/-- What a point stores in each result is the reference's at the block's place. -/
theorem gla_stored (c : Dev nD) (t : Fin cfg0.N) (r : Fin 512) (n : Fin 1536) :
    (outsAt0 m c t).1 (ix3 0 r n : S1x512x1536.Idx) = gla (a0 m c) (a1 m c) (ix3 (batch t) (place t r) n) := by
  unfold outsAt0
  dsimp only
  frame_out
  have hn := n.isLt
  by_cases h : n.val < 256
  · refine (Cert.Pieces.canon_miss _ _ _ _ _ _ 2 (Or.inl h)).trans ?_
    refine (Cert.Pieces.canon_hit _ _ _ _ _ _ (ix3 0 r ⟨n.val, h⟩ : S1x512x256.Idx) fun a => ?_).trans ?_
    · fin_cases a
      · rfl
      · exact (Nat.zero_add _).symm
      · exact (Nat.zero_add _).symm
    · exact gla_first (a0 m c) (a1 m c) (batch t) (place t r) (iblk m c 0 t) r (x_block m c t r) _ (wGla_block m c t) ⟨n.val, h⟩
  · refine (Cert.Pieces.canon_hit _ _ _ _ _ _ (ix3 0 r ⟨n.val - 256, by omega⟩ : S1x512x1280.Idx) fun a => ?_).trans ?_
    · fin_cases a
      · rfl
      · exact (Nat.zero_add _).symm
      · show n.val = 256 + (n.val - 256)
        omega
    · refine (gla_rest (a0 m c) (a1 m c) (batch t) (place t r) (iblk m c 0 t) r (x_block m c t r) _ (wGla_block m c t) ⟨n.val - 256, by omega⟩).trans ?_
      exact congrArg (fun u => gla (a0 m c) (a1 m c) (ix3 (batch t) (place t r) u)) (Fin.ext (by dsimp only; omega))

@[inherit_doc gla_stored]
theorem gate_stored (c : Dev nD) (t : Fin cfg0.N) (r : Fin 512) (n : Fin 256) :
    (outsAt0 m c t).2.1 (ix3 0 r n : S1x512x256.Idx) = gate (logits (a0 m c) (a1 m c) (a2 m c) (a3 m c)) (ix3 (batch t) (place t r) n) := by
  unfold outsAt0
  dsimp only
  frame_out
  exact gate_entry (a0 m c) (a1 m c) (batch t) (place t r) (iblk m c 0 t) r (x_block m c t r) _ _ _ _ _ (wGate_block m c t) (wGate2_block m c t) (bias_block m c t) n

@[inherit_doc gla_stored]
theorem dq_stored (c : Dev nD) (t : Fin cfg0.N) (r : Fin 512) (n : Fin 512) :
    (outsAt0 m c t).2.2.1 (ix3 0 r n : S1x512x512.Idx) = dq (a0 m c) (a1 m c) (a4 m c) (a5 m c) (ix3 (batch t) (place t r) n) := by
  unfold outsAt0
  dsimp only
  frame_out
  exact dq_entry (a0 m c) (a1 m c) (batch t) (place t r) (iblk m c 0 t) r (a4 m c) (a5 m c) _ _ _ (x_block m c t r) (cos_block m c t r) (first_block m c t r) (second_block m c t r) _ (wDq_block m c t) n

@[inherit_doc gla_stored]
theorem dkv_stored (c : Dev nD) (t : Fin cfg0.N) (r : Fin 512) (n : Fin 128) :
    (outsAt0 m c t).2.2.2.1 (ix3 0 r n : S1x512x128.Idx) = dkv (a0 m c) (a1 m c) (a4 m c) (a5 m c) (ix3 (batch t) (place t r) n) := by
  refine Eq.trans ?_ (dkv_at _ _ _ _ _ _ _).symm
  unfold outsAt0
  dsimp only
  frame_out
  exact (pay25_at _ _ r n).trans (kv_entry (a0 m c) (a1 m c) (batch t) (place t r) (iblk m c 0 t) r (a4 m c) (a5 m c) _ _ _ (x_block m c t r) (cos_block m c t r) (first_block m c t r) (second_block m c t r) _ (wDkv_block m c t) n)

@[inherit_doc gla_stored]
theorem dkvt_stored (c : Dev nD) (t : Fin cfg0.N) (r : Fin 512) (n : Fin 128) :
    (outsAt0 m c t).2.2.2.2.1 (ix4 0 0 n r : S1x1x128x512.Idx) = dkvt (a0 m c) (a1 m c) (a4 m c) (a5 m c) (ix4 (batch t) (tile t) n r) := by
  refine Eq.trans ?_ (dkvt_at _ _ _ _ _ _ _ _).symm
  unfold outsAt0
  dsimp only
  frame_out
  exact (pay26_at _ _ r n).trans (kv_entry (a0 m c) (a1 m c) (batch t) (place t r) (iblk m c 0 t) r (a4 m c) (a5 m c) _ _ _ (x_block m c t r) (cos_block m c t r) (first_block m c t r) (second_block m c t r) _ (wDkv_block m c t) n)

@[inherit_doc gla_stored]
theorem iq_stored (c : Dev nD) (t : Fin cfg0.N) (r : Fin 512) (n : Fin 256) :
    (outsAt0 m c t).2.2.2.2.2.1 (ix3 0 r n : S1x512x256.Idx) = iq (a0 m c) (a1 m c) (a6 m c) (a7 m c) (ix3 (batch t) (place t r) n) := by
  unfold outsAt0
  dsimp only
  frame_out
  exact iq_entry (a0 m c) (a1 m c) (batch t) (place t r) (iblk m c 0 t) r (a6 m c) (a7 m c) _ _ _ (x_block m c t r) (cos_block' m c t r) (first_block' m c t r) (second_block' m c t r) _ (wIq_block m c t) n

@[inherit_doc gla_stored]
theorem ik_stored (c : Dev nD) (t : Fin cfg0.N) (r : Fin 512) (n : Fin 128) :
    (outsAt0 m c t).2.2.2.2.2.2.1 (ix3 0 r n : S1x512x128.Idx) = ik (a0 m c) (a1 m c) (a6 m c) (a7 m c) (ix3 (batch t) (place t r) n) := by
  unfold outsAt0
  dsimp only
  frame_out
  exact ik_entry (a0 m c) (a1 m c) (batch t) (place t r) (iblk m c 0 t) r (a6 m c) (a7 m c) _ _ _ (x_block m c t r) (cos_block' m c t r) (first_block' m c t r) (second_block' m c t r) _ (wIk_block m c t) n

@[inherit_doc gla_stored]
theorem iw_stored (c : Dev nD) (t : Fin cfg0.N) (r : Fin 512) (n : Fin 128) :
    (outsAt0 m c t).2.2.2.2.2.2.2 (ix3 0 r n : S1x512x128.Idx) = iw (a0 m c) (a1 m c) (ix3 (batch t) (place t r) n) := by
  unfold outsAt0
  dsimp only
  frame_out
  exact iw_entry (a0 m c) (a1 m c) (batch t) (place t r) (iblk m c 0 t) r (x_block m c t r) _ (wIw_block m c t) n

/-- The result arrays after the run. -/
theorem gla_final (c : Dev nD) : (dats m 0 c).arrAt 13 (cfgs 0).N = gla (a0 m c) (a1 m c) := by
  refine (dats m 0 c).arrAt_eq_of_covers 13 _ (by decide +kernel) fun t _ y => ?_
  blk_simp
  rw [after0_13]
  have hy : y = (ix3 0 (y 1) (y 2) : S1x512x1536.Idx) := by
    refine (eq_ix3 y).trans ?_
    idx_ext
  have he : ((View.whole main_v53_0).slice (win0_13.rect t)).emb y = (ix3 (batch t) (place t (y 1)) (y 2) : S8x8192x1536.Idx) := by
    blk_ext [idx t, batch, place]
  exact (congrArg _ hy).trans ((gla_stored m c t (y 1) (y 2)).trans (congrArg _ he).symm)

@[inherit_doc gla_final]
theorem gate_final (c : Dev nD) : (dats m 0 c).arrAt 14 (cfgs 0).N = gate (logits (a0 m c) (a1 m c) (a2 m c) (a3 m c)) := by
  refine (dats m 0 c).arrAt_eq_of_covers 14 _ (by decide +kernel) fun t _ y => ?_
  blk_simp
  rw [after0_14]
  have hy : y = (ix3 0 (y 1) (y 2) : S1x512x256.Idx) := by
    refine (eq_ix3 y).trans ?_
    idx_ext
  have he : ((View.whole main_v53_1).slice (win0_14.rect t)).emb y = (ix3 (batch t) (place t (y 1)) (y 2) : S8x8192x256.Idx) := by
    blk_ext [idx t, batch, place]
  exact (congrArg _ hy).trans ((gate_stored m c t (y 1) (y 2)).trans (congrArg _ he).symm)

@[inherit_doc gla_final]
theorem dq_final (c : Dev nD) : (dats m 0 c).arrAt 15 (cfgs 0).N = dq (a0 m c) (a1 m c) (a4 m c) (a5 m c) := by
  refine (dats m 0 c).arrAt_eq_of_covers 15 _ (by decide +kernel) fun t _ y => ?_
  blk_simp
  rw [after0_15]
  have hy : y = (ix3 0 (y 1) (y 2) : S1x512x512.Idx) := by
    refine (eq_ix3 y).trans ?_
    idx_ext
  have he : ((View.whole main_v53_2).slice (win0_15.rect t)).emb y = (ix3 (batch t) (place t (y 1)) (y 2) : S8x8192x512.Idx) := by
    blk_ext [idx t, batch, place]
  exact (congrArg _ hy).trans ((dq_stored m c t (y 1) (y 2)).trans (congrArg _ he).symm)

@[inherit_doc gla_final]
theorem dkv_final (c : Dev nD) : (dats m 0 c).arrAt 16 (cfgs 0).N = dkv (a0 m c) (a1 m c) (a4 m c) (a5 m c) := by
  refine (dats m 0 c).arrAt_eq_of_covers 16 _ (by decide +kernel) fun t _ y => ?_
  blk_simp
  rw [after0_16]
  have hy : y = (ix3 0 (y 1) (y 2) : S1x512x128.Idx) := by
    refine (eq_ix3 y).trans ?_
    idx_ext
  have he : ((View.whole main_v53_3).slice (win0_16.rect t)).emb y = (ix3 (batch t) (place t (y 1)) (y 2) : S8x8192x128.Idx) := by
    blk_ext [idx t, batch, place]
  exact (congrArg _ hy).trans ((dkv_stored m c t (y 1) (y 2)).trans (congrArg _ he).symm)

@[inherit_doc gla_final]
theorem dkvt_final (c : Dev nD) : (dats m 0 c).arrAt 17 (cfgs 0).N = dkvt (a0 m c) (a1 m c) (a4 m c) (a5 m c) := by
  refine (dats m 0 c).arrAt_eq_of_covers 17 _ (by decide +kernel) fun t _ y => ?_
  blk_simp
  rw [after0_17]
  have hy : y = (ix4 0 0 (y 2) (y 3) : S1x1x128x512.Idx) := by
    refine (eq_ix4 y).trans ?_
    idx_ext
  have he : ((View.whole main_v53_4).slice (win0_17.rect t)).emb y = (ix4 (batch t) (tile t) (y 2) (y 3) : S8x16x128x512.Idx) := by
    blk_ext [idx t, batch, tile]
  exact (congrArg _ hy).trans ((dkvt_stored m c t (y 3) (y 2)).trans (congrArg _ he).symm)

@[inherit_doc gla_final]
theorem iq_final (c : Dev nD) : (dats m 0 c).arrAt 18 (cfgs 0).N = iq (a0 m c) (a1 m c) (a6 m c) (a7 m c) := by
  refine (dats m 0 c).arrAt_eq_of_covers 18 _ (by decide +kernel) fun t _ y => ?_
  blk_simp
  rw [after0_18]
  have hy : y = (ix3 0 (y 1) (y 2) : S1x512x256.Idx) := by
    refine (eq_ix3 y).trans ?_
    idx_ext
  have he : ((View.whole main_v53_5).slice (win0_18.rect t)).emb y = (ix3 (batch t) (place t (y 1)) (y 2) : S8x8192x256.Idx) := by
    blk_ext [idx t, batch, place]
  exact (congrArg _ hy).trans ((iq_stored m c t (y 1) (y 2)).trans (congrArg _ he).symm)

@[inherit_doc gla_final]
theorem ik_final (c : Dev nD) : (dats m 0 c).arrAt 19 (cfgs 0).N = ik (a0 m c) (a1 m c) (a6 m c) (a7 m c) := by
  refine (dats m 0 c).arrAt_eq_of_covers 19 _ (by decide +kernel) fun t _ y => ?_
  blk_simp
  rw [after0_19]
  have hy : y = (ix3 0 (y 1) (y 2) : S1x512x128.Idx) := by
    refine (eq_ix3 y).trans ?_
    idx_ext
  have he : ((View.whole main_v53_6).slice (win0_19.rect t)).emb y = (ix3 (batch t) (place t (y 1)) (y 2) : S8x8192x128.Idx) := by
    blk_ext [idx t, batch, place]
  exact (congrArg _ hy).trans ((ik_stored m c t (y 1) (y 2)).trans (congrArg _ he).symm)

@[inherit_doc gla_final]
theorem iw_final (c : Dev nD) : (dats m 0 c).arrAt 20 (cfgs 0).N = iw (a0 m c) (a1 m c) := by
  refine (dats m 0 c).arrAt_eq_of_covers 20 _ (by decide +kernel) fun t _ y => ?_
  blk_simp
  rw [after0_20]
  have hy : y = (ix3 0 (y 1) (y 2) : S1x512x128.Idx) := by
    refine (eq_ix3 y).trans ?_
    idx_ext
  have he : ((View.whole main_v53_7).slice (win0_20.rect t)).emb y = (ix3 (batch t) (place t (y 1)) (y 2) : S8x8192x128.Idx) := by
    blk_ext [idx t, batch, place]
  exact (congrArg _ hy).trans ((iw_stored m c t (y 1) (y 2)).trans (congrArg _ he).symm)

end Cert.ProjIdeal.Pure

end
-- ==== Proof.ProjClaim.lean ====
module

public import proofs.«01_k».proof.Defs
public import proofs.«01_k».proof.Proof.Gen.Proj.Frame
public import proofs.«01_k».proof.Proof.ProjValue

/-! The claims on the input projection: the two frames are the generated ones, and the equality of the eight results is
`ProjValue`'s reading of both. -/

@[expose] public section

noncomputable section

namespace Cert.Proof

open Idealize.ShloMosaic Idealize.SL.Sem

theorem proj_frame : Cert.quiescent_Proj := fun m g _ => Cert.Proj.Gen.frame m g

theorem proj_ideal_frame : Cert.quiescent_ProjIdeal := fun m g _ => Cert.ProjIdeal.Gen.frame m g

theorem proj_reference_frame : Cert.quiescent_ProjRefIdeal := fun m g _ =>
  (θ_run Cert.ProjRefIdeal.defs _ _).mono (fun r h => ⟨fun c => (h c).2.2.2.2.2.2.2.2, sem_eq_zero_of_no_sems (by decide) r.2⟩)
    (Cert.ProjRefIdeal.Value.run m g)

set_option maxHeartbeats 4000000 in
open Cert.ProjIdeal.Pure (a0 a1 a2 a3 a4 a5 a6 a7) in
open Cert.ProjRefIdeal.Pure in
theorem proj_value : Cert.algebraic_ProjIdeal_ProjRefIdeal := by
  intro m g m' g' _ hagree
  refine ⟨fun c => gla (a0 m c) (a1 m c),
    fun c => gate (logits (a0 m c) (a1 m c) (a2 m c) (a3 m c)),
    fun c => dq (a0 m c) (a1 m c) (a4 m c) (a5 m c),
    fun c => dkv (a0 m c) (a1 m c) (a4 m c) (a5 m c),
    fun c => dkvt (a0 m c) (a1 m c) (a4 m c) (a5 m c),
    fun c => iq (a0 m c) (a1 m c) (a6 m c) (a7 m c),
    fun c => ik (a0 m c) (a1 m c) (a6 m c) (a7 m c),
    fun c => iw (a0 m c) (a1 m c), ?_, ?_⟩
  · refine (θ_run Cert.ProjIdeal.defs _ _).mono (fun r h c => ?_) (θ_run_and (Cert.ProjIdeal.Gen.run_main m g) (Cert.ProjIdeal.Gen.unchanged m g))
    exact ⟨((h.1 c).1 13).trans (Cert.ProjIdeal.Pure.gla_final m c),
      ((h.1 c).1 14).trans (Cert.ProjIdeal.Pure.gate_final m c),
      ((h.1 c).1 15).trans (Cert.ProjIdeal.Pure.dq_final m c),
      ((h.1 c).1 16).trans (Cert.ProjIdeal.Pure.dkv_final m c),
      ((h.1 c).1 17).trans (Cert.ProjIdeal.Pure.dkvt_final m c),
      ((h.1 c).1 18).trans (Cert.ProjIdeal.Pure.iq_final m c),
      ((h.1 c).1 19).trans (Cert.ProjIdeal.Pure.ik_final m c),
      ((h.1 c).1 20).trans (Cert.ProjIdeal.Pure.iw_final m c),
      h.2 c⟩
  · refine (θ_run Cert.ProjRefIdeal.defs _ _).mono (fun r h c => ?_) (Cert.ProjRefIdeal.Value.run m' g')
    have h := h c
    have k := h.2.2.2.2.2.2.2.2
    obtain ⟨e0, e1, e2, e3, e4, e5, e6, e7⟩ := hagree c
    rw [e0, e1, e2, e3, e4, e5, e6, e7] at h
    refine ⟨h.1.trans ?_, h.2.1.trans ?_, h.2.2.1.trans ?_, h.2.2.2.1.trans ?_, h.2.2.2.2.1.trans ?_, h.2.2.2.2.2.1.trans ?_, h.2.2.2.2.2.2.1.trans ?_, h.2.2.2.2.2.2.2.1.trans ?_, ?_⟩
    · unfold gla hid
      rfl
    · unfold gate logits hid
      rfl
    · unfold dq turn8 spread8 hid
      rfl
    · unfold dkv kv turn1 spread1 hid
      rfl
    · unfold dkvt kv turn1 spread1 hid
      rfl
    · unfold iq iturn8 ispread8 hid
      rfl
    · unfold ik iturn1 ispread1 hid
      rfl
    · unfold iw hid
      rfl
    · exact k

end Cert.Proof

end
-- ==== Proof.lean ====
module

public import proofs.«01_k».proof.Defs
public import proofs.«01_k».proof.Proof.DsaFrame
public import proofs.«01_k».proof.Proof.MergeClaim
public import proofs.«01_k».proof.Proof.FfnClaim
public import proofs.«01_k».proof.Proof.ProjClaim

@[expose] public section

noncomputable section

namespace Cert.Proof

open Idealize.ShloMosaic Idealize.SL.Sem

theorem attention_frame : Cert.quiescent_Kernel := fun m g _ => Cert.Kernel.Kept.frame m g

theorem claim : Cert.Claim := ⟨Cert.Kernel.Gen.facts, Cert.Merge.Gen.facts, Cert.MergeIdeal.Gen.facts, Cert.MergeRefIdeal.Gen.facts,
  Cert.Ffn.Gen.facts, Cert.FfnIdeal.Gen.facts, Cert.FfnRefIdeal.Gen.facts,
  Cert.Proj.Gen.facts, Cert.ProjIdeal.Gen.facts, Cert.ProjRefIdeal.Gen.facts, attention_frame, merge_frame, merge_ideal_frame, merge_reference_frame,
  ffn_frame, ffn_ideal_frame, ffn_reference_frame, proj_frame, proj_ideal_frame, proj_reference_frame,
  trivial, merge_value, trivial, ffn_value, trivial, proj_value⟩

end Cert.Proof

end
